-- ==== Defs.lean ====
def Pre_Kernel [hPre_groups_cover_rows : Cert.Pre_groups_cover_rows.Facts] (m : (ℓ : Loc Cert.Kernel.nD Cert.Kernel.τ Cert.Kernel.sig) → Buf (Elt Bits) ℓ) : Prop :=
  ∀ c : Dev Cert.Kernel.nD,
    (Cert.Pre_groups_cover_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_cover_rows : Cert.Pre_groups_cover_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_cover_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_cover_rows [hPre_groups_cover_rows : Cert.Pre_groups_cover_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_cover_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups_cover_rows : Cert.Pre_groups_cover_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_cover_rows : Cert.Pre_groups_cover_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_cover_rows [hReferenceIdeal : Cert.ReferenceIdeal.Facts] [hPre_groups_cover_rows : Cert.Pre_groups_cover_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_cover_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_cover_rows : Cert.Pre_groups_cover_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_cover_rows : Cert.Pre_groups_cover_rows.Facts),
    quiescent_Kernel (hKernel := hKernel) (hPre_groups_cover_rows := hPre_groups_cover_rows)
    ∧ quiescent_KernelIdeal (hKernelIdeal := hKernelIdeal) (hPre_groups_cover_rows := hPre_groups_cover_rows)
    ∧ quiescent_ReferenceIdeal (hReferenceIdeal := hReferenceIdeal)
    ∧ quiescent_ReferenceIdeal_pre_groups_cover_rows (hReferenceIdeal := hReferenceIdeal) (hPre_groups_cover_rows := hPre_groups_cover_rows)
    ∧ preserves_Kernel_KernelIdeal
    ∧ algebraic_KernelIdeal_ReferenceIdeal (hKernelIdeal := hKernelIdeal) (hReferenceIdeal := hReferenceIdeal) (hPre_groups_cover_rows := hPre_groups_cover_rows)
-- ==== Pre_groups_cover_rows.lean ====
abbrev S65536x6144 : Shape := ⟨2, ![65536, 6144]⟩
abbrev S32 : Shape := ⟨1, ![32]⟩
abbrev S32x6144x768 : Shape := ⟨3, ![32, 6144, 768]⟩
abbrev S32x48x1536 : Shape := ⟨3, ![32, 48, 1536]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S65536x6144 .bf16) (main_arg1 : IVec S32 32) (main_arg2 : FVec F S32 .f32) (main_arg3 : IVec S32x6144x768 8) (main_arg4 : FVec F S32x48x1536 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 65536#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg1 main_c_2
  let main_c_3 : IVec S_ 32 := constantI S_ 32 65536#32
  let main_v7 : IVec S_ 1 := cmpi .eq main_v6 main_c_3
  let main_v8 : IVec S_ 1 := andi main_v5 main_v7
  main_v8
-- ==== Kernel.lean ====
abbrev S65536x6144 : Shape := ⟨2, ![65536, 6144]⟩
abbrev S32 : Shape := ⟨1, ![32]⟩
abbrev S32x6144x768 : Shape := ⟨3, ![32, 6144, 768]⟩
abbrev S32x48x1536 : Shape := ⟨3, ![32, 48, 1536]⟩
abbrev S_ : Shape := ⟨0, ![]⟩
abbrev S288 : Shape := ⟨1, ![288]⟩
abbrev S1 : Shape := ⟨1, ![1]⟩
abbrev S1x32 : Shape := ⟨2, ![1, 32]⟩
abbrev S288x1 : Shape := ⟨2, ![288, 1]⟩
abbrev S288x32 : Shape := ⟨2, ![288, 32]⟩
abbrev S65536x1536 : Shape := ⟨2, ![65536, 1536]⟩
abbrev S256x6144 : Shape := ⟨2, ![256, 6144]⟩
abbrev S1x6144x768 : Shape := ⟨3, ![1, 6144, 768]⟩
abbrev S1x48x1536 : Shape := ⟨3, ![1, 48, 1536]⟩
abbrev S256x1536 : Shape := ⟨2, ![256, 1536]⟩
abbrev S6144x1536 : Shape := ⟨2, ![6144, 1536]⟩
abbrev S32x128 : Shape := ⟨2, ![32, 128]⟩
abbrev S1x8x128 : Shape := ⟨3, ![1, 8, 128]⟩
abbrev S8x128 : Shape := ⟨2, ![8, 128]⟩
abbrev S1x128x128 : Shape := ⟨3, ![1, 128, 128]⟩
abbrev S128x128 : Shape := ⟨2, ![128, 128]⟩
abbrev S32x128x1 : Shape := ⟨3, ![32, 128, 1]⟩
abbrev S1x128 : Shape := ⟨2, ![1, 128]⟩

abbrev nBuf : Space → Nat
  | .hbm => 125
  | .vmem => 9
  | .smem => 7
  | _ => 0

abbrev bufTy : (tb : Table) → Fin (tcTables nBuf tb) → BufTy
  | .hbm, ⟨0, _⟩ => ⟨S65536x6144, .bf16⟩
  | .hbm, ⟨1, _⟩ => ⟨S32, .i32⟩
  | .hbm, ⟨2, _⟩ => ⟨S32, .f32⟩
  | .hbm, ⟨3, _⟩ => ⟨S32x6144x768, .i8⟩
  | .hbm, ⟨4, _⟩ => ⟨S32x48x1536, .f32⟩
  | .hbm, ⟨5, _⟩ => ⟨S_, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i1⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i1⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i1⟩
  | .hbm, ⟨41, _⟩ => ⟨S32, .i32⟩
  | .hbm, ⟨42, _⟩ => ⟨S32, .i32⟩
  | .hbm, ⟨43, _⟩ => ⟨S_, .i32⟩
  | .hbm, ⟨44, _⟩ => ⟨S32, .i32⟩
  | .hbm, ⟨45, _⟩ => ⟨S32, .i1⟩
  | .hbm, ⟨46, _⟩ => ⟨S32, .i1⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S32, .i32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S32, .i32⟩
  | .hbm, ⟨55, _⟩ => ⟨S32, .i32⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S_, .i32⟩
  | .hbm, ⟨60, _⟩ => ⟨S_, .i32⟩
  | .hbm, ⟨61, _⟩ => ⟨S32, .i32⟩
  | .hbm, ⟨62, _⟩ => ⟨S288, .i32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S288, .i32⟩
  | .hbm, ⟨68, _⟩ => ⟨S288, .i32⟩
  | .hbm, ⟨69, _⟩ => ⟨S1x32, .i32⟩
  | .hbm, ⟨70, _⟩ => ⟨S288x1, .i32⟩
  | .hbm, ⟨71, _⟩ => ⟨S288x32, .i32⟩
  | .hbm, ⟨72, _⟩ => ⟨S288x32, .i32⟩
  | .hbm, ⟨73, _⟩ => ⟨S288x32, .i1⟩
  | .hbm, ⟨74, _⟩ => ⟨S288x32, .i32⟩
  | .hbm, ⟨75, _⟩ => ⟨S_, .i32⟩
  | .hbm, ⟨76, _⟩ => ⟨S32, .i32⟩
  | .hbm, ⟨77, _⟩ => ⟨S_, .i32⟩
  | .hbm, ⟨78, _⟩ => ⟨S288, .i32⟩
  | .hbm, ⟨79, _⟩ => ⟨S288, .i1⟩
  | .hbm, ⟨80, _⟩ => ⟨S_, .i32⟩
  | .hbm, ⟨81, _⟩ => ⟨S288, .i32⟩
  | .hbm, ⟨82, _⟩ => ⟨S288, .i32⟩
  | .hbm, ⟨83, _⟩ => ⟨S288, .i32⟩
  | .hbm, ⟨84, _⟩ => ⟨S288x1, .i32⟩
  | .hbm, ⟨85, _⟩ => ⟨S288, .i32⟩
  | .hbm, ⟨86, _⟩ => ⟨S288, .i32⟩
  | .hbm, ⟨87, _⟩ => ⟨S_, .i32⟩
  | .hbm, ⟨88, _⟩ => ⟨S288, .i32⟩
  | .hbm, ⟨89, _⟩ => ⟨S288, .i1⟩
  | .hbm, ⟨90, _⟩ => ⟨S_, .i32⟩
  | .hbm, ⟨91, _⟩ => ⟨S288, .i32⟩
  | .hbm, ⟨92, _⟩ => ⟨S288, .i32⟩
  | .hbm, ⟨93, _⟩ => ⟨S288, .i32⟩
  | .hbm, ⟨94, _⟩ => ⟨S288x1, .i32⟩
  | .hbm, ⟨95, _⟩ => ⟨S288, .i32⟩
  | .hbm, ⟨96, _⟩ => ⟨S_, .i32⟩
  | .hbm, ⟨97, _⟩ => ⟨S288, .i32⟩
  | .hbm, ⟨98, _⟩ => ⟨S288, .i1⟩
  | .hbm, ⟨99, _⟩ => ⟨S288, .i32⟩
  | .hbm, ⟨100, _⟩ => ⟨S288, .i1⟩
  | .hbm, ⟨101, _⟩ => ⟨S288, .i1⟩
  | .hbm, ⟨102, _⟩ => ⟨S_, .i32⟩
  | .hbm, ⟨103, _⟩ => ⟨S_, .i32⟩
  | .hbm, ⟨104, _⟩ => ⟨S288, .i32⟩
  | .hbm, ⟨105, _⟩ => ⟨S288, .i32⟩
  | .hbm, ⟨106, _⟩ => ⟨S288, .i32⟩
  | .hbm, ⟨107, _⟩ => ⟨S288, .i1⟩
  | .hbm, ⟨108, _⟩ => ⟨S_, .i32⟩
  | .hbm, ⟨109, _⟩ => ⟨S288, .i32⟩
  | .hbm, ⟨110, _⟩ => ⟨S288, .i1⟩
  | .hbm, ⟨111, _⟩ => ⟨S_, .i32⟩
  | .hbm, ⟨112, _⟩ => ⟨S288, .i32⟩
  | .hbm, ⟨113, _⟩ => ⟨S288, .i32⟩
  | .hbm, ⟨114, _⟩ => ⟨S288, .i32⟩
  | .hbm, ⟨115, _⟩ => ⟨S288x1, .i32⟩
  | .hbm, ⟨116, _⟩ => ⟨S_, .i32⟩
  | .hbm, ⟨117, _⟩ => ⟨S288, .i32⟩
  | .hbm, ⟨118, _⟩ => ⟨S288, .i1⟩
  | .hbm, ⟨119, _⟩ => ⟨S_, .i32⟩
  | .hbm, ⟨120, _⟩ => ⟨S288, .i32⟩
  | .hbm, ⟨121, _⟩ => ⟨S288, .i32⟩
  | .hbm, ⟨122, _⟩ => ⟨S288, .i32⟩
  | .hbm, ⟨123, _⟩ => ⟨S288x1, .i32⟩
  | .hbm, ⟨124, _⟩ => ⟨S65536x1536, .bf16⟩
  | .local _ .vmem, ⟨0, _⟩ => ⟨S256x6144, .bf16⟩
  | .local _ .vmem, ⟨1, _⟩ => ⟨S256x6144, .bf16⟩
  | .local _ .vmem, ⟨2, _⟩ => ⟨S1x6144x768, .i8⟩
  | .local _ .vmem, ⟨3, _⟩ => ⟨S1x6144x768, .i8⟩
  | .local _ .vmem, ⟨4, _⟩ => ⟨S1x48x1536, .f32⟩
  | .local _ .vmem, ⟨5, _⟩ => ⟨S1x48x1536, .f32⟩
  | .local _ .vmem, ⟨6, _⟩ => ⟨S256x1536, .bf16⟩
  | .local _ .vmem, ⟨7, _⟩ => ⟨S256x1536, .bf16⟩
  | .local _ .vmem, ⟨8, _⟩ => ⟨S6144x1536, .bf16⟩
  | .local _ .smem, ⟨0, _⟩ => ⟨S288, .i32⟩
  | .local _ .smem, ⟨1, _⟩ => ⟨S288, .i32⟩
  | .local _ .smem, ⟨2, _⟩ => ⟨S288, .i32⟩
  | .local _ .smem, ⟨3, _⟩ => ⟨S288, .i32⟩
  | .local _ .smem, ⟨4, _⟩ => ⟨S288, .i32⟩
  | .local _ .smem, ⟨5, _⟩ => ⟨S288, .i32⟩
  | .local _ .smem, ⟨6, _⟩ => ⟨S32, .f32⟩
  | _, _ => ⟨S65536x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v7 : Ref sig .tc := ⟨.hbm, 50, rfl⟩
abbrev main_c_3 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_v12 : Ref sig .tc := ⟨.hbm, 57, rfl⟩
abbrev main_v13 : Ref sig .tc := ⟨.hbm, 58, rfl⟩
abbrev main_call4_call0_c : Ref sig .tc := ⟨.hbm, 59, rfl⟩
abbrev main_call4_call0_v0 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_c_5 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_c_6 : Ref sig .tc := ⟨.hbm, 75, rfl⟩
abbrev main_v28 : Ref sig .tc := ⟨.hbm, 76, rfl⟩
abbrev main_c_7 : Ref sig .tc := ⟨.hbm, 77, rfl⟩
abbrev main_v29 : Ref sig .tc := ⟨.hbm, 78, rfl⟩
abbrev main_v30 : Ref sig .tc := ⟨.hbm, 79, rfl⟩
abbrev main_c_8 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_9 : Ref sig .tc := ⟨.hbm, 87, rfl⟩
abbrev main_v37 : Ref sig .tc := ⟨.hbm, 88, rfl⟩
abbrev main_v38 : Ref sig .tc := ⟨.hbm, 89, rfl⟩
abbrev main_c_10 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_c_11 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_c_12 : Ref sig .tc := ⟨.hbm, 102, rfl⟩
abbrev main_c_13 : Ref sig .tc := ⟨.hbm, 103, rfl⟩
abbrev main_call5_v0 : Ref sig .tc := ⟨.hbm, 104, rfl⟩
abbrev main_call5_v1 : Ref sig .tc := ⟨.hbm, 105, rfl⟩
abbrev main_v51 : Ref sig .tc := ⟨.hbm, 106, rfl⟩
abbrev main_v52 : Ref sig .tc := ⟨.hbm, 107, rfl⟩
abbrev main_c_14 : Ref sig .tc := ⟨.hbm, 108, rfl⟩
abbrev main_v54 : Ref sig .tc := ⟨.hbm, 109, rfl⟩
abbrev main_v55 : Ref sig .tc := ⟨.hbm, 110, rfl⟩
abbrev main_c_15 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_c_16 : Ref sig .tc := ⟨.hbm, 116, rfl⟩
abbrev main_v61 : Ref sig .tc := ⟨.hbm, 117, rfl⟩
abbrev main_v62 : Ref sig .tc := ⟨.hbm, 118, rfl⟩
abbrev main_c_17 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v68 : Ref sig .tc := ⟨.hbm, 124, rfl⟩
abbrev main_v44 : Ref sig .tc := ⟨.smem, 0, rfl⟩
abbrev main_v27 : Ref sig .tc := ⟨.smem, 1, rfl⟩
abbrev main_v50 : Ref sig .tc := ⟨.smem, 2, rfl⟩
abbrev main_v53 : Ref sig .tc := ⟨.smem, 3, rfl⟩
abbrev main_v60 : Ref sig .tc := ⟨.smem, 4, rfl⟩
abbrev main_v67 : Ref sig .tc := ⟨.smem, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![288], ![false]⟩

abbrev pre0 : Pipeline.Prefetch sig := ⟨6, ![main_v44.idx, main_v27.idx, main_v50.idx, main_v53.idx, main_v60.idx, main_v67.idx], fun | 0 => main_v44.names | 1 => main_v27.names | 2 => main_v50.names | 3 => main_v53.names | 4 => main_v60.names | 5 => main_v67.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_9 : BitVec 32 := 0#32
  let c6_i32 : BitVec 32 := 6#32
  let v32 : BitVec 32 := Scalar.addi c0_i32_9 c6_i32
  let c1_i32_10 : BitVec 32 := 1#32
  ⟨c0_i32_9, v32, c1_i32_10⟩
def k0_mult1 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32 : BitVec 32 := 8#32
  let v59 : BitVec 32 := Scalar.muli arg13 c8_i32
  v59
def k0_off2 (k0_t1 : Fin k0_t1_loop.trips) : Fin 3 → Nat :=
  let c0 : Index := 0#32
  let c0_i32_9 : BitVec 32 := 0#32
  let c1_i32_10 : BitVec 32 := 1#32
  let arg13 : BitVec 32 := Scf.iv c0_i32_9 c1_i32_10 k0_t1
  let c8_i32 : BitVec 32 := 8#32
  let v59 : BitVec 32 := Scalar.muli arg13 c8_i32
  let v60 : BitVec 32 := v59
  let v61 : Index := Scalar.indexCast v60
  let c0_20 : Index := 0#32
  ![0, v61.toNat, 0]
def k0_mult2 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_21 : BitVec 32 := 8#32
  let v65 : BitVec 32 := Scalar.muli arg13 c8_i32_21
  let c0_i32_22 : BitVec 32 := 0#32
  let v66 : BitVec 32 := Scalar.addi v65 c0_i32_22
  let c128_i32 : BitVec 32 := 128#32
  let v67 : BitVec 32 := Scalar.muli v66 c128_i32
  v67
def k0_off3 (k0_t1 : Fin k0_t1_loop.trips) (c0_i32_22 : BitVec 32) : Fin 3 → Nat :=
  let c0_23 : Index := 0#32
  let c0_i32_9 : BitVec 32 := 0#32
  let c1_i32_10 : BitVec 32 := 1#32
  let arg13 : BitVec 32 := Scf.iv c0_i32_9 c1_i32_10 k0_t1
  let c8_i32_21 : BitVec 32 := 8#32
  let v65 : BitVec 32 := Scalar.muli arg13 c8_i32_21
  let v66 : BitVec 32 := Scalar.addi v65 c0_i32_22
  let c128_i32 : BitVec 32 := 128#32
  let v67 : BitVec 32 := Scalar.muli v66 c128_i32
  let v68 : BitVec 32 := v67
  let v69 : Index := Scalar.indexCast v68
  let c0_24 : Index := 0#32
  ![0, v69.toNat, 0]
def k0_off4 (k0_t1 : Fin k0_t1_loop.trips) (c0_i32_22 : BitVec 32) : Fin 2 → Nat :=
  let c0_i32_9 : BitVec 32 := 0#32
  let c1_i32_10 : BitVec 32 := 1#32
  let arg13 : BitVec 32 := Scf.iv c0_i32_9 c1_i32_10 k0_t1
  let c8_i32_21 : BitVec 32 := 8#32
  let v65 : BitVec 32 := Scalar.muli arg13 c8_i32_21
  let v66 : BitVec 32 := Scalar.addi v65 c0_i32_22
  let c128_i32 : BitVec 32 := 128#32
  let v67 : BitVec 32 := Scalar.muli v66 c128_i32
  let v68 : BitVec 32 := v67
  let v91 : Index := Scalar.indexCast v68
  let c0_27 : Index := 0#32
  ![v91.toNat, 0]
def k0_mult3 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_28 : BitVec 32 := 8#32
  let v95 : BitVec 32 := Scalar.muli arg13 c8_i32_28
  let c1_i32_29 : BitVec 32 := 1#32
  let v96 : BitVec 32 := Scalar.addi v95 c1_i32_29
  let c128_i32_30 : BitVec 32 := 128#32
  let v97 : BitVec 32 := Scalar.muli v96 c128_i32_30
  v97
def k0_mult4 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_38 : BitVec 32 := 8#32
  let v125 : BitVec 32 := Scalar.muli arg13 c8_i32_38
  let c2_i32_39 : BitVec 32 := 2#32
  let v126 : BitVec 32 := Scalar.addi v125 c2_i32_39
  let c128_i32_40 : BitVec 32 := 128#32
  let v127 : BitVec 32 := Scalar.muli v126 c128_i32_40
  v127
def k0_mult5 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_48 : BitVec 32 := 8#32
  let v155 : BitVec 32 := Scalar.muli arg13 c8_i32_48
  let c3_i32 : BitVec 32 := 3#32
  let v156 : BitVec 32 := Scalar.addi v155 c3_i32
  let c128_i32_49 : BitVec 32 := 128#32
  let v157 : BitVec 32 := Scalar.muli v156 c128_i32_49
  v157
def k0_mult6 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_57 : BitVec 32 := 8#32
  let v185 : BitVec 32 := Scalar.muli arg13 c8_i32_57
  let c4_i32_58 : BitVec 32 := 4#32
  let v186 : BitVec 32 := Scalar.addi v185 c4_i32_58
  let c128_i32_59 : BitVec 32 := 128#32
  let v187 : BitVec 32 := Scalar.muli v186 c128_i32_59
  v187
def k0_mult7 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_67 : BitVec 32 := 8#32
  let v215 : BitVec 32 := Scalar.muli arg13 c8_i32_67
  let c5_i32 : BitVec 32 := 5#32
  let v216 : BitVec 32 := Scalar.addi v215 c5_i32
  let c128_i32_68 : BitVec 32 := 128#32
  let v217 : BitVec 32 := Scalar.muli v216 c128_i32_68
  v217
def k0_mult8 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_76 : BitVec 32 := 8#32
  let v245 : BitVec 32 := Scalar.muli arg13 c8_i32_76
  let c6_i32_77 : BitVec 32 := 6#32
  let v246 : BitVec 32 := Scalar.addi v245 c6_i32_77
  let c128_i32_78 : BitVec 32 := 128#32
  let v247 : BitVec 32 := Scalar.muli v246 c128_i32_78
  v247
def k0_mult9 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_86 : BitVec 32 := 8#32
  let v275 : BitVec 32 := Scalar.muli arg13 c8_i32_86
  let c7_i32 : BitVec 32 := 7#32
  let v276 : BitVec 32 := Scalar.addi v275 c7_i32
  let c128_i32_87 : BitVec 32 := 128#32
  let v277 : BitVec 32 := Scalar.muli v276 c128_i32_87
  v277
def k0_mult10 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_102 : BitVec 32 := 8#32
  let v331 : BitVec 32 := Scalar.muli arg13 c8_i32_102
  v331
def k0_off5 (k0_t1 : Fin k0_t1_loop.trips) : Fin 3 → Nat :=
  let c0_103 : Index := 0#32
  let c0_i32_9 : BitVec 32 := 0#32
  let c1_i32_10 : BitVec 32 := 1#32
  let arg13 : BitVec 32 := Scf.iv c0_i32_9 c1_i32_10 k0_t1
  let c8_i32_102 : BitVec 32 := 8#32
  let v331 : BitVec 32 := Scalar.muli arg13 c8_i32_102
  let v332 : BitVec 32 := v331
  let v333 : Index := Scalar.indexCast v332
  let c128 : Index := 128#32
  ![0, v333.toNat, 128]
def k0_mult11 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_104 : BitVec 32 := 8#32
  let v337 : BitVec 32 := Scalar.muli arg13 c8_i32_104
  let c0_i32_105 : BitVec 32 := 0#32
  let v338 : BitVec 32 := Scalar.addi v337 c0_i32_105
  let c128_i32_106 : BitVec 32 := 128#32
  let v339 : BitVec 32 := Scalar.muli v338 c128_i32_106
  v339
def k0_off6 (k0_t1 : Fin k0_t1_loop.trips) (c0_i32_105 : BitVec 32) : Fin 2 → Nat :=
  let c0_i32_9 : BitVec 32 := 0#32
  let c1_i32_10 : BitVec 32 := 1#32
  let arg13 : BitVec 32 := Scf.iv c0_i32_9 c1_i32_10 k0_t1
  let c8_i32_104 : BitVec 32 := 8#32
  let v337 : BitVec 32 := Scalar.muli arg13 c8_i32_104
  let v338 : BitVec 32 := Scalar.addi v337 c0_i32_105
  let c128_i32_106 : BitVec 32 := 128#32
  let v339 : BitVec 32 := Scalar.muli v338 c128_i32_106
  let v340 : BitVec 32 := v339
  let v363 : Index := Scalar.indexCast v340
  let c128_113 : Index := 128#32
  ![v363.toNat, 128]
def k0_mult12 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_114 : BitVec 32 := 8#32
  let v367 : BitVec 32 := Scalar.muli arg13 c8_i32_114
  let c1_i32_115 : BitVec 32 := 1#32
  let v368 : BitVec 32 := Scalar.addi v367 c1_i32_115
  let c128_i32_116 : BitVec 32 := 128#32
  let v369 : BitVec 32 := Scalar.muli v368 c128_i32_116
  v369
def k0_mult13 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_124 : BitVec 32 := 8#32
  let v397 : BitVec 32 := Scalar.muli arg13 c8_i32_124
  let c2_i32_125 : BitVec 32 := 2#32
  let v398 : BitVec 32 := Scalar.addi v397 c2_i32_125
  let c128_i32_126 : BitVec 32 := 128#32
  let v399 : BitVec 32 := Scalar.muli v398 c128_i32_126
  v399
def k0_mult14 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_134 : BitVec 32 := 8#32
  let v427 : BitVec 32 := Scalar.muli arg13 c8_i32_134
  let c3_i32_135 : BitVec 32 := 3#32
  let v428 : BitVec 32 := Scalar.addi v427 c3_i32_135
  let c128_i32_136 : BitVec 32 := 128#32
  let v429 : BitVec 32 := Scalar.muli v428 c128_i32_136
  v429
def k0_mult15 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_144 : BitVec 32 := 8#32
  let v457 : BitVec 32 := Scalar.muli arg13 c8_i32_144
  let c4_i32_145 : BitVec 32 := 4#32
  let v458 : BitVec 32 := Scalar.addi v457 c4_i32_145
  let c128_i32_146 : BitVec 32 := 128#32
  let v459 : BitVec 32 := Scalar.muli v458 c128_i32_146
  v459
def k0_mult16 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_154 : BitVec 32 := 8#32
  let v487 : BitVec 32 := Scalar.muli arg13 c8_i32_154
  let c5_i32_155 : BitVec 32 := 5#32
  let v488 : BitVec 32 := Scalar.addi v487 c5_i32_155
  let c128_i32_156 : BitVec 32 := 128#32
  let v489 : BitVec 32 := Scalar.muli v488 c128_i32_156
  v489
def k0_mult17 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_164 : BitVec 32 := 8#32
  let v517 : BitVec 32 := Scalar.muli arg13 c8_i32_164
  let c6_i32_165 : BitVec 32 := 6#32
  let v518 : BitVec 32 := Scalar.addi v517 c6_i32_165
  let c128_i32_166 : BitVec 32 := 128#32
  let v519 : BitVec 32 := Scalar.muli v518 c128_i32_166
  v519
def k0_mult18 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_174 : BitVec 32 := 8#32
  let v547 : BitVec 32 := Scalar.muli arg13 c8_i32_174
  let c7_i32_175 : BitVec 32 := 7#32
  let v548 : BitVec 32 := Scalar.addi v547 c7_i32_175
  let c128_i32_176 : BitVec 32 := 128#32
  let v549 : BitVec 32 := Scalar.muli v548 c128_i32_176
  v549
def k0_mult19 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_192 : BitVec 32 := 8#32
  let v603 : BitVec 32 := Scalar.muli arg13 c8_i32_192
  v603
def k0_off7 (k0_t1 : Fin k0_t1_loop.trips) : Fin 3 → Nat :=
  let c0_193 : Index := 0#32
  let c0_i32_9 : BitVec 32 := 0#32
  let c1_i32_10 : BitVec 32 := 1#32
  let arg13 : BitVec 32 := Scf.iv c0_i32_9 c1_i32_10 k0_t1
  let c8_i32_192 : BitVec 32 := 8#32
  let v603 : BitVec 32 := Scalar.muli arg13 c8_i32_192
  let v604 : BitVec 32 := v603
  let v605 : Index := Scalar.indexCast v604
  let c256 : Index := 256#32
  ![0, v605.toNat, 256]
def k0_mult20 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_194 : BitVec 32 := 8#32
  let v609 : BitVec 32 := Scalar.muli arg13 c8_i32_194
  let c0_i32_195 : BitVec 32 := 0#32
  let v610 : BitVec 32 := Scalar.addi v609 c0_i32_195
  let c128_i32_196 : BitVec 32 := 128#32
  let v611 : BitVec 32 := Scalar.muli v610 c128_i32_196
  v611
def k0_off8 (k0_t1 : Fin k0_t1_loop.trips) (c0_i32_195 : BitVec 32) : Fin 3 → Nat :=
  let c0_197 : Index := 0#32
  let c0_i32_9 : BitVec 32 := 0#32
  let c1_i32_10 : BitVec 32 := 1#32
  let arg13 : BitVec 32 := Scf.iv c0_i32_9 c1_i32_10 k0_t1
  let c8_i32_194 : BitVec 32 := 8#32
  let v609 : BitVec 32 := Scalar.muli arg13 c8_i32_194
  let v610 : BitVec 32 := Scalar.addi v609 c0_i32_195
  let c128_i32_196 : BitVec 32 := 128#32
  let v611 : BitVec 32 := Scalar.muli v610 c128_i32_196
  let v612 : BitVec 32 := v611
  let v613 : Index := Scalar.indexCast v612
  let c128_198 : Index := 128#32
  ![0, v613.toNat, 128]
def k0_off9 (k0_t1 : Fin k0_t1_loop.trips) (c0_i32_195 : BitVec 32) : Fin 2 → Nat :=
  let c0_i32_9 : BitVec 32 := 0#32
  let c1_i32_10 : BitVec 32 := 1#32
  let arg13 : BitVec 32 := Scf.iv c0_i32_9 c1_i32_10 k0_t1
  let c8_i32_194 : BitVec 32 := 8#32
  let v609 : BitVec 32 := Scalar.muli arg13 c8_i32_194
  let v610 : BitVec 32 := Scalar.addi v609 c0_i32_195
  let c128_i32_196 : BitVec 32 := 128#32
  let v611 : BitVec 32 := Scalar.muli v610 c128_i32_196
  let v612 : BitVec 32 := v611
  let v635 : Index := Scalar.indexCast v612
  let c256_203 : Index := 256#32
  ![v635.toNat, 256]
def k0_mult21 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_204 : BitVec 32 := 8#32
  let v639 : BitVec 32 := Scalar.muli arg13 c8_i32_204
  let c1_i32_205 : BitVec 32 := 1#32
  let v640 : BitVec 32 := Scalar.addi v639 c1_i32_205
  let c128_i32_206 : BitVec 32 := 128#32
  let v641 : BitVec 32 := Scalar.muli v640 c128_i32_206
  v641
def k0_mult22 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_214 : BitVec 32 := 8#32
  let v669 : BitVec 32 := Scalar.muli arg13 c8_i32_214
  let c2_i32_215 : BitVec 32 := 2#32
  let v670 : BitVec 32 := Scalar.addi v669 c2_i32_215
  let c128_i32_216 : BitVec 32 := 128#32
  let v671 : BitVec 32 := Scalar.muli v670 c128_i32_216
  v671
def k0_mult23 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_224 : BitVec 32 := 8#32
  let v699 : BitVec 32 := Scalar.muli arg13 c8_i32_224
  let c3_i32_225 : BitVec 32 := 3#32
  let v700 : BitVec 32 := Scalar.addi v699 c3_i32_225
  let c128_i32_226 : BitVec 32 := 128#32
  let v701 : BitVec 32 := Scalar.muli v700 c128_i32_226
  v701
def k0_mult24 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_234 : BitVec 32 := 8#32
  let v729 : BitVec 32 := Scalar.muli arg13 c8_i32_234
  let c4_i32_235 : BitVec 32 := 4#32
  let v730 : BitVec 32 := Scalar.addi v729 c4_i32_235
  let c128_i32_236 : BitVec 32 := 128#32
  let v731 : BitVec 32 := Scalar.muli v730 c128_i32_236
  v731
def k0_mult25 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_244 : BitVec 32 := 8#32
  let v759 : BitVec 32 := Scalar.muli arg13 c8_i32_244
  let c5_i32_245 : BitVec 32 := 5#32
  let v760 : BitVec 32 := Scalar.addi v759 c5_i32_245
  let c128_i32_246 : BitVec 32 := 128#32
  let v761 : BitVec 32 := Scalar.muli v760 c128_i32_246
  v761
def k0_mult26 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_254 : BitVec 32 := 8#32
  let v789 : BitVec 32 := Scalar.muli arg13 c8_i32_254
  let c6_i32_255 : BitVec 32 := 6#32
  let v790 : BitVec 32 := Scalar.addi v789 c6_i32_255
  let c128_i32_256 : BitVec 32 := 128#32
  let v791 : BitVec 32 := Scalar.muli v790 c128_i32_256
  v791
def k0_mult27 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_264 : BitVec 32 := 8#32
  let v819 : BitVec 32 := Scalar.muli arg13 c8_i32_264
  let c7_i32_265 : BitVec 32 := 7#32
  let v820 : BitVec 32 := Scalar.addi v819 c7_i32_265
  let c128_i32_266 : BitVec 32 := 128#32
  let v821 : BitVec 32 := Scalar.muli v820 c128_i32_266
  v821
def k0_mult28 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_282 : BitVec 32 := 8#32
  let v875 : BitVec 32 := Scalar.muli arg13 c8_i32_282
  v875
def k0_off10 (k0_t1 : Fin k0_t1_loop.trips) : Fin 3 → Nat :=
  let c0_283 : Index := 0#32
  let c0_i32_9 : BitVec 32 := 0#32
  let c1_i32_10 : BitVec 32 := 1#32
  let arg13 : BitVec 32 := Scf.iv c0_i32_9 c1_i32_10 k0_t1
  let c8_i32_282 : BitVec 32 := 8#32
  let v875 : BitVec 32 := Scalar.muli arg13 c8_i32_282
  let v876 : BitVec 32 := v875
  let v877 : Index := Scalar.indexCast v876
  let c384 : Index := 384#32
  ![0, v877.toNat, 384]
def k0_mult29 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_284 : BitVec 32 := 8#32
  let v881 : BitVec 32 := Scalar.muli arg13 c8_i32_284
  let c0_i32_285 : BitVec 32 := 0#32
  let v882 : BitVec 32 := Scalar.addi v881 c0_i32_285
  let c128_i32_286 : BitVec 32 := 128#32
  let v883 : BitVec 32 := Scalar.muli v882 c128_i32_286
  v883
def k0_off11 (k0_t1 : Fin k0_t1_loop.trips) (c0_i32_285 : BitVec 32) : Fin 2 → Nat :=
  let c0_i32_9 : BitVec 32 := 0#32
  let c1_i32_10 : BitVec 32 := 1#32
  let arg13 : BitVec 32 := Scf.iv c0_i32_9 c1_i32_10 k0_t1
  let c8_i32_284 : BitVec 32 := 8#32
  let v881 : BitVec 32 := Scalar.muli arg13 c8_i32_284
  let v882 : BitVec 32 := Scalar.addi v881 c0_i32_285
  let c128_i32_286 : BitVec 32 := 128#32
  let v883 : BitVec 32 := Scalar.muli v882 c128_i32_286
  let v884 : BitVec 32 := v883
  let v907 : Index := Scalar.indexCast v884
  let c384_293 : Index := 384#32
  ![v907.toNat, 384]
def k0_mult30 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_294 : BitVec 32 := 8#32
  let v911 : BitVec 32 := Scalar.muli arg13 c8_i32_294
  let c1_i32_295 : BitVec 32 := 1#32
  let v912 : BitVec 32 := Scalar.addi v911 c1_i32_295
  let c128_i32_296 : BitVec 32 := 128#32
  let v913 : BitVec 32 := Scalar.muli v912 c128_i32_296
  v913
def k0_mult31 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_304 : BitVec 32 := 8#32
  let v941 : BitVec 32 := Scalar.muli arg13 c8_i32_304
  let c2_i32_305 : BitVec 32 := 2#32
  let v942 : BitVec 32 := Scalar.addi v941 c2_i32_305
  let c128_i32_306 : BitVec 32 := 128#32
  let v943 : BitVec 32 := Scalar.muli v942 c128_i32_306
  v943
def k0_mult32 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_314 : BitVec 32 := 8#32
  let v971 : BitVec 32 := Scalar.muli arg13 c8_i32_314
  let c3_i32_315 : BitVec 32 := 3#32
  let v972 : BitVec 32 := Scalar.addi v971 c3_i32_315
  let c128_i32_316 : BitVec 32 := 128#32
  let v973 : BitVec 32 := Scalar.muli v972 c128_i32_316
  v973
def k0_mult33 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_324 : BitVec 32 := 8#32
  let v1001 : BitVec 32 := Scalar.muli arg13 c8_i32_324
  let c4_i32_325 : BitVec 32 := 4#32
  let v1002 : BitVec 32 := Scalar.addi v1001 c4_i32_325
  let c128_i32_326 : BitVec 32 := 128#32
  let v1003 : BitVec 32 := Scalar.muli v1002 c128_i32_326
  v1003
def k0_mult34 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_334 : BitVec 32 := 8#32
  let v1031 : BitVec 32 := Scalar.muli arg13 c8_i32_334
  let c5_i32_335 : BitVec 32 := 5#32
  let v1032 : BitVec 32 := Scalar.addi v1031 c5_i32_335
  let c128_i32_336 : BitVec 32 := 128#32
  let v1033 : BitVec 32 := Scalar.muli v1032 c128_i32_336
  v1033
def k0_mult35 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_344 : BitVec 32 := 8#32
  let v1061 : BitVec 32 := Scalar.muli arg13 c8_i32_344
  let c6_i32_345 : BitVec 32 := 6#32
  let v1062 : BitVec 32 := Scalar.addi v1061 c6_i32_345
  let c128_i32_346 : BitVec 32 := 128#32
  let v1063 : BitVec 32 := Scalar.muli v1062 c128_i32_346
  v1063
def k0_mult36 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_354 : BitVec 32 := 8#32
  let v1091 : BitVec 32 := Scalar.muli arg13 c8_i32_354
  let c7_i32_355 : BitVec 32 := 7#32
  let v1092 : BitVec 32 := Scalar.addi v1091 c7_i32_355
  let c128_i32_356 : BitVec 32 := 128#32
  let v1093 : BitVec 32 := Scalar.muli v1092 c128_i32_356
  v1093
def k0_mult37 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_372 : BitVec 32 := 8#32
  let v1147 : BitVec 32 := Scalar.muli arg13 c8_i32_372
  v1147
def k0_off12 (k0_t1 : Fin k0_t1_loop.trips) : Fin 3 → Nat :=
  let c0_373 : Index := 0#32
  let c0_i32_9 : BitVec 32 := 0#32
  let c1_i32_10 : BitVec 32 := 1#32
  let arg13 : BitVec 32 := Scf.iv c0_i32_9 c1_i32_10 k0_t1
  let c8_i32_372 : BitVec 32 := 8#32
  let v1147 : BitVec 32 := Scalar.muli arg13 c8_i32_372
  let v1148 : BitVec 32 := v1147
  let v1149 : Index := Scalar.indexCast v1148
  let c512 : Index := 512#32
  ![0, v1149.toNat, 512]
def k0_mult38 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_374 : BitVec 32 := 8#32
  let v1153 : BitVec 32 := Scalar.muli arg13 c8_i32_374
  let c0_i32_375 : BitVec 32 := 0#32
  let v1154 : BitVec 32 := Scalar.addi v1153 c0_i32_375
  let c128_i32_376 : BitVec 32 := 128#32
  let v1155 : BitVec 32 := Scalar.muli v1154 c128_i32_376
  v1155
def k0_off13 (k0_t1 : Fin k0_t1_loop.trips) (c0_i32_375 : BitVec 32) : Fin 3 → Nat :=
  let c0_377 : Index := 0#32
  let c0_i32_9 : BitVec 32 := 0#32
  let c1_i32_10 : BitVec 32 := 1#32
  let arg13 : BitVec 32 := Scf.iv c0_i32_9 c1_i32_10 k0_t1
  let c8_i32_374 : BitVec 32 := 8#32
  let v1153 : BitVec 32 := Scalar.muli arg13 c8_i32_374
  let v1154 : BitVec 32 := Scalar.addi v1153 c0_i32_375
  let c128_i32_376 : BitVec 32 := 128#32
  let v1155 : BitVec 32 := Scalar.muli v1154 c128_i32_376
  let v1156 : BitVec 32 := v1155
  let v1157 : Index := Scalar.indexCast v1156
  let c256_378 : Index := 256#32
  ![0, v1157.toNat, 256]
def k0_off14 (k0_t1 : Fin k0_t1_loop.trips) (c0_i32_375 : BitVec 32) : Fin 2 → Nat :=
  let c0_i32_9 : BitVec 32 := 0#32
  let c1_i32_10 : BitVec 32 := 1#32
  let arg13 : BitVec 32 := Scf.iv c0_i32_9 c1_i32_10 k0_t1
  let c8_i32_374 : BitVec 32 := 8#32
  let v1153 : BitVec 32 := Scalar.muli arg13 c8_i32_374
  let v1154 : BitVec 32 := Scalar.addi v1153 c0_i32_375
  let c128_i32_376 : BitVec 32 := 128#32
  let v1155 : BitVec 32 := Scalar.muli v1154 c128_i32_376
  let v1156 : BitVec 32 := v1155
  let v1179 : Index := Scalar.indexCast v1156
  let c512_383 : Index := 512#32
  ![v1179.toNat, 512]
def k0_mult39 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_384 : BitVec 32 := 8#32
  let v1183 : BitVec 32 := Scalar.muli arg13 c8_i32_384
  let c1_i32_385 : BitVec 32 := 1#32
  let v1184 : BitVec 32 := Scalar.addi v1183 c1_i32_385
  let c128_i32_386 : BitVec 32 := 128#32
  let v1185 : BitVec 32 := Scalar.muli v1184 c128_i32_386
  v1185
def k0_mult40 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_394 : BitVec 32 := 8#32
  let v1213 : BitVec 32 := Scalar.muli arg13 c8_i32_394
  let c2_i32_395 : BitVec 32 := 2#32
  let v1214 : BitVec 32 := Scalar.addi v1213 c2_i32_395
  let c128_i32_396 : BitVec 32 := 128#32
  let v1215 : BitVec 32 := Scalar.muli v1214 c128_i32_396
  v1215
def k0_mult41 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_404 : BitVec 32 := 8#32
  let v1243 : BitVec 32 := Scalar.muli arg13 c8_i32_404
  let c3_i32_405 : BitVec 32 := 3#32
  let v1244 : BitVec 32 := Scalar.addi v1243 c3_i32_405
  let c128_i32_406 : BitVec 32 := 128#32
  let v1245 : BitVec 32 := Scalar.muli v1244 c128_i32_406
  v1245
def k0_mult42 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_414 : BitVec 32 := 8#32
  let v1273 : BitVec 32 := Scalar.muli arg13 c8_i32_414
  let c4_i32_415 : BitVec 32 := 4#32
  let v1274 : BitVec 32 := Scalar.addi v1273 c4_i32_415
  let c128_i32_416 : BitVec 32 := 128#32
  let v1275 : BitVec 32 := Scalar.muli v1274 c128_i32_416
  v1275
def k0_mult43 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_424 : BitVec 32 := 8#32
  let v1303 : BitVec 32 := Scalar.muli arg13 c8_i32_424
  let c5_i32_425 : BitVec 32 := 5#32
  let v1304 : BitVec 32 := Scalar.addi v1303 c5_i32_425
  let c128_i32_426 : BitVec 32 := 128#32
  let v1305 : BitVec 32 := Scalar.muli v1304 c128_i32_426
  v1305
def k0_mult44 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_434 : BitVec 32 := 8#32
  let v1333 : BitVec 32 := Scalar.muli arg13 c8_i32_434
  let c6_i32_435 : BitVec 32 := 6#32
  let v1334 : BitVec 32 := Scalar.addi v1333 c6_i32_435
  let c128_i32_436 : BitVec 32 := 128#32
  let v1335 : BitVec 32 := Scalar.muli v1334 c128_i32_436
  v1335
def k0_mult45 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_444 : BitVec 32 := 8#32
  let v1363 : BitVec 32 := Scalar.muli arg13 c8_i32_444
  let c7_i32_445 : BitVec 32 := 7#32
  let v1364 : BitVec 32 := Scalar.addi v1363 c7_i32_445
  let c128_i32_446 : BitVec 32 := 128#32
  let v1365 : BitVec 32 := Scalar.muli v1364 c128_i32_446
  v1365
def k0_mult46 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_462 : BitVec 32 := 8#32
  let v1419 : BitVec 32 := Scalar.muli arg13 c8_i32_462
  v1419
def k0_off15 (k0_t1 : Fin k0_t1_loop.trips) : Fin 3 → Nat :=
  let c0_463 : Index := 0#32
  let c0_i32_9 : BitVec 32 := 0#32
  let c1_i32_10 : BitVec 32 := 1#32
  let arg13 : BitVec 32 := Scf.iv c0_i32_9 c1_i32_10 k0_t1
  let c8_i32_462 : BitVec 32 := 8#32
  let v1419 : BitVec 32 := Scalar.muli arg13 c8_i32_462
  let v1420 : BitVec 32 := v1419
  let v1421 : Index := Scalar.indexCast v1420
  let c640 : Index := 640#32
  ![0, v1421.toNat, 640]
def k0_mult47 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_464 : BitVec 32 := 8#32
  let v1425 : BitVec 32 := Scalar.muli arg13 c8_i32_464
  let c0_i32_465 : BitVec 32 := 0#32
  let v1426 : BitVec 32 := Scalar.addi v1425 c0_i32_465
  let c128_i32_466 : BitVec 32 := 128#32
  let v1427 : BitVec 32 := Scalar.muli v1426 c128_i32_466
  v1427
def k0_off16 (k0_t1 : Fin k0_t1_loop.trips) (c0_i32_465 : BitVec 32) : Fin 2 → Nat :=
  let c0_i32_9 : BitVec 32 := 0#32
  let c1_i32_10 : BitVec 32 := 1#32
  let arg13 : BitVec 32 := Scf.iv c0_i32_9 c1_i32_10 k0_t1
  let c8_i32_464 : BitVec 32 := 8#32
  let v1425 : BitVec 32 := Scalar.muli arg13 c8_i32_464
  let v1426 : BitVec 32 := Scalar.addi v1425 c0_i32_465
  let c128_i32_466 : BitVec 32 := 128#32
  let v1427 : BitVec 32 := Scalar.muli v1426 c128_i32_466
  let v1428 : BitVec 32 := v1427
  let v1451 : Index := Scalar.indexCast v1428
  let c640_473 : Index := 640#32
  ![v1451.toNat, 640]
def k0_mult48 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_474 : BitVec 32 := 8#32
  let v1455 : BitVec 32 := Scalar.muli arg13 c8_i32_474
  let c1_i32_475 : BitVec 32 := 1#32
  let v1456 : BitVec 32 := Scalar.addi v1455 c1_i32_475
  let c128_i32_476 : BitVec 32 := 128#32
  let v1457 : BitVec 32 := Scalar.muli v1456 c128_i32_476
  v1457
def k0_mult49 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_484 : BitVec 32 := 8#32
  let v1485 : BitVec 32 := Scalar.muli arg13 c8_i32_484
  let c2_i32_485 : BitVec 32 := 2#32
  let v1486 : BitVec 32 := Scalar.addi v1485 c2_i32_485
  let c128_i32_486 : BitVec 32 := 128#32
  let v1487 : BitVec 32 := Scalar.muli v1486 c128_i32_486
  v1487
def k0_mult50 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_494 : BitVec 32 := 8#32
  let v1515 : BitVec 32 := Scalar.muli arg13 c8_i32_494
  let c3_i32_495 : BitVec 32 := 3#32
  let v1516 : BitVec 32 := Scalar.addi v1515 c3_i32_495
  let c128_i32_496 : BitVec 32 := 128#32
  let v1517 : BitVec 32 := Scalar.muli v1516 c128_i32_496
  v1517
def k0_mult51 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_504 : BitVec 32 := 8#32
  let v1545 : BitVec 32 := Scalar.muli arg13 c8_i32_504
  let c4_i32_505 : BitVec 32 := 4#32
  let v1546 : BitVec 32 := Scalar.addi v1545 c4_i32_505
  let c128_i32_506 : BitVec 32 := 128#32
  let v1547 : BitVec 32 := Scalar.muli v1546 c128_i32_506
  v1547
def k0_mult52 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_514 : BitVec 32 := 8#32
  let v1575 : BitVec 32 := Scalar.muli arg13 c8_i32_514
  let c5_i32_515 : BitVec 32 := 5#32
  let v1576 : BitVec 32 := Scalar.addi v1575 c5_i32_515
  let c128_i32_516 : BitVec 32 := 128#32
  let v1577 : BitVec 32 := Scalar.muli v1576 c128_i32_516
  v1577
def k0_mult53 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_524 : BitVec 32 := 8#32
  let v1605 : BitVec 32 := Scalar.muli arg13 c8_i32_524
  let c6_i32_525 : BitVec 32 := 6#32
  let v1606 : BitVec 32 := Scalar.addi v1605 c6_i32_525
  let c128_i32_526 : BitVec 32 := 128#32
  let v1607 : BitVec 32 := Scalar.muli v1606 c128_i32_526
  v1607
def k0_mult54 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_534 : BitVec 32 := 8#32
  let v1635 : BitVec 32 := Scalar.muli arg13 c8_i32_534
  let c7_i32_535 : BitVec 32 := 7#32
  let v1636 : BitVec 32 := Scalar.addi v1635 c7_i32_535
  let c128_i32_536 : BitVec 32 := 128#32
  let v1637 : BitVec 32 := Scalar.muli v1636 c128_i32_536
  v1637
def k0_mult55 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_552 : BitVec 32 := 8#32
  let v1691 : BitVec 32 := Scalar.muli arg13 c8_i32_552
  v1691
def k0_off17 (k0_t1 : Fin k0_t1_loop.trips) : Fin 3 → Nat :=
  let c0_553 : Index := 0#32
  let c0_i32_9 : BitVec 32 := 0#32
  let c1_i32_10 : BitVec 32 := 1#32
  let arg13 : BitVec 32 := Scf.iv c0_i32_9 c1_i32_10 k0_t1
  let c8_i32_552 : BitVec 32 := 8#32
  let v1691 : BitVec 32 := Scalar.muli arg13 c8_i32_552
  let v1692 : BitVec 32 := v1691
  let v1693 : Index := Scalar.indexCast v1692
  let c768 : Index := 768#32
  ![0, v1693.toNat, 768]
def k0_mult56 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_554 : BitVec 32 := 8#32
  let v1697 : BitVec 32 := Scalar.muli arg13 c8_i32_554
  let c0_i32_555 : BitVec 32 := 0#32
  let v1698 : BitVec 32 := Scalar.addi v1697 c0_i32_555
  let c128_i32_556 : BitVec 32 := 128#32
  let v1699 : BitVec 32 := Scalar.muli v1698 c128_i32_556
  v1699
def k0_off18 (k0_t1 : Fin k0_t1_loop.trips) (c0_i32_555 : BitVec 32) : Fin 3 → Nat :=
  let c0_557 : Index := 0#32
  let c0_i32_9 : BitVec 32 := 0#32
  let c1_i32_10 : BitVec 32 := 1#32
  let arg13 : BitVec 32 := Scf.iv c0_i32_9 c1_i32_10 k0_t1
  let c8_i32_554 : BitVec 32 := 8#32
  let v1697 : BitVec 32 := Scalar.muli arg13 c8_i32_554
  let v1698 : BitVec 32 := Scalar.addi v1697 c0_i32_555
  let c128_i32_556 : BitVec 32 := 128#32
  let v1699 : BitVec 32 := Scalar.muli v1698 c128_i32_556
  let v1700 : BitVec 32 := v1699
  let v1701 : Index := Scalar.indexCast v1700
  let c384_558 : Index := 384#32
  ![0, v1701.toNat, 384]
def k0_off19 (k0_t1 : Fin k0_t1_loop.trips) (c0_i32_555 : BitVec 32) : Fin 2 → Nat :=
  let c0_i32_9 : BitVec 32 := 0#32
  let c1_i32_10 : BitVec 32 := 1#32
  let arg13 : BitVec 32 := Scf.iv c0_i32_9 c1_i32_10 k0_t1
  let c8_i32_554 : BitVec 32 := 8#32
  let v1697 : BitVec 32 := Scalar.muli arg13 c8_i32_554
  let v1698 : BitVec 32 := Scalar.addi v1697 c0_i32_555
  let c128_i32_556 : BitVec 32 := 128#32
  let v1699 : BitVec 32 := Scalar.muli v1698 c128_i32_556
  let v1700 : BitVec 32 := v1699
  let v1723 : Index := Scalar.indexCast v1700
  let c768_563 : Index := 768#32
  ![v1723.toNat, 768]
def k0_mult57 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_564 : BitVec 32 := 8#32
  let v1727 : BitVec 32 := Scalar.muli arg13 c8_i32_564
  let c1_i32_565 : BitVec 32 := 1#32
  let v1728 : BitVec 32 := Scalar.addi v1727 c1_i32_565
  let c128_i32_566 : BitVec 32 := 128#32
  let v1729 : BitVec 32 := Scalar.muli v1728 c128_i32_566
  v1729
def k0_mult58 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_574 : BitVec 32 := 8#32
  let v1757 : BitVec 32 := Scalar.muli arg13 c8_i32_574
  let c2_i32_575 : BitVec 32 := 2#32
  let v1758 : BitVec 32 := Scalar.addi v1757 c2_i32_575
  let c128_i32_576 : BitVec 32 := 128#32
  let v1759 : BitVec 32 := Scalar.muli v1758 c128_i32_576
  v1759
def k0_mult59 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_584 : BitVec 32 := 8#32
  let v1787 : BitVec 32 := Scalar.muli arg13 c8_i32_584
  let c3_i32_585 : BitVec 32 := 3#32
  let v1788 : BitVec 32 := Scalar.addi v1787 c3_i32_585
  let c128_i32_586 : BitVec 32 := 128#32
  let v1789 : BitVec 32 := Scalar.muli v1788 c128_i32_586
  v1789
def k0_mult60 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_594 : BitVec 32 := 8#32
  let v1817 : BitVec 32 := Scalar.muli arg13 c8_i32_594
  let c4_i32_595 : BitVec 32 := 4#32
  let v1818 : BitVec 32 := Scalar.addi v1817 c4_i32_595
  let c128_i32_596 : BitVec 32 := 128#32
  let v1819 : BitVec 32 := Scalar.muli v1818 c128_i32_596
  v1819
def k0_mult61 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_604 : BitVec 32 := 8#32
  let v1847 : BitVec 32 := Scalar.muli arg13 c8_i32_604
  let c5_i32_605 : BitVec 32 := 5#32
  let v1848 : BitVec 32 := Scalar.addi v1847 c5_i32_605
  let c128_i32_606 : BitVec 32 := 128#32
  let v1849 : BitVec 32 := Scalar.muli v1848 c128_i32_606
  v1849
def k0_mult62 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_614 : BitVec 32 := 8#32
  let v1877 : BitVec 32 := Scalar.muli arg13 c8_i32_614
  let c6_i32_615 : BitVec 32 := 6#32
  let v1878 : BitVec 32 := Scalar.addi v1877 c6_i32_615
  let c128_i32_616 : BitVec 32 := 128#32
  let v1879 : BitVec 32 := Scalar.muli v1878 c128_i32_616
  v1879
def k0_mult63 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_624 : BitVec 32 := 8#32
  let v1907 : BitVec 32 := Scalar.muli arg13 c8_i32_624
  let c7_i32_625 : BitVec 32 := 7#32
  let v1908 : BitVec 32 := Scalar.addi v1907 c7_i32_625
  let c128_i32_626 : BitVec 32 := 128#32
  let v1909 : BitVec 32 := Scalar.muli v1908 c128_i32_626
  v1909
def k0_mult64 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_642 : BitVec 32 := 8#32
  let v1963 : BitVec 32 := Scalar.muli arg13 c8_i32_642
  v1963
def k0_off20 (k0_t1 : Fin k0_t1_loop.trips) : Fin 3 → Nat :=
  let c0_643 : Index := 0#32
  let c0_i32_9 : BitVec 32 := 0#32
  let c1_i32_10 : BitVec 32 := 1#32
  let arg13 : BitVec 32 := Scf.iv c0_i32_9 c1_i32_10 k0_t1
  let c8_i32_642 : BitVec 32 := 8#32
  let v1963 : BitVec 32 := Scalar.muli arg13 c8_i32_642
  let v1964 : BitVec 32 := v1963
  let v1965 : Index := Scalar.indexCast v1964
  let c896 : Index := 896#32
  ![0, v1965.toNat, 896]
def k0_mult65 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_644 : BitVec 32 := 8#32
  let v1969 : BitVec 32 := Scalar.muli arg13 c8_i32_644
  let c0_i32_645 : BitVec 32 := 0#32
  let v1970 : BitVec 32 := Scalar.addi v1969 c0_i32_645
  let c128_i32_646 : BitVec 32 := 128#32
  let v1971 : BitVec 32 := Scalar.muli v1970 c128_i32_646
  v1971
def k0_off21 (k0_t1 : Fin k0_t1_loop.trips) (c0_i32_645 : BitVec 32) : Fin 2 → Nat :=
  let c0_i32_9 : BitVec 32 := 0#32
  let c1_i32_10 : BitVec 32 := 1#32
  let arg13 : BitVec 32 := Scf.iv c0_i32_9 c1_i32_10 k0_t1
  let c8_i32_644 : BitVec 32 := 8#32
  let v1969 : BitVec 32 := Scalar.muli arg13 c8_i32_644
  let v1970 : BitVec 32 := Scalar.addi v1969 c0_i32_645
  let c128_i32_646 : BitVec 32 := 128#32
  let v1971 : BitVec 32 := Scalar.muli v1970 c128_i32_646
  let v1972 : BitVec 32 := v1971
  let v1995 : Index := Scalar.indexCast v1972
  let c896_653 : Index := 896#32
  ![v1995.toNat, 896]
def k0_mult66 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_654 : BitVec 32 := 8#32
  let v1999 : BitVec 32 := Scalar.muli arg13 c8_i32_654
  let c1_i32_655 : BitVec 32 := 1#32
  let v2000 : BitVec 32 := Scalar.addi v1999 c1_i32_655
  let c128_i32_656 : BitVec 32 := 128#32
  let v2001 : BitVec 32 := Scalar.muli v2000 c128_i32_656
  v2001
def k0_mult67 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_664 : BitVec 32 := 8#32
  let v2029 : BitVec 32 := Scalar.muli arg13 c8_i32_664
  let c2_i32_665 : BitVec 32 := 2#32
  let v2030 : BitVec 32 := Scalar.addi v2029 c2_i32_665
  let c128_i32_666 : BitVec 32 := 128#32
  let v2031 : BitVec 32 := Scalar.muli v2030 c128_i32_666
  v2031
def k0_mult68 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_674 : BitVec 32 := 8#32
  let v2059 : BitVec 32 := Scalar.muli arg13 c8_i32_674
  let c3_i32_675 : BitVec 32 := 3#32
  let v2060 : BitVec 32 := Scalar.addi v2059 c3_i32_675
  let c128_i32_676 : BitVec 32 := 128#32
  let v2061 : BitVec 32 := Scalar.muli v2060 c128_i32_676
  v2061
def k0_mult69 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_684 : BitVec 32 := 8#32
  let v2089 : BitVec 32 := Scalar.muli arg13 c8_i32_684
  let c4_i32_685 : BitVec 32 := 4#32
  let v2090 : BitVec 32 := Scalar.addi v2089 c4_i32_685
  let c128_i32_686 : BitVec 32 := 128#32
  let v2091 : BitVec 32 := Scalar.muli v2090 c128_i32_686
  v2091
def k0_mult70 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_694 : BitVec 32 := 8#32
  let v2119 : BitVec 32 := Scalar.muli arg13 c8_i32_694
  let c5_i32_695 : BitVec 32 := 5#32
  let v2120 : BitVec 32 := Scalar.addi v2119 c5_i32_695
  let c128_i32_696 : BitVec 32 := 128#32
  let v2121 : BitVec 32 := Scalar.muli v2120 c128_i32_696
  v2121
def k0_mult71 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_704 : BitVec 32 := 8#32
  let v2149 : BitVec 32 := Scalar.muli arg13 c8_i32_704
  let c6_i32_705 : BitVec 32 := 6#32
  let v2150 : BitVec 32 := Scalar.addi v2149 c6_i32_705
  let c128_i32_706 : BitVec 32 := 128#32
  let v2151 : BitVec 32 := Scalar.muli v2150 c128_i32_706
  v2151
def k0_mult72 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_714 : BitVec 32 := 8#32
  let v2179 : BitVec 32 := Scalar.muli arg13 c8_i32_714
  let c7_i32_715 : BitVec 32 := 7#32
  let v2180 : BitVec 32 := Scalar.addi v2179 c7_i32_715
  let c128_i32_716 : BitVec 32 := 128#32
  let v2181 : BitVec 32 := Scalar.muli v2180 c128_i32_716
  v2181
def k0_mult73 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_732 : BitVec 32 := 8#32
  let v2235 : BitVec 32 := Scalar.muli arg13 c8_i32_732
  v2235
def k0_off22 (k0_t1 : Fin k0_t1_loop.trips) : Fin 3 → Nat :=
  let c0_733 : Index := 0#32
  let c0_i32_9 : BitVec 32 := 0#32
  let c1_i32_10 : BitVec 32 := 1#32
  let arg13 : BitVec 32 := Scf.iv c0_i32_9 c1_i32_10 k0_t1
  let c8_i32_732 : BitVec 32 := 8#32
  let v2235 : BitVec 32 := Scalar.muli arg13 c8_i32_732
  let v2236 : BitVec 32 := v2235
  let v2237 : Index := Scalar.indexCast v2236
  let c1024 : Index := 1024#32
  ![0, v2237.toNat, 1024]
def k0_mult74 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_734 : BitVec 32 := 8#32
  let v2241 : BitVec 32 := Scalar.muli arg13 c8_i32_734
  let c0_i32_735 : BitVec 32 := 0#32
  let v2242 : BitVec 32 := Scalar.addi v2241 c0_i32_735
  let c128_i32_736 : BitVec 32 := 128#32
  let v2243 : BitVec 32 := Scalar.muli v2242 c128_i32_736
  v2243
def k0_off23 (k0_t1 : Fin k0_t1_loop.trips) (c0_i32_735 : BitVec 32) : Fin 3 → Nat :=
  let c0_737 : Index := 0#32
  let c0_i32_9 : BitVec 32 := 0#32
  let c1_i32_10 : BitVec 32 := 1#32
  let arg13 : BitVec 32 := Scf.iv c0_i32_9 c1_i32_10 k0_t1
  let c8_i32_734 : BitVec 32 := 8#32
  let v2241 : BitVec 32 := Scalar.muli arg13 c8_i32_734
  let v2242 : BitVec 32 := Scalar.addi v2241 c0_i32_735
  let c128_i32_736 : BitVec 32 := 128#32
  let v2243 : BitVec 32 := Scalar.muli v2242 c128_i32_736
  let v2244 : BitVec 32 := v2243
  let v2245 : Index := Scalar.indexCast v2244
  let c512_738 : Index := 512#32
  ![0, v2245.toNat, 512]
def k0_off24 (k0_t1 : Fin k0_t1_loop.trips) (c0_i32_735 : BitVec 32) : Fin 2 → Nat :=
  let c0_i32_9 : BitVec 32 := 0#32
  let c1_i32_10 : BitVec 32 := 1#32
  let arg13 : BitVec 32 := Scf.iv c0_i32_9 c1_i32_10 k0_t1
  let c8_i32_734 : BitVec 32 := 8#32
  let v2241 : BitVec 32 := Scalar.muli arg13 c8_i32_734
  let v2242 : BitVec 32 := Scalar.addi v2241 c0_i32_735
  let c128_i32_736 : BitVec 32 := 128#32
  let v2243 : BitVec 32 := Scalar.muli v2242 c128_i32_736
  let v2244 : BitVec 32 := v2243
  let v2267 : Index := Scalar.indexCast v2244
  let c1024_743 : Index := 1024#32
  ![v2267.toNat, 1024]
def k0_mult75 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_744 : BitVec 32 := 8#32
  let v2271 : BitVec 32 := Scalar.muli arg13 c8_i32_744
  let c1_i32_745 : BitVec 32 := 1#32
  let v2272 : BitVec 32 := Scalar.addi v2271 c1_i32_745
  let c128_i32_746 : BitVec 32 := 128#32
  let v2273 : BitVec 32 := Scalar.muli v2272 c128_i32_746
  v2273
def k0_mult76 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_754 : BitVec 32 := 8#32
  let v2301 : BitVec 32 := Scalar.muli arg13 c8_i32_754
  let c2_i32_755 : BitVec 32 := 2#32
  let v2302 : BitVec 32 := Scalar.addi v2301 c2_i32_755
  let c128_i32_756 : BitVec 32 := 128#32
  let v2303 : BitVec 32 := Scalar.muli v2302 c128_i32_756
  v2303
def k0_mult77 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_764 : BitVec 32 := 8#32
  let v2331 : BitVec 32 := Scalar.muli arg13 c8_i32_764
  let c3_i32_765 : BitVec 32 := 3#32
  let v2332 : BitVec 32 := Scalar.addi v2331 c3_i32_765
  let c128_i32_766 : BitVec 32 := 128#32
  let v2333 : BitVec 32 := Scalar.muli v2332 c128_i32_766
  v2333
def k0_mult78 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_774 : BitVec 32 := 8#32
  let v2361 : BitVec 32 := Scalar.muli arg13 c8_i32_774
  let c4_i32_775 : BitVec 32 := 4#32
  let v2362 : BitVec 32 := Scalar.addi v2361 c4_i32_775
  let c128_i32_776 : BitVec 32 := 128#32
  let v2363 : BitVec 32 := Scalar.muli v2362 c128_i32_776
  v2363
def k0_mult79 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_784 : BitVec 32 := 8#32
  let v2391 : BitVec 32 := Scalar.muli arg13 c8_i32_784
  let c5_i32_785 : BitVec 32 := 5#32
  let v2392 : BitVec 32 := Scalar.addi v2391 c5_i32_785
  let c128_i32_786 : BitVec 32 := 128#32
  let v2393 : BitVec 32 := Scalar.muli v2392 c128_i32_786
  v2393
def k0_mult80 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_794 : BitVec 32 := 8#32
  let v2421 : BitVec 32 := Scalar.muli arg13 c8_i32_794
  let c6_i32_795 : BitVec 32 := 6#32
  let v2422 : BitVec 32 := Scalar.addi v2421 c6_i32_795
  let c128_i32_796 : BitVec 32 := 128#32
  let v2423 : BitVec 32 := Scalar.muli v2422 c128_i32_796
  v2423
def k0_mult81 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_804 : BitVec 32 := 8#32
  let v2451 : BitVec 32 := Scalar.muli arg13 c8_i32_804
  let c7_i32_805 : BitVec 32 := 7#32
  let v2452 : BitVec 32 := Scalar.addi v2451 c7_i32_805
  let c128_i32_806 : BitVec 32 := 128#32
  let v2453 : BitVec 32 := Scalar.muli v2452 c128_i32_806
  v2453
def k0_mult82 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_822 : BitVec 32 := 8#32
  let v2507 : BitVec 32 := Scalar.muli arg13 c8_i32_822
  v2507
def k0_off25 (k0_t1 : Fin k0_t1_loop.trips) : Fin 3 → Nat :=
  let c0_823 : Index := 0#32
  let c0_i32_9 : BitVec 32 := 0#32
  let c1_i32_10 : BitVec 32 := 1#32
  let arg13 : BitVec 32 := Scf.iv c0_i32_9 c1_i32_10 k0_t1
  let c8_i32_822 : BitVec 32 := 8#32
  let v2507 : BitVec 32 := Scalar.muli arg13 c8_i32_822
  let v2508 : BitVec 32 := v2507
  let v2509 : Index := Scalar.indexCast v2508
  let c1152 : Index := 1152#32
  ![0, v2509.toNat, 1152]
def k0_mult83 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_824 : BitVec 32 := 8#32
  let v2513 : BitVec 32 := Scalar.muli arg13 c8_i32_824
  let c0_i32_825 : BitVec 32 := 0#32
  let v2514 : BitVec 32 := Scalar.addi v2513 c0_i32_825
  let c128_i32_826 : BitVec 32 := 128#32
  let v2515 : BitVec 32 := Scalar.muli v2514 c128_i32_826
  v2515
def k0_off26 (k0_t1 : Fin k0_t1_loop.trips) (c0_i32_825 : BitVec 32) : Fin 2 → Nat :=
  let c0_i32_9 : BitVec 32 := 0#32
  let c1_i32_10 : BitVec 32 := 1#32
  let arg13 : BitVec 32 := Scf.iv c0_i32_9 c1_i32_10 k0_t1
  let c8_i32_824 : BitVec 32 := 8#32
  let v2513 : BitVec 32 := Scalar.muli arg13 c8_i32_824
  let v2514 : BitVec 32 := Scalar.addi v2513 c0_i32_825
  let c128_i32_826 : BitVec 32 := 128#32
  let v2515 : BitVec 32 := Scalar.muli v2514 c128_i32_826
  let v2516 : BitVec 32 := v2515
  let v2539 : Index := Scalar.indexCast v2516
  let c1152_833 : Index := 1152#32
  ![v2539.toNat, 1152]
def k0_mult84 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_834 : BitVec 32 := 8#32
  let v2543 : BitVec 32 := Scalar.muli arg13 c8_i32_834
  let c1_i32_835 : BitVec 32 := 1#32
  let v2544 : BitVec 32 := Scalar.addi v2543 c1_i32_835
  let c128_i32_836 : BitVec 32 := 128#32
  let v2545 : BitVec 32 := Scalar.muli v2544 c128_i32_836
  v2545
def k0_mult85 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_844 : BitVec 32 := 8#32
  let v2573 : BitVec 32 := Scalar.muli arg13 c8_i32_844
  let c2_i32_845 : BitVec 32 := 2#32
  let v2574 : BitVec 32 := Scalar.addi v2573 c2_i32_845
  let c128_i32_846 : BitVec 32 := 128#32
  let v2575 : BitVec 32 := Scalar.muli v2574 c128_i32_846
  v2575
def k0_mult86 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_854 : BitVec 32 := 8#32
  let v2603 : BitVec 32 := Scalar.muli arg13 c8_i32_854
  let c3_i32_855 : BitVec 32 := 3#32
  let v2604 : BitVec 32 := Scalar.addi v2603 c3_i32_855
  let c128_i32_856 : BitVec 32 := 128#32
  let v2605 : BitVec 32 := Scalar.muli v2604 c128_i32_856
  v2605
def k0_mult87 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_864 : BitVec 32 := 8#32
  let v2633 : BitVec 32 := Scalar.muli arg13 c8_i32_864
  let c4_i32_865 : BitVec 32 := 4#32
  let v2634 : BitVec 32 := Scalar.addi v2633 c4_i32_865
  let c128_i32_866 : BitVec 32 := 128#32
  let v2635 : BitVec 32 := Scalar.muli v2634 c128_i32_866
  v2635
def k0_mult88 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_874 : BitVec 32 := 8#32
  let v2663 : BitVec 32 := Scalar.muli arg13 c8_i32_874
  let c5_i32_875 : BitVec 32 := 5#32
  let v2664 : BitVec 32 := Scalar.addi v2663 c5_i32_875
  let c128_i32_876 : BitVec 32 := 128#32
  let v2665 : BitVec 32 := Scalar.muli v2664 c128_i32_876
  v2665
def k0_mult89 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_884 : BitVec 32 := 8#32
  let v2693 : BitVec 32 := Scalar.muli arg13 c8_i32_884
  let c6_i32_885 : BitVec 32 := 6#32
  let v2694 : BitVec 32 := Scalar.addi v2693 c6_i32_885
  let c128_i32_886 : BitVec 32 := 128#32
  let v2695 : BitVec 32 := Scalar.muli v2694 c128_i32_886
  v2695
def k0_mult90 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_894 : BitVec 32 := 8#32
  let v2723 : BitVec 32 := Scalar.muli arg13 c8_i32_894
  let c7_i32_895 : BitVec 32 := 7#32
  let v2724 : BitVec 32 := Scalar.addi v2723 c7_i32_895
  let c128_i32_896 : BitVec 32 := 128#32
  let v2725 : BitVec 32 := Scalar.muli v2724 c128_i32_896
  v2725
def k0_mult91 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_912 : BitVec 32 := 8#32
  let v2779 : BitVec 32 := Scalar.muli arg13 c8_i32_912
  v2779
def k0_off27 (k0_t1 : Fin k0_t1_loop.trips) : Fin 3 → Nat :=
  let c0_913 : Index := 0#32
  let c0_i32_9 : BitVec 32 := 0#32
  let c1_i32_10 : BitVec 32 := 1#32
  let arg13 : BitVec 32 := Scf.iv c0_i32_9 c1_i32_10 k0_t1
  let c8_i32_912 : BitVec 32 := 8#32
  let v2779 : BitVec 32 := Scalar.muli arg13 c8_i32_912
  let v2780 : BitVec 32 := v2779
  let v2781 : Index := Scalar.indexCast v2780
  let c1280 : Index := 1280#32
  ![0, v2781.toNat, 1280]
def k0_mult92 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_914 : BitVec 32 := 8#32
  let v2785 : BitVec 32 := Scalar.muli arg13 c8_i32_914
  let c0_i32_915 : BitVec 32 := 0#32
  let v2786 : BitVec 32 := Scalar.addi v2785 c0_i32_915
  let c128_i32_916 : BitVec 32 := 128#32
  let v2787 : BitVec 32 := Scalar.muli v2786 c128_i32_916
  v2787
def k0_off28 (k0_t1 : Fin k0_t1_loop.trips) (c0_i32_915 : BitVec 32) : Fin 3 → Nat :=
  let c0_917 : Index := 0#32
  let c0_i32_9 : BitVec 32 := 0#32
  let c1_i32_10 : BitVec 32 := 1#32
  let arg13 : BitVec 32 := Scf.iv c0_i32_9 c1_i32_10 k0_t1
  let c8_i32_914 : BitVec 32 := 8#32
  let v2785 : BitVec 32 := Scalar.muli arg13 c8_i32_914
  let v2786 : BitVec 32 := Scalar.addi v2785 c0_i32_915
  let c128_i32_916 : BitVec 32 := 128#32
  let v2787 : BitVec 32 := Scalar.muli v2786 c128_i32_916
  let v2788 : BitVec 32 := v2787
  let v2789 : Index := Scalar.indexCast v2788
  let c640_918 : Index := 640#32
  ![0, v2789.toNat, 640]
def k0_off29 (k0_t1 : Fin k0_t1_loop.trips) (c0_i32_915 : BitVec 32) : Fin 2 → Nat :=
  let c0_i32_9 : BitVec 32 := 0#32
  let c1_i32_10 : BitVec 32 := 1#32
  let arg13 : BitVec 32 := Scf.iv c0_i32_9 c1_i32_10 k0_t1
  let c8_i32_914 : BitVec 32 := 8#32
  let v2785 : BitVec 32 := Scalar.muli arg13 c8_i32_914
  let v2786 : BitVec 32 := Scalar.addi v2785 c0_i32_915
  let c128_i32_916 : BitVec 32 := 128#32
  let v2787 : BitVec 32 := Scalar.muli v2786 c128_i32_916
  let v2788 : BitVec 32 := v2787
  let v2811 : Index := Scalar.indexCast v2788
  let c1280_923 : Index := 1280#32
  ![v2811.toNat, 1280]
def k0_mult93 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_924 : BitVec 32 := 8#32
  let v2815 : BitVec 32 := Scalar.muli arg13 c8_i32_924
  let c1_i32_925 : BitVec 32 := 1#32
  let v2816 : BitVec 32 := Scalar.addi v2815 c1_i32_925
  let c128_i32_926 : BitVec 32 := 128#32
  let v2817 : BitVec 32 := Scalar.muli v2816 c128_i32_926
  v2817
def k0_mult94 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_934 : BitVec 32 := 8#32
  let v2845 : BitVec 32 := Scalar.muli arg13 c8_i32_934
  let c2_i32_935 : BitVec 32 := 2#32
  let v2846 : BitVec 32 := Scalar.addi v2845 c2_i32_935
  let c128_i32_936 : BitVec 32 := 128#32
  let v2847 : BitVec 32 := Scalar.muli v2846 c128_i32_936
  v2847
def k0_mult95 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_944 : BitVec 32 := 8#32
  let v2875 : BitVec 32 := Scalar.muli arg13 c8_i32_944
  let c3_i32_945 : BitVec 32 := 3#32
  let v2876 : BitVec 32 := Scalar.addi v2875 c3_i32_945
  let c128_i32_946 : BitVec 32 := 128#32
  let v2877 : BitVec 32 := Scalar.muli v2876 c128_i32_946
  v2877
def k0_mult96 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_954 : BitVec 32 := 8#32
  let v2905 : BitVec 32 := Scalar.muli arg13 c8_i32_954
  let c4_i32_955 : BitVec 32 := 4#32
  let v2906 : BitVec 32 := Scalar.addi v2905 c4_i32_955
  let c128_i32_956 : BitVec 32 := 128#32
  let v2907 : BitVec 32 := Scalar.muli v2906 c128_i32_956
  v2907
def k0_mult97 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_964 : BitVec 32 := 8#32
  let v2935 : BitVec 32 := Scalar.muli arg13 c8_i32_964
  let c5_i32_965 : BitVec 32 := 5#32
  let v2936 : BitVec 32 := Scalar.addi v2935 c5_i32_965
  let c128_i32_966 : BitVec 32 := 128#32
  let v2937 : BitVec 32 := Scalar.muli v2936 c128_i32_966
  v2937
def k0_mult98 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_974 : BitVec 32 := 8#32
  let v2965 : BitVec 32 := Scalar.muli arg13 c8_i32_974
  let c6_i32_975 : BitVec 32 := 6#32
  let v2966 : BitVec 32 := Scalar.addi v2965 c6_i32_975
  let c128_i32_976 : BitVec 32 := 128#32
  let v2967 : BitVec 32 := Scalar.muli v2966 c128_i32_976
  v2967
def k0_mult99 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_984 : BitVec 32 := 8#32
  let v2995 : BitVec 32 := Scalar.muli arg13 c8_i32_984
  let c7_i32_985 : BitVec 32 := 7#32
  let v2996 : BitVec 32 := Scalar.addi v2995 c7_i32_985
  let c128_i32_986 : BitVec 32 := 128#32
  let v2997 : BitVec 32 := Scalar.muli v2996 c128_i32_986
  v2997
def k0_mult100 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1002 : BitVec 32 := 8#32
  let v3051 : BitVec 32 := Scalar.muli arg13 c8_i32_1002
  v3051
def k0_off30 (k0_t1 : Fin k0_t1_loop.trips) : Fin 3 → Nat :=
  let c0_1003 : Index := 0#32
  let c0_i32_9 : BitVec 32 := 0#32
  let c1_i32_10 : BitVec 32 := 1#32
  let arg13 : BitVec 32 := Scf.iv c0_i32_9 c1_i32_10 k0_t1
  let c8_i32_1002 : BitVec 32 := 8#32
  let v3051 : BitVec 32 := Scalar.muli arg13 c8_i32_1002
  let v3052 : BitVec 32 := v3051
  let v3053 : Index := Scalar.indexCast v3052
  let c1408 : Index := 1408#32
  ![0, v3053.toNat, 1408]
def k0_mult101 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1004 : BitVec 32 := 8#32
  let v3057 : BitVec 32 := Scalar.muli arg13 c8_i32_1004
  let c0_i32_1005 : BitVec 32 := 0#32
  let v3058 : BitVec 32 := Scalar.addi v3057 c0_i32_1005
  let c128_i32_1006 : BitVec 32 := 128#32
  let v3059 : BitVec 32 := Scalar.muli v3058 c128_i32_1006
  v3059
def k0_off31 (k0_t1 : Fin k0_t1_loop.trips) (c0_i32_1005 : BitVec 32) : Fin 2 → Nat :=
  let c0_i32_9 : BitVec 32 := 0#32
  let c1_i32_10 : BitVec 32 := 1#32
  let arg13 : BitVec 32 := Scf.iv c0_i32_9 c1_i32_10 k0_t1
  let c8_i32_1004 : BitVec 32 := 8#32
  let v3057 : BitVec 32 := Scalar.muli arg13 c8_i32_1004
  let v3058 : BitVec 32 := Scalar.addi v3057 c0_i32_1005
  let c128_i32_1006 : BitVec 32 := 128#32
  let v3059 : BitVec 32 := Scalar.muli v3058 c128_i32_1006
  let v3060 : BitVec 32 := v3059
  let v3083 : Index := Scalar.indexCast v3060
  let c1408_1013 : Index := 1408#32
  ![v3083.toNat, 1408]
def k0_mult102 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1014 : BitVec 32 := 8#32
  let v3087 : BitVec 32 := Scalar.muli arg13 c8_i32_1014
  let c1_i32_1015 : BitVec 32 := 1#32
  let v3088 : BitVec 32 := Scalar.addi v3087 c1_i32_1015
  let c128_i32_1016 : BitVec 32 := 128#32
  let v3089 : BitVec 32 := Scalar.muli v3088 c128_i32_1016
  v3089
def k0_mult103 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1024 : BitVec 32 := 8#32
  let v3117 : BitVec 32 := Scalar.muli arg13 c8_i32_1024
  let c2_i32_1025 : BitVec 32 := 2#32
  let v3118 : BitVec 32 := Scalar.addi v3117 c2_i32_1025
  let c128_i32_1026 : BitVec 32 := 128#32
  let v3119 : BitVec 32 := Scalar.muli v3118 c128_i32_1026
  v3119
def k0_mult104 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1034 : BitVec 32 := 8#32
  let v3147 : BitVec 32 := Scalar.muli arg13 c8_i32_1034
  let c3_i32_1035 : BitVec 32 := 3#32
  let v3148 : BitVec 32 := Scalar.addi v3147 c3_i32_1035
  let c128_i32_1036 : BitVec 32 := 128#32
  let v3149 : BitVec 32 := Scalar.muli v3148 c128_i32_1036
  v3149
def k0_mult105 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1044 : BitVec 32 := 8#32
  let v3177 : BitVec 32 := Scalar.muli arg13 c8_i32_1044
  let c4_i32_1045 : BitVec 32 := 4#32
  let v3178 : BitVec 32 := Scalar.addi v3177 c4_i32_1045
  let c128_i32_1046 : BitVec 32 := 128#32
  let v3179 : BitVec 32 := Scalar.muli v3178 c128_i32_1046
  v3179
def k0_mult106 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1054 : BitVec 32 := 8#32
  let v3207 : BitVec 32 := Scalar.muli arg13 c8_i32_1054
  let c5_i32_1055 : BitVec 32 := 5#32
  let v3208 : BitVec 32 := Scalar.addi v3207 c5_i32_1055
  let c128_i32_1056 : BitVec 32 := 128#32
  let v3209 : BitVec 32 := Scalar.muli v3208 c128_i32_1056
  v3209
def k0_mult107 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1064 : BitVec 32 := 8#32
  let v3237 : BitVec 32 := Scalar.muli arg13 c8_i32_1064
  let c6_i32_1065 : BitVec 32 := 6#32
  let v3238 : BitVec 32 := Scalar.addi v3237 c6_i32_1065
  let c128_i32_1066 : BitVec 32 := 128#32
  let v3239 : BitVec 32 := Scalar.muli v3238 c128_i32_1066
  v3239
def k0_mult108 (k0_t1 : Fin k0_t1_loop.trips) : BitVec 32 :=
  let c0_i32_9 : BitVec 32 := 0#32
  let c1_i32_10 : BitVec 32 := 1#32
  let arg13 : BitVec 32 := Scf.iv c0_i32_9 c1_i32_10 k0_t1
  let c8_i32_1074 : BitVec 32 := 8#32
  let v3267 : BitVec 32 := Scalar.muli arg13 c8_i32_1074
  let c7_i32_1075 : BitVec 32 := 7#32
  let v3268 : BitVec 32 := Scalar.addi v3267 c7_i32_1075
  let c128_i32_1076 : BitVec 32 := 128#32
  let v3269 : BitVec 32 := Scalar.muli v3268 c128_i32_1076
  v3269
def k0_off32 (i : grid0.Coords) : Fin 1 → Nat :=
  let arg0 : BitVec 32 := BitVec.ofNat 32 (i 0).val
  let v5 : Index := Scalar.indexCast arg0
  ![v5.toNat]
def k0_off33 (i : grid0.Coords) : Fin 1 → Nat :=
  let arg0 : BitVec 32 := BitVec.ofNat 32 (i 0).val
  let v10 : Index := Scalar.indexCast arg0
  ![v10.toNat]
def k0_off34 (v11 : BitVec 32) : Fin 1 → Nat :=
  let v12 : Index := Scalar.indexCast v11
  ![v12.toNat]
def k0_cond2 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_chk1 (v6 : BitVec 32) (v11 : BitVec 32) : Prop :=
  (∀ (k0_h2 : k0_cond2 v6 = 1#1), ∀ a, (k0_off34 v11) a + S1.size a ≤ S32.size a)
theorem k0_off34_inb : ∀ (v6 : BitVec 32) (v11 : BitVec 32) (k0_hw1 : k0_chk1 v6 v11), ∀ (k0_h2 : k0_cond2 v6 = 1#1), ∀ a, (k0_off34 v11) a + S1.size a ≤ S32.size a := fun v6 v11 k0_hw1 k0_h2 => k0_hw1 k0_h2

def k0_off35 (i : grid0.Coords) : Fin 1 → Nat :=
  let arg0 : BitVec 32 := BitVec.ofNat 32 (i 0).val
  let v28 : Index := Scalar.indexCast arg0
  ![v28.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6144x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x48x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x6144 : Shape := ⟨2, ![65536, 6144]⟩
abbrev S32 : Shape := ⟨1, ![32]⟩
abbrev S32x6144x768 : Shape := ⟨3, ![32, 6144, 768]⟩
abbrev S32x48x1536 : Shape := ⟨3, ![32, 48, 1536]⟩
abbrev S65536 : Shape := ⟨1, ![65536]⟩
abbrev S65536x1 : Shape := ⟨2, ![65536, 1]⟩
abbrev S_ : Shape := ⟨0, ![]⟩
abbrev S1x32 : Shape := ⟨2, ![1, 32]⟩
abbrev S65536x32 : Shape := ⟨2, ![65536, 32]⟩
abbrev S32x48x768 : Shape := ⟨3, ![32, 48, 768]⟩
abbrev S32x48x128x768 : Shape := ⟨4, ![32, 48, 128, 768]⟩
abbrev S32x48x1x768 : Shape := ⟨4, ![32, 48, 1, 768]⟩
abbrev S65536x32x768 : Shape := ⟨3, ![65536, 32, 768]⟩
abbrev S65536x32x1 : Shape := ⟨3, ![65536, 32, 1]⟩
abbrev S65536x768 : Shape := ⟨2, ![65536, 768]⟩
abbrev S65536x768x1 : Shape := ⟨3, ![65536, 768, 1]⟩
abbrev S65536x768x2 : Shape := ⟨3, ![65536, 768, 2]⟩
abbrev S65536x1536 : Shape := ⟨2, ![65536, 1536]⟩

abbrev nBuf : Space → Nat
  | .hbm => 95
  | .vmem => 3
  | .smem => 0
  | _ => 0

abbrev bufTy : (tb : Table) → Fin (tcTables nBuf tb) → BufTy
  | .hbm, ⟨0, _⟩ => ⟨S65536x6144, .bf16⟩
  | .hbm, ⟨1, _⟩ => ⟨S32, .i32⟩
  | .hbm, ⟨2, _⟩ => ⟨S32, .f32⟩
  | .hbm, ⟨3, _⟩ => ⟨S32x6144x768, .i8⟩
  | .hbm, ⟨4, _⟩ => ⟨S32x48x1536, .f32⟩
  | .hbm, ⟨5, _⟩ => ⟨S65536, .i32⟩
  | .hbm, ⟨6, _⟩ => ⟨S65536x1, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S1x32, .i32⟩
  | .hbm, ⟨12, _⟩ => ⟨S65536x32, .i32⟩
  | .hbm, ⟨13, _⟩ => ⟨S65536x32, .i32⟩
  | .hbm, ⟨14, _⟩ => ⟨S65536x32, .i1⟩
  | .hbm, ⟨15, _⟩ => ⟨S1x32, .i32⟩
  | .hbm, ⟨16, _⟩ => ⟨S65536x32, .i32⟩
  | .hbm, ⟨17, _⟩ => ⟨S65536x32, .i32⟩
  | .hbm, ⟨18, _⟩ => ⟨S65536x32, .i1⟩
  | .hbm, ⟨19, _⟩ => ⟨S65536x32, .i1⟩
  | .hbm, ⟨20, _⟩ => ⟨S_, .f32⟩
  | .hbm, ⟨21, _⟩ => ⟨S_, .f32⟩
  | .hbm, ⟨22, _⟩ => ⟨S65536x32, .f32⟩
  | .hbm, ⟨23, _⟩ => ⟨S65536x32, .f32⟩
  | .hbm, ⟨24, _⟩ => ⟨S65536x32, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S65536x6144, .bf16⟩
  | .hbm, ⟨29, _⟩ => ⟨S32x6144x768, .i32⟩
  | .hbm, ⟨30, _⟩ => ⟨S_, .i32⟩
  | .hbm, ⟨31, _⟩ => ⟨S32x6144x768, .i32⟩
  | .hbm, ⟨32, _⟩ => ⟨S32x6144x768, .i32⟩
  | .hbm, ⟨33, _⟩ => ⟨S_, .i32⟩
  | .hbm, ⟨34, _⟩ => ⟨S32x6144x768, .i32⟩
  | .hbm, ⟨35, _⟩ => ⟨S32x6144x768, .i32⟩
  | .hbm, ⟨36, _⟩ => ⟨S_, .i32⟩
  | .hbm, ⟨37, _⟩ => ⟨S32x6144x768, .i32⟩
  | .hbm, ⟨38, _⟩ => ⟨S32x6144x768, .i1⟩
  | .hbm, ⟨39, _⟩ => ⟨S_, .i32⟩
  | .hbm, ⟨40, _⟩ => ⟨S32x6144x768, .i32⟩
  | .hbm, ⟨41, _⟩ => ⟨S32x6144x768, .i32⟩
  | .hbm, ⟨42, _⟩ => ⟨S32x6144x768, .i32⟩
  | .hbm, ⟨43, _⟩ => ⟨S_, .i32⟩
  | .hbm, ⟨44, _⟩ => ⟨S32x6144x768, .i32⟩
  | .hbm, ⟨45, _⟩ => ⟨S32x6144x768, .i1⟩
  | .hbm, ⟨46, _⟩ => ⟨S_, .i32⟩
  | .hbm, ⟨47, _⟩ => ⟨S32x6144x768, .i32⟩
  | .hbm, ⟨48, _⟩ => ⟨S32x6144x768, .i32⟩
  | .hbm, ⟨49, _⟩ => ⟨S32x6144x768, .i32⟩
  | .hbm, ⟨50, _⟩ => ⟨S32x48x768, .f32⟩
  | .hbm, ⟨51, _⟩ => ⟨S32x6144x768, .bf16⟩
  | .hbm, ⟨52, _⟩ => ⟨S32x48x128x768, .bf16⟩
  | .hbm, ⟨53, _⟩ => ⟨S32x48x768, .bf16⟩
  | .hbm, ⟨54, _⟩ => ⟨S32x48x1x768, .bf16⟩
  | .hbm, ⟨55, _⟩ => ⟨S32x48x128x768, .bf16⟩
  | .hbm, ⟨56, _⟩ => ⟨S32x48x128x768, .bf16⟩
  | .hbm, ⟨57, _⟩ => ⟨S32x6144x768, .bf16⟩
  | .hbm, ⟨58, _⟩ => ⟨S32x48x768, .f32⟩
  | .hbm, ⟨59, _⟩ => ⟨S32x6144x768, .bf16⟩
  | .hbm, ⟨60, _⟩ => ⟨S32x48x128x768, .bf16⟩
  | .hbm, ⟨61, _⟩ => ⟨S32x48x768, .bf16⟩
  | .hbm, ⟨62, _⟩ => ⟨S32x48x1x768, .bf16⟩
  | .hbm, ⟨63, _⟩ => ⟨S32x48x128x768, .bf16⟩
  | .hbm, ⟨64, _⟩ => ⟨S32x48x128x768, .bf16⟩
  | .hbm, ⟨65, _⟩ => ⟨S32x6144x768, .bf16⟩
  | .hbm, ⟨66, _⟩ => ⟨S65536x32x768, .f32⟩
  | .hbm, ⟨67, _⟩ => ⟨S65536x32x1, .i1⟩
  | .hbm, ⟨68, _⟩ => ⟨S_, .f32⟩
  | .hbm, ⟨69, _⟩ => ⟨S_, .f32⟩
  | .hbm, ⟨70, _⟩ => ⟨S65536x32x768, .i1⟩
  | .hbm, ⟨71, _⟩ => ⟨S65536x32x768, .f32⟩
  | .hbm, ⟨72, _⟩ => ⟨S65536x32x768, .f32⟩
  | .hbm, ⟨73, _⟩ => ⟨S_, .f32⟩
  | .hbm, ⟨74, _⟩ => ⟨S65536x768, .f32⟩
  | .hbm, ⟨75, _⟩ => ⟨S65536x32x768, .f32⟩
  | .hbm, ⟨76, _⟩ => ⟨S65536x32x1, .i1⟩
  | .hbm, ⟨77, _⟩ => ⟨S_, .f32⟩
  | .hbm, ⟨78, _⟩ => ⟨S_, .f32⟩
  | .hbm, ⟨79, _⟩ => ⟨S65536x32x768, .i1⟩
  | .hbm, ⟨80, _⟩ => ⟨S65536x32x768, .f32⟩
  | .hbm, ⟨81, _⟩ => ⟨S65536x32x768, .f32⟩
  | .hbm, ⟨82, _⟩ => ⟨S_, .f32⟩
  | .hbm, ⟨83, _⟩ => ⟨S65536x768, .f32⟩
  | .hbm, ⟨84, _⟩ => ⟨S65536x1, .f32⟩
  | .hbm, ⟨85, _⟩ => ⟨S65536x768, .f32⟩
  | .hbm, ⟨86, _⟩ => ⟨S65536x768, .f32⟩
  | .hbm, ⟨87, _⟩ => ⟨S65536x1, .f32⟩
  | .hbm, ⟨88, _⟩ => ⟨S65536x768, .f32⟩
  | .hbm, ⟨89, _⟩ => ⟨S65536x768, .f32⟩
  | .hbm, ⟨90, _⟩ => ⟨S65536x768x1, .f32⟩
  | .hbm, ⟨91, _⟩ => ⟨S65536x768x1, .f32⟩
  | .hbm, ⟨92, _⟩ => ⟨S65536x768x2, .f32⟩
  | .hbm, ⟨93, _⟩ => ⟨S65536x1536, .f32⟩
  | .hbm, ⟨94, _⟩ => ⟨S65536x1536, .bf16⟩
  | .local _ .vmem, ⟨0, _⟩ => ⟨S65536x6144, .bf16⟩
  | .local _ .vmem, ⟨1, _⟩ => ⟨S65536x1, .f32⟩
  | .local _ .vmem, ⟨2, _⟩ => ⟨S65536x6144, .bf16⟩
  | _, _ => ⟨S65536x6144, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_c : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S65536x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KBody.lean ====
module

public import proofs.«01_k».proof.Proof.Gen.KernelIdeal.Loops
public import proofs.«01_k».proof.Proof.Gen.KernelIdeal.Launch
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

abbrev mT : Memref sig .tc .smem S288 .i32 := Memref.whole main_v44
abbrev mE : Memref sig .tc .smem S288 .i32 := Memref.whole main_v27
abbrev mF : Memref sig .tc .smem S288 .i32 := Memref.whole main_v50
abbrev mA : Memref sig .tc .smem S288 .i32 := Memref.whole main_v53
abbrev mS : Memref sig .tc .smem S288 .i32 := Memref.whole main_v60
abbrev mN : Memref sig .tc .smem S288 .i32 := Memref.whole main_v67
abbrev mW : Memref sig .tc .vmem S6144x1536 .bf16 := Memref.whole cc0_scratch0

/-- The word of a prefetched table at one element. -/
abbrev rdw (arg : Memref sig .tc .smem S288 .i32) (f : BufTy.Contents (Elt F) arg.view.ty) (off : Fin 1 → ℕ)
    (h : ∀ a, off a + S1.size a ≤ S288.size a) : Elt F .i32 :=
  arg.view.readAt (Elt F) (Rect.unit (s := S288) off S1.size h).toLoadRect f
    (Shape.Idx.first (numel1_S1.symm ▸ Nat.one_pos))

/-- Whether a step dequantises: the body's first condition, on the table word it loads. -/
abbrev condF (v : BitVec 32) : Prop := Scalar.cmpi .ne (Scalar.extui (Scalar.cmpi .eq v 1#32) : BitVec 32) 0#32 = 1#1

/-- What a step leaves in the scratch (`fW`) and in the output's staging buffer (`fO`). -/
structure BodyPost (c : Dev nD) (i : grid0.Coords)
    (arg1 : Memref sig .tc .smem S288 .i32) (harg1 : arg1.IsWhole)
    (arg2 : Memref sig .tc .smem S288 .i32) (harg2 : arg2.IsWhole)
    (arg3 : Memref sig .tc .smem S288 .i32) (harg3 : arg3.IsWhole)
    (arg4 : Memref sig .tc .smem S288 .i32) (harg4 : arg4.IsWhole)
    (arg5 : Memref sig .tc .smem S288 .i32) (harg5 : arg5.IsWhole)
    (arg6 : Memref sig .tc .smem S288 .i32) (harg6 : arg6.IsWhole)
    (arg7 : Memref sig .tc .smem S32 .f32) (harg7 : arg7.IsWhole) (arg8 : Memref sig .tc .vmem S256x6144 .bf16) (harg8 : arg8.IsWhole)
    (arg9 : Memref sig .tc .vmem S1x6144x768 .i8) (harg9 : arg9.IsWhole) (arg10 : Memref sig .tc .vmem S1x48x1536 .f32) (harg10 : arg10.IsWhole)
    (arg11 : Memref sig .tc .vmem S256x1536 .bf16) (harg11 : arg11.IsWhole) (arg12 : Memref sig .tc .vmem S6144x1536 .bf16) (harg12 : arg12.IsWhole)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (hE : k0_chk1 (rdw arg4 f4 (k0_off32 i) (k0_off32_inb i)) (rdw arg2 f2 (k0_off33 i) (k0_off33_inb i)))
    (fO : BufTy.Contents (Elt F) arg11.view.ty) (fW : BufTy.Contents (Elt F) arg12.view.ty) : Prop where
  fresh : condF (rdw arg3 f3 (k0_off1 i) (k0_off1_inb i)) →
    fW = arg12.view.writes (Elt F) f12 (pb_k0_t1 (F := F) Variants.none c none i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) f9 f10 k0_t1_loop.trips)
  kept : ¬ condF (rdw arg3 f3 (k0_off1 i) (k0_off1_inb i)) → fW = f12
  active : ∀ hA : k0_cond2 (rdw arg4 f4 (k0_off32 i) (k0_off32_inb i)) = 1#1,
    fO = arg11.view.writes (Elt F) f11 [⟨Rect.unit ![0, 0] S256x1536.size inb_S256x1536_S256x1536_0_0,
      k0_pay3 (arg7.view.readAt (Elt F) (Rect.unit (s := S32) (k0_off34 (rdw arg2 f2 (k0_off33 i) (k0_off33_inb i))) S1.size (hE hA)).toLoadRect f7
          (Shape.Idx.first (numel1_S1.symm ▸ Nat.one_pos)))
        (arg8.view.readAt (Elt F) (Rect.unit ![0, 0] S256x6144.size inb_S256x6144_S256x6144_0_0).toLoadRect f8)
        (arg12.view.readAt (Elt F) (Rect.unit ![0, 0] S6144x1536.size inb_S6144x1536_S6144x1536_0_0).toLoadRect fW)
        (rdw arg1 f1 (k0_off35 i) (k0_off35_inb i)) (rdw arg5 f5 (k0_off35 i) (k0_off35_inb i)) (rdw arg6 f6 (k0_off35 i) (k0_off35_inb i))
        (arg11.view.readAt (Elt F) (Rect.unit ![0, 0] S256x1536.size inb_S256x1536_S256x1536_0_0).toLoadRect f11)⟩]
  idle : ¬ k0_cond2 (rdw arg4 f4 (k0_off32 i) (k0_off32_inb i)) = 1#1 → fO = f11

set_option maxHeartbeats 2000000 in
theorem bodyRun (c : Dev nD) (i : grid0.Coords)
    (arg1 : Memref sig .tc .smem S288 .i32) (harg1 : arg1.IsWhole)
    (arg2 : Memref sig .tc .smem S288 .i32) (harg2 : arg2.IsWhole)
    (arg3 : Memref sig .tc .smem S288 .i32) (harg3 : arg3.IsWhole)
    (arg4 : Memref sig .tc .smem S288 .i32) (harg4 : arg4.IsWhole)
    (arg5 : Memref sig .tc .smem S288 .i32) (harg5 : arg5.IsWhole)
    (arg6 : Memref sig .tc .smem S288 .i32) (harg6 : arg6.IsWhole)
    (arg7 : Memref sig .tc .smem S32 .f32) (harg7 : arg7.IsWhole) (arg8 : Memref sig .tc .vmem S256x6144 .bf16) (harg8 : arg8.IsWhole)
    (arg9 : Memref sig .tc .vmem S1x6144x768 .i8) (harg9 : arg9.IsWhole) (arg10 : Memref sig .tc .vmem S1x48x1536 .f32) (harg10 : arg10.IsWhole)
    (arg11 : Memref sig .tc .vmem S256x1536 .bf16) (harg11 : arg11.IsWhole) (arg12 : Memref sig .tc .vmem S6144x1536 .bf16) (harg12 : arg12.IsWhole)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (hE : k0_chk1 (rdw arg4 f4 (k0_off32 i) (k0_off32_inb i)) (rdw arg2 f2 (k0_off33 i) (k0_off33_inb i)))
    (q : PosShare TreeShare) (K : PUnit → sProp 𝕄) :
    iprop((arg1.view.loc (c : Thread nD τ) ↦[arg1.view.set]{q} f1)
      ∗ (arg2.view.loc (c : Thread nD τ) ↦[arg2.view.set]{q} f2)
      ∗ (arg3.view.loc (c : Thread nD τ) ↦[arg3.view.set]{q} f3)
      ∗ (arg4.view.loc (c : Thread nD τ) ↦[arg4.view.set]{q} f4)
      ∗ (arg5.view.loc (c : Thread nD τ) ↦[arg5.view.set]{q} f5)
      ∗ (arg6.view.loc (c : Thread nD τ) ↦[arg6.view.set]{q} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ ((∃ fO fW, ⌜BodyPost c i arg1 harg1 arg2 harg2 arg3 harg3 arg4 harg4 arg5 harg5 arg6 harg6 arg7 harg7 arg8 harg8 arg9 harg9 arg10 harg10 arg11 harg11 arg12 harg12 f1 f2 f3 f4 f5 f6 f7 f8 f9 f10 f11 f12 hE fO fW⌝ ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{q} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} fO) ∗ (arg12.view.loc (c : Thread nD τ) ↦[arg12.view.set]{fullShare} fW)) -∗ K ⟨⟩))
    ⊢ wp frame (wpE (defs₀ (F := F)) Variants.none c none) Set.univ
        (cc0_moe_dot i arg1 harg1 arg2 harg2 arg3 harg3 arg4 harg4 arg5 harg5 arg6 harg6 arg7 harg7 arg8 harg8 arg9 harg9 arg10 harg10 arg11 harg11 arg12 harg12) K := by
  simp only [cc0_moe_dot_eq_skeleton]; unfold cc0_moe_dot_skel
  iintro ⟨H1, H2, H3, H4, H5, H6, H7, H8, H9, H10, H11, H12, HK⟩
  sl_exec
  split
  · rename_i hF
    sl_exec
    split
    · rename_i hA
      sl_exec (disch := exact hE)
      sl_step
      iapply HK
      iexists _; iexists _
      isplitr
      rotate_left
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      ipureintro
      exact ⟨fun _ => rfl, fun h => absurd hF h, fun _ => rfl, fun h => absurd hA h⟩

    · rename_i hA
      sl_exec
      sl_step
      iapply HK
      iexists _; iexists _
      isplitr
      rotate_left
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      ipureintro
      exact ⟨fun _ => rfl, fun h => absurd hF h, fun h => absurd h hA, fun _ => rfl⟩

  · rename_i hF
    sl_exec
    split
    · rename_i hA
      sl_exec (disch := exact hE)
      sl_step
      iapply HK
      iexists _; iexists _
      isplitr
      rotate_left
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      ipureintro
      exact ⟨fun h => absurd h hF, fun _ => rfl, fun _ => rfl, fun h => absurd hA h⟩

    · rename_i hA
      sl_exec
      sl_step
      iapply HK
      iexists _; iexists _
      isplitr
      rotate_left
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      ipureintro
      exact ⟨fun h => absurd h hF, fun _ => rfl, fun h => absurd h hA, fun _ => rfl⟩

end Cert.KernelIdeal.Hand

end
-- ==== Proof.KRun.lean ====
/- The pipeline's run, for any float values: the proof data (each input window left as found, the output window and the
   scratch under a relation and an invariant the caller names), the body obligation from `bodyRun`, and the launch. -/
module

public import proofs.«01_k».proof.Proof.KBody
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

/-- The host operations before the region, stretch by stretch. -/
abbrev opss : List (List (HloOp τ sig (Elt F))) :=
  [hostOps0, hostOps0_1, hostOps0_2, hostOps0_3, hostOps0_4, hostOps0_5, hostOps0_6, hostOps0_7, hostOps0_8, hostOps0_9,
    hostOps0_10, hostOps0_11]

/-- A core's buffers when the region is entered. -/
def Vent (m : (ℓ : Loc nD τ sig) → Buf (Elt F) ℓ) (c : Dev nD) (b : Ref sig .tc) : Buf (Elt F) ((c : Thread nD τ).loc b) :=
  StableHlo.after (opss (F := F)).flatten (fun b => m (c, b)) b

theorem hmain (m : (ℓ : Loc nD τ sig) → Buf (Elt F) ℓ) :
    Pipeline.HMainP (Ix := Unit) (Name := ℕ) (U := UR sig nD τ) (Lvl := ℕ) (pcfgs (F := F)) 0 defs₀ Variants.none m main (Vent m) :=
  Pipeline.hmainP_prefixes (pcfgs (F := F)) 0 defs₀ Variants.none m main opss
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub, hostOps0_11_sub⟩
    (by simp only [opss, List.Forall]; repeat' constructor) main_chain

/-- The six tables, each held at half its share. -/
abbrev tabs (v : pre0.Contents (Elt F)) (c : Dev nD) : sProp 𝕄 := iprop(
      ((mT.view.loc (c : Thread nD τ)) ↦[mT.view.set]{fullShare.right} v 0)
      ∗ ((mE.view.loc (c : Thread nD τ)) ↦[mE.view.set]{fullShare.right} v 1)
      ∗ ((mF.view.loc (c : Thread nD τ)) ↦[mF.view.set]{fullShare.right} v 2)
      ∗ ((mA.view.loc (c : Thread nD τ)) ↦[mA.view.set]{fullShare.right} v 3)
      ∗ ((mS.view.loc (c : Thread nD τ)) ↦[mS.view.set]{fullShare.right} v 4)
      ∗ ((mN.view.loc (c : Thread nD τ)) ↦[mN.view.set]{fullShare.right} v 5))

/-- The tables' halves, listed. -/
theorem PhiT0_eq (v : pre0.Contents (Elt F)) (c : Dev nD) :
    (Pipeline.ΦT (U := UR sig nD τ) pre0 v c : sProp 𝕄) = tabs v c := by
  have h := bigSep_univ_eq_bigSepL [(0 : Fin 6), (1 : Fin 6), (2 : Fin 6), (3 : Fin 6), (4 : Fin 6), (5 : Fin 6)] (by decide) (by decide)
    (fun k : Fin 6 => iprop((((c : Dev nD) : Thread nD τ).loc (pre0.ref k)) ↦{fullShare.right} v k) : Fin 6 → sProp 𝕄)
  simp only [tabs, Memref.view_whole, View.set_whole]
  exact h

section Run

variable (a : (p : Fin 1) → (pcfgs (F := F) p).Adm)
variable (V : (c : Dev nD) → (b : Ref sig .tc) → Buf (Elt F) ((c : Thread nD τ).loc b))
variable (R : Dev nD → Fin (cfg0 (a 0)).N → (Y X : S256x1536.Idx → Elt F .bf16) → Prop)
variable (I : Dev nD → ℕ → (S6144x1536.Idx → Elt F .bf16) → Prop)

/-- The proof data: inputs left as found, the output's buffer related by `R`, the scratch within `I`. -/
def rdat (c : Dev nD) : RDat τ (Elt F) Unit ℕ (UR sig nD τ) ℕ (cfg0 (a 0)) c where
  A w := V c (Pipeline.arrRef spec0 w)
  after := fun
    | ⟨0, _⟩ => fun _ Y X => X = Y
    | ⟨1, _⟩ => fun _ Y X => X = Y
    | ⟨2, _⟩ => fun _ Y X => X = Y
    | ⟨3, _⟩ => fun _ Y X => X = Y
    | ⟨4, _⟩ => R c
    | ⟨_ + 5, h⟩ => absurd h (Nat.not_lt.2 (Nat.le_add_left _ _))
  Φ t := iprop((∃ f, ⌜I c t.val f⌝ ∗ ((mW.view.loc (c : Thread nD τ)) ↦[mW.view.set]{fullShare} f)) ∗ (∃ r, prngReg c r) ∗ tabs (a 0).1 c)
  q _ := fullShare
  owed _ := 0

/-- What the step at point `t` leaves, at the pipeline's own memrefs. -/
abbrev StepPost (hE : ∀ i : grid0.Coords, k0_chk1 (rdw mA ((a 0).1 3) (k0_off32 i) (k0_off32_inb i)) (rdw mE ((a 0).1 1) (k0_off33 i) (k0_off33_inb i)))
    (c : Dev nD) (t : Fin (cfg0 (F := F) (a 0)).N) (s : (w : Fin 5) → Fin ((spec0 w).nbuf))
    (f7 : BufTy.Contents (Elt F) (spec0_0.stage (s 0)).view.ty) (f8 : BufTy.Contents (Elt F) (spec0_1.stage (s 1)).view.ty)
    (f9 : BufTy.Contents (Elt F) (spec0_2.stage (s 2)).view.ty) (f10 : BufTy.Contents (Elt F) (spec0_3.stage (s 3)).view.ty)
    (f11 : BufTy.Contents (Elt F) (spec0_4.stage (s 4)).view.ty) (f12 : S6144x1536.Idx → Elt F .bf16)
    (fO : BufTy.Contents (Elt F) (spec0_4.stage (s 4)).view.ty) (fW : S6144x1536.Idx → Elt F .bf16) : Prop :=
  BodyPost c (grid0.coords t) mT (Memref.isWhole_whole _) mE (Memref.isWhole_whole _) mF (Memref.isWhole_whole _) mA (Memref.isWhole_whole _)
    mS (Memref.isWhole_whole _) mN (Memref.isWhole_whole _) (spec0_0.stage (s 0)) (hstage0_0 ((s 0).cast nbuf0_0))
    (spec0_1.stage (s 1)) (hstage0_1 ((s 1).cast nbuf0_1)) (spec0_2.stage (s 2)) (hstage0_2 ((s 2).cast nbuf0_2))
    (spec0_3.stage (s 3)) (hstage0_3 ((s 3).cast nbuf0_3)) (spec0_4.stage (s 4)) (hstage0_4 ((s 4).cast nbuf0_4))
    mW (Memref.isWhole_whole _) ((a 0).1 0) ((a 0).1 1) ((a 0).1 2) ((a 0).1 3) ((a 0).1 4) ((a 0).1 5) f7 f8 f9 f10 f11 f12 (hE _) fO fW

/-- A step keeps the invariant and establishes the output's relation. -/
def StepOk (hE : ∀ i : grid0.Coords, k0_chk1 (rdw mA ((a 0).1 3) (k0_off32 i) (k0_off32_inb i)) (rdw mE ((a 0).1 1) (k0_off33 i) (k0_off33_inb i)))
    (c : Dev nD) : Prop :=
  ∀ (t : Fin (cfg0 (F := F) (a 0)).N) (s : (w : Fin 5) → Fin ((spec0 w).nbuf)) f7 f8 f9 f10 f11 f12 fO fW,
    (rdat a V R I c).Finds 0 t ((spec0_0.stage (s 0)).view.read (Elt F) f7) →
    (rdat a V R I c).Finds 1 t ((spec0_1.stage (s 1)).view.read (Elt F) f8) →
    (rdat a V R I c).Finds 2 t ((spec0_2.stage (s 2)).view.read (Elt F) f9) →
    (rdat a V R I c).Finds 3 t ((spec0_3.stage (s 3)).view.read (Elt F) f10) →
    (rdat a V R I c).Finds 4 t ((spec0_4.stage (s 4)).view.read (Elt F) f11) →
    I c t.val f12 → StepPost a hE c t s f7 f8 f9 f10 f11 f12 fO fW →
    I c (t.val + 1) fW ∧ R c t ((spec0_4.stage (s 4)).view.read (Elt F) f11) ((spec0_4.stage (s 4)).view.read (Elt F) fO)

set_option maxHeartbeats 2000000 in
theorem body (hE) (c : Dev nD) (hs : StepOk a V R I hE c) :
    (rdat a V R I c).BodyObligation (defs₀ (F := F)) Variants.none () Set.univ := by
  intro t Y hY
  rw [show (bigSep Finset.univ fun w => owns c (((cfg0 (F := F) (a 0)).win w).stage ((cfg0 (F := F) (a 0)).slots t w)) fullShare (Y w) : sProp 𝕄) = _ from bigSep_W0 _]
  rw [show (fun w => iprop(∃ X, ⌜(rdat a V R I c).after w t (Y w) X⌝ ∗ owns c (((cfg0 (F := F) (a 0)).win w).stage ((cfg0 (F := F) (a 0)).slots t w)) fullShare X) : Fin 5 → sProp 𝕄) = _ from rfl]
  simp only [bigSep_W0]
  unfold defs₀; rw [Defs.onTc_tc]
  simp only [rdat, tabs, owns]
  unfold RDat.owesAt Pipeline.owesWithin
  iintro ⟨⟨⟨%f12, %hI, H12⟩, HR, H1, H2, H3, H4, H5, H6⟩, ⟨%W, %hW, HO⟩, ⟨%f7, %h7, H7⟩, ⟨%f8, %h8, H8⟩, ⟨%f9, %h9, H9⟩, ⟨%f10, %h10, H10⟩, ⟨%f11, %h11, H11⟩⟩
  iapply (bodyRun (F := F) c (grid0.coords t) mT (Memref.isWhole_whole _) mE (Memref.isWhole_whole _) mF (Memref.isWhole_whole _) mA (Memref.isWhole_whole _)
    mS (Memref.isWhole_whole _) mN (Memref.isWhole_whole _) (spec0_0.stage _) (hstage0_0 _)
    (spec0_1.stage _) (hstage0_1 _) (spec0_2.stage _) (hstage0_2 _)
    (spec0_3.stage _) (hstage0_3 _) (spec0_4.stage _) (hstage0_4 _)
    mW (Memref.isWhole_whole _) ((a 0).1 0) ((a 0).1 1) ((a 0).1 2) ((a 0).1 3) ((a 0).1 4) ((a 0).1 5) f7 f8 f9 f10 f11 f12 (hE _) fullShare.right _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨%fO, %fW, %hB, H1, H2, H3, H4, H5, H6, H7, H8, H9, H10, H11, H12⟩
  have hk := hs t ((cfg0 (F := F) (a 0)).slots t) f7 f8 f9 f10 f11 f12 fO fW (h7 ▸ hY 0) (h8 ▸ hY 1) (h9 ▸ hY 2) (h10 ▸ hY 3) (h11 ▸ hY 4) hI hB
  isplitl [H12 HR H1 H2 H3 H4 H5 H6]
  · isplitl [H12]
    · iexists fW
      isplitr
      · ipureintro; exact hk.1
      · iexact H12
    isplitl [HR]; · iexact HR
    isplitl [H1]; · iexact H1
    isplitl [H2]; · iexact H2
    isplitl [H3]; · iexact H3
    isplitl [H4]; · iexact H4
    isplitl [H5]; · iexact H5
    iexact H6
  isplitl [HO]
  · iexists W
    isplitr
    · ipureintro; exact fun _ _ => Or.inl trivial
    · iexact HO
  isplitl [H7]
  · iexists (Y 0)
    isplitr
    · ipureintro; rfl
    · iexists f7
      isplitr
      · ipureintro; exact h7
      · iexact H7
  isplitl [H8]
  · iexists (Y 1)
    isplitr
    · ipureintro; rfl
    · iexists f8
      isplitr
      · ipureintro; exact h8
      · iexact H8
  isplitl [H9]
  · iexists (Y 2)
    isplitr
    · ipureintro; rfl
    · iexists f9
      isplitr
      · ipureintro; exact h9
      · iexact H9
  isplitl [H10]
  · iexists (Y 3)
    isplitr
    · ipureintro; rfl
    · iexists f10
      isplitr
      · ipureintro; exact h10
      · iexact H10
  · iexists ((spec0_4.stage ((cfg0 (F := F) (a 0)).slots t 4)).view.read (Elt F) fO)
    isplitr
    · ipureintro; exact h11 ▸ hk.2
    · iexists fO
      isplitr
      · ipureintro; rfl
      · iexact H11

/-- Entering the region: the scratch and the tables in hand. -/
theorem phi_in (hI : ∀ c f, I c 0 f) (c : Dev nD) :
    iprop(Pipeline.ΦA spec0 c ∗ Pipeline.ΦT pre0 (a 0).1 c) ⊢ (rdat a V R I c).Φ 0 := by
  rw [show (rdat a V R I c).Φ 0 = iprop((∃ f, ⌜I c 0 f⌝ ∗ ((mW.view.loc (c : Thread nD τ)) ↦[mW.view.set]{fullShare} f)) ∗ (∃ r, prngReg c r) ∗ tabs (a 0).1 c) from rfl, ← PhiT0_eq]
  unfold Pipeline.ΦA
  rw [scopedRest0_eq]
  simp only [Memref.view_whole, View.set_whole]
  iintro ⟨⟨⟨%f, Hf⟩, HR⟩, HT⟩
  isplitl [Hf]
  · iexists f
    isplitr
    · ipureintro; exact hI c f
    · iexact Hf
  isplitl [HR]; · iexact HR
  iexact HT

/-- Leaving the region. -/
theorem phi_out (c : Dev nD) :
    (rdat a V R I c).Φ (Fin.last _) ⊢ Pipeline.ΦA spec0 c := by
  rw [show (rdat a V R I c).Φ (Fin.last _) = iprop((∃ f, ⌜I c _ f⌝ ∗ ((mW.view.loc (c : Thread nD τ)) ↦[mW.view.set]{fullShare} f)) ∗ (∃ r, prngReg c r) ∗ tabs (a 0).1 c) from rfl]
  unfold Pipeline.ΦA
  rw [scopedRest0_eq]
  simp only [Memref.view_whole, View.set_whole]
  iintro ⟨⟨%f, %h, Hf⟩, HR, HT⟩
  isplitl [Hf]
  · iexists f
    iexact Hf
  · iexact HR

set_option backward.isDefEq.respectTransparency.types false in
set_option maxHeartbeats 1000000 in
/-- The region's run from contents `V` at its entry. -/
theorem runV (m : (ℓ : Loc nD τ sig) → Buf (Elt F) ℓ) (g : Dev nD → PrngReg) (hE) (hs : ∀ c, StepOk a V R I hE c)
    (hI : ∀ c f, I c 0 f) (hpf : ∀ c k, V c (pre0.ref k) = (a 0).1 k)
    (hm : Pipeline.HMainP (Ix := Unit) (Name := ℕ) (U := UR sig nD τ) (Lvl := ℕ) (pcfgs (F := F)) 0 defs₀ Variants.none m main V) :
    θ_run (defs (F := F)) (onTc main) ⟨m, fun _ => 0, g⟩
      (fun r => RDat.FramePost (cfg0 (F := F) (a 0)) (rdat a V R I) V r ∧ r.2.sem = (fun _ => 0)) :=
  Pipeline.RDat.θ_run_frameP_track (pcfgs (F := F)) a 0 launch0 (defs₀ (F := F)) Variants.none (rdat a V R I) m g main
    (fun c => body a V R I hE c (hs c)) (fun c w => (rdat a V R I c).share_full (fun _ => rfl) w) (fun _ _ => rfl) V hm
    (fun _ _ => rfl) hpf (phi_in a V R I hI) (phi_out a V R I) _ (fun _ h => h)

end Run

end Cert.KernelIdeal.Hand

end
-- ==== Proof.HostVals.lean ====
/- The tables that the host operations compute from the group sizes, as functions of the group sizes; and that the region
   finds exactly these. -/
module

public import proofs.«01_k».proof.Proof.KRun
public import Idealize.ShloMosaic.Lib.Routing.Model

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo

variable {F : FTy → Type} [FloatOps F] [∀ e, Nonempty (Elt F e)]

/-- A constant word at every expert. -/
abbrev k32 (v : BitVec 32) : IVec S32 32 := broadcastInDim S32 ![] bcast_S_S32 (constantI S_ 32 v)
/-- A constant word at every step. -/
abbrev k288 (v : BitVec 32) : IVec S288 32 := broadcastInDim S288 ![] bcast_S_S288 (constantI S_ 32 v)
/-- The running sum. -/
def cumI (x : IVec S32 32) : IVec S32 32 :=
  Host.reduceWindow IntOp.addi ![32] ![1] ![31] ![0] x (broadcastInDim S_ ![] bcast_S_S_ (constantI S_ 32 0#32)) reduceWindows_S32_S32_w32s1p31_0 h_S_
/-- Each expert's first row. -/
def startsI (gs : IVec S32 32) : IVec S32 32 := subi (cumI gs) gs
/-- Each expert's first row tile. -/
def firstI (gs : IVec S32 32) : IVec S32 32 := Routing.pyDiv bcast_S_S32 (startsI gs) (constantI S_ 32 256#32)
/-- How many row tiles each expert visits. -/
def visI (gs : IVec S32 32) : IVec S32 32 :=
  addi (subi (select (cmpi .sgt gs (k32 0#32)) (Routing.pyDiv bcast_S_S32 (subi (cumI gs) (k32 1#32)) (constantI S_ 32 256#32))
    (subi (firstI gs) (k32 1#32))) (firstI gs)) (k32 1#32)
/-- The number of steps that do something, from the running sum of the visits. -/
def totF (cv : IVec S32 32) : IVec S_ 32 := shapeCast S_ (extractStridedSlice S1 ![31] cv slices_S32_S1_31) shapeCasts_S1_S_
/-- Each step's number, cut at the last that does something. -/
def clF (cv : IVec S32 32) : IVec S288 32 :=
  minsi (iotaInDim S288 32 0) (broadcastInDim S288 ![] bcast_S_S288 (subi (totF cv) (constantI S_ 32 1#32)))
/-- Each step's expert. -/
def exF (cv : IVec S32 32) : IVec S288 32 :=
  Host.reduce IntOp.addi (extui 32 (cmpi .sle (broadcastInDim S288x32 ![0, 1] bcast_S1x32_S288x32_0_1 (broadcastInDim S1x32 ![1] bcast_S32_S1x32_1 cv))
    (broadcastInDim S288x32 ![0, 1] bcast_S288x1_S288x32_0_1 (broadcastInDim S288x1 ![0] bcast_S288_S288x1_0 (clF cv)))) natLt_1_32)
    (constantI S_ 32 0#32) reducesTo_S288x32_S288_d1 h_S_
/-- A table over experts, read at each step's expert. -/
def gatF (t : IVec S32 32) (ex : IVec S288 32) : IVec S288 32 :=
  Host.gather gather_S32_S288x1_S288_n_0_n_n_0_1_1 t
    (broadcastInDim S288x1 ![0] bcast_S288_S288x1_0 (select (cmpi .slt ex (k288 0#32)) (addi ex (k288 32#32)) ex))
/-- How many tiles of its expert come before each step. -/
def wiF (cv vis : IVec S32 32) : IVec S288 32 := subi (clF cv) (gatF (subi cv vis) (exF cv))
/-- Which steps do something. -/
def liveF (cv : IVec S32 32) : IVec S288 1 := cmpi .slt (iotaInDim S288 32 0) (broadcastInDim S288 ![] bcast_S_S288 (totF cv))

/-- The six tables. -/
def tileI (gs : IVec S32 32) : IVec S288 32 := addi (gatF (firstI gs) (exF (cumI (visI gs)))) (wiF (cumI (visI gs)) (visI gs))
def expertI (gs : IVec S32 32) : IVec S288 32 := exF (cumI (visI gs))
def freshI (gs : IVec S32 32) : IVec S288 32 :=
  select (andi (cmpi .eq (wiF (cumI (visI gs)) (visI gs)) (k288 0#32)) (liveF (cumI (visI gs)))) (k288 1#32) (k288 0#32)
def activeI (gs : IVec S32 32) : IVec S288 32 := extui 32 (liveF (cumI (visI gs))) natLt_1_32
def beginI (gs : IVec S32 32) : IVec S288 32 := gatF (startsI gs) (exF (cumI (visI gs)))
def endI (gs : IVec S32 32) : IVec S288 32 := gatF (cumI gs) (exF (cumI (visI gs)))

section Stages
variable (W : Valuation τ sig (Elt F))

set_option maxHeartbeats 400000

theorem st0 : after hostOps0 W (Proc.devRef .tc main_v0) = cumI (W (Proc.devRef .tc main_arg1)) := by
  after_results_simp
  simp only [TRef.toBuf, TRef.ofBuf, cast_cast, cast_eq]
  try rfl
theorem st1 : after hostOps0_1 W (Proc.devRef .tc main_v1) = (subi (W (Proc.devRef .tc main_v0)) (W (Proc.devRef .tc main_arg1)) : IVec S32 32) := by
  after_results_simp
theorem st1c : after hostOps0_1 W (Proc.devRef .tc main_c) = constantI S_ 32 256#32 := by
  after_results_simp
theorem st2 : after hostOps0_2 W (Proc.devRef .tc main_v2) = Routing.pyDiv bcast_S_S32 (W (Proc.devRef .tc main_v1)) (W (Proc.devRef .tc main_c)) := by
  after_results_simp
  simp only [TRef.toBuf, TRef.ofBuf, cast_cast, cast_eq]
  try rfl
theorem st3 : after hostOps0_3 W (Proc.devRef .tc main_v4) = (cmpi .sgt (W (Proc.devRef .tc main_arg1)) (k32 0#32) : IVec S32 1) := by
  after_results_simp
theorem st3b : after hostOps0_3 W (Proc.devRef .tc main_v6) = (subi (W (Proc.devRef .tc main_v0)) (k32 1#32) : IVec S32 32) := by
  after_results_simp
theorem st3c : after hostOps0_3 W (Proc.devRef .tc main_c_2) = constantI S_ 32 256#32 := by
  after_results_simp
theorem st4 : after hostOps0_4 W (Proc.devRef .tc main_v7) = Routing.pyDiv bcast_S_S32 (W (Proc.devRef .tc main_v6)) (W (Proc.devRef .tc main_c_2)) := by
  after_results_simp
  simp only [TRef.toBuf, TRef.ofBuf, cast_cast, cast_eq]
  try rfl
theorem st5 : after hostOps0_5 W (Proc.devRef .tc main_v9) = (subi (W (Proc.devRef .tc main_v2)) (k32 1#32) : IVec S32 32) := by
  after_results_simp
theorem st6 : after hostOps0_6 W (Proc.devRef .tc main_v10) = (select (W (Proc.devRef .tc main_v4)) (W (Proc.devRef .tc main_v7)) (W (Proc.devRef .tc main_v9)) : IVec S32 32) := by
  after_results_simp
  simp only [TRef.toBuf, TRef.ofBuf, cast_cast, cast_eq]
  try rfl
theorem st7 : after hostOps0_7 W (Proc.devRef .tc main_v13) = (addi (subi (W (Proc.devRef .tc main_v10)) (W (Proc.devRef .tc main_v2))) (k32 1#32) : IVec S32 32) := by
  after_results_simp
theorem st8 : after hostOps0_8 W (Proc.devRef .tc main_v14) = cumI (W (Proc.devRef .tc main_v13)) := by
  after_results_simp
  simp only [TRef.toBuf, TRef.ofBuf, cast_cast, cast_eq]
  try rfl
theorem st9_15 : after hostOps0_9 W (Proc.devRef .tc main_v15) = (iotaInDim S288 32 0 : IVec S288 32) := by
  after_results_simp
  try rfl
theorem st9_17 : after hostOps0_9 W (Proc.devRef .tc main_v17) = (totF (W (Proc.devRef .tc main_v14)) : IVec S_ 32) := by
  after_results_simp
  try rfl
theorem st9_27 : after hostOps0_9 W (Proc.devRef .tc main_v27) = (exF (W (Proc.devRef .tc main_v14)) : IVec S288 32) := by
  after_results_simp
  try rfl
theorem st9_44 : after hostOps0_9 W (Proc.devRef .tc main_v44) = (addi (gatF (W (Proc.devRef .tc main_v2)) (exF (W (Proc.devRef .tc main_v14)))) (wiF (W (Proc.devRef .tc main_v14)) (W (Proc.devRef .tc main_v13))) : IVec S288 32) := by
  after_results_simp
  try rfl
theorem st9_49 : after hostOps0_9 W (Proc.devRef .tc main_v49) = (andi (cmpi .eq (wiF (W (Proc.devRef .tc main_v14)) (W (Proc.devRef .tc main_v13))) (k288 0#32)) (liveF (W (Proc.devRef .tc main_v14))) : IVec S288 1) := by
  after_results_simp
  try rfl
theorem st9_c12 : after hostOps0_9 W (Proc.devRef .tc main_c_12) = (constantI S_ 32 1#32 : IVec S_ 32) := by
  after_results_simp
  try rfl
theorem st9_c13 : after hostOps0_9 W (Proc.devRef .tc main_c_13) = (constantI S_ 32 0#32 : IVec S_ 32) := by
  after_results_simp
  try rfl
theorem st10_50 : after hostOps0_10 W (Proc.devRef .tc main_v50) = (select (W (Proc.devRef .tc main_v49)) (broadcastInDim S288 ![] bcast_S_S288 (W (Proc.devRef .tc main_c_12))) (broadcastInDim S288 ![] bcast_S_S288 (W (Proc.devRef .tc main_c_13))) : IVec S288 32) := by
  after_results_simp
  simp only [TRef.toBuf, TRef.ofBuf, cast_cast, cast_eq]
  try rfl
theorem st11_53 : after hostOps0_11 W (Proc.devRef .tc main_v53) = (extui 32 (cmpi .slt (W (Proc.devRef .tc main_v15)) (broadcastInDim S288 ![] bcast_S_S288 (W (Proc.devRef .tc main_v17)))) natLt_1_32 : IVec S288 32) := by
  after_results_simp
  try rfl
theorem st11_60 : after hostOps0_11 W (Proc.devRef .tc main_v60) = (gatF (W (Proc.devRef .tc main_v1)) (W (Proc.devRef .tc main_v27)) : IVec S288 32) := by
  after_results_simp
  try rfl
theorem st11_67 : after hostOps0_11 W (Proc.devRef .tc main_v67) = (gatF (W (Proc.devRef .tc main_v0)) (W (Proc.devRef .tc main_v27)) : IVec S288 32) := by
  after_results_simp
  try rfl
theorem kp_arg1 : after hostOps0 W (Proc.devRef .tc main_arg1) = W (Proc.devRef .tc main_arg1) := by
  after_results_simp
theorem kp_1_arg1 : after hostOps0_1 W (Proc.devRef .tc main_arg1) = W (Proc.devRef .tc main_arg1) := by
  after_results_simp
theorem kp_1_v0 : after hostOps0_1 W (Proc.devRef .tc main_v0) = W (Proc.devRef .tc main_v0) := by
  after_results_simp
theorem kp_2_arg1 : after hostOps0_2 W (Proc.devRef .tc main_arg1) = W (Proc.devRef .tc main_arg1) := by
  after_results_simp
theorem kp_2_v0 : after hostOps0_2 W (Proc.devRef .tc main_v0) = W (Proc.devRef .tc main_v0) := by
  after_results_simp
theorem kp_2_v1 : after hostOps0_2 W (Proc.devRef .tc main_v1) = W (Proc.devRef .tc main_v1) := by
  after_results_simp
theorem kp_3_v0 : after hostOps0_3 W (Proc.devRef .tc main_v0) = W (Proc.devRef .tc main_v0) := by
  after_results_simp
theorem kp_3_v1 : after hostOps0_3 W (Proc.devRef .tc main_v1) = W (Proc.devRef .tc main_v1) := by
  after_results_simp
theorem kp_3_v2 : after hostOps0_3 W (Proc.devRef .tc main_v2) = W (Proc.devRef .tc main_v2) := by
  after_results_simp
theorem kp_4_v0 : after hostOps0_4 W (Proc.devRef .tc main_v0) = W (Proc.devRef .tc main_v0) := by
  after_results_simp
theorem kp_4_v1 : after hostOps0_4 W (Proc.devRef .tc main_v1) = W (Proc.devRef .tc main_v1) := by
  after_results_simp
theorem kp_4_v2 : after hostOps0_4 W (Proc.devRef .tc main_v2) = W (Proc.devRef .tc main_v2) := by
  after_results_simp
theorem kp_4_v4 : after hostOps0_4 W (Proc.devRef .tc main_v4) = W (Proc.devRef .tc main_v4) := by
  after_results_simp
theorem kp_5_v0 : after hostOps0_5 W (Proc.devRef .tc main_v0) = W (Proc.devRef .tc main_v0) := by
  after_results_simp
theorem kp_5_v1 : after hostOps0_5 W (Proc.devRef .tc main_v1) = W (Proc.devRef .tc main_v1) := by
  after_results_simp
theorem kp_5_v2 : after hostOps0_5 W (Proc.devRef .tc main_v2) = W (Proc.devRef .tc main_v2) := by
  after_results_simp
theorem kp_5_v4 : after hostOps0_5 W (Proc.devRef .tc main_v4) = W (Proc.devRef .tc main_v4) := by
  after_results_simp
theorem kp_5_v7 : after hostOps0_5 W (Proc.devRef .tc main_v7) = W (Proc.devRef .tc main_v7) := by
  after_results_simp
theorem kp_6_v0 : after hostOps0_6 W (Proc.devRef .tc main_v0) = W (Proc.devRef .tc main_v0) := by
  after_results_simp
theorem kp_6_v1 : after hostOps0_6 W (Proc.devRef .tc main_v1) = W (Proc.devRef .tc main_v1) := by
  after_results_simp
theorem kp_6_v2 : after hostOps0_6 W (Proc.devRef .tc main_v2) = W (Proc.devRef .tc main_v2) := by
  after_results_simp
theorem kp_7_v0 : after hostOps0_7 W (Proc.devRef .tc main_v0) = W (Proc.devRef .tc main_v0) := by
  after_results_simp
theorem kp_7_v1 : after hostOps0_7 W (Proc.devRef .tc main_v1) = W (Proc.devRef .tc main_v1) := by
  after_results_simp
theorem kp_7_v2 : after hostOps0_7 W (Proc.devRef .tc main_v2) = W (Proc.devRef .tc main_v2) := by
  after_results_simp
theorem kp_8_v0 : after hostOps0_8 W (Proc.devRef .tc main_v0) = W (Proc.devRef .tc main_v0) := by
  after_results_simp
theorem kp_8_v1 : after hostOps0_8 W (Proc.devRef .tc main_v1) = W (Proc.devRef .tc main_v1) := by
  after_results_simp
theorem kp_8_v2 : after hostOps0_8 W (Proc.devRef .tc main_v2) = W (Proc.devRef .tc main_v2) := by
  after_results_simp
theorem kp_8_v13 : after hostOps0_8 W (Proc.devRef .tc main_v13) = W (Proc.devRef .tc main_v13) := by
  after_results_simp
theorem kp_9_v0 : after hostOps0_9 W (Proc.devRef .tc main_v0) = W (Proc.devRef .tc main_v0) := by
  after_results_simp
theorem kp_9_v1 : after hostOps0_9 W (Proc.devRef .tc main_v1) = W (Proc.devRef .tc main_v1) := by
  after_results_simp
theorem kp_10_v0 : after hostOps0_10 W (Proc.devRef .tc main_v0) = W (Proc.devRef .tc main_v0) := by
  after_results_simp
theorem kp_10_v1 : after hostOps0_10 W (Proc.devRef .tc main_v1) = W (Proc.devRef .tc main_v1) := by
  after_results_simp
theorem kp_10_v15 : after hostOps0_10 W (Proc.devRef .tc main_v15) = W (Proc.devRef .tc main_v15) := by
  after_results_simp
theorem kp_10_v17 : after hostOps0_10 W (Proc.devRef .tc main_v17) = W (Proc.devRef .tc main_v17) := by
  after_results_simp
theorem kp_10_v27 : after hostOps0_10 W (Proc.devRef .tc main_v27) = W (Proc.devRef .tc main_v27) := by
  after_results_simp
theorem kp_10_v44 : after hostOps0_10 W (Proc.devRef .tc main_v44) = W (Proc.devRef .tc main_v44) := by
  after_results_simp
theorem kp_11_v27 : after hostOps0_11 W (Proc.devRef .tc main_v27) = W (Proc.devRef .tc main_v27) := by
  after_results_simp
theorem kp_11_v44 : after hostOps0_11 W (Proc.devRef .tc main_v44) = W (Proc.devRef .tc main_v44) := by
  after_results_simp
theorem kp_11_v50 : after hostOps0_11 W (Proc.devRef .tc main_v50) = W (Proc.devRef .tc main_v50) := by
  after_results_simp
end Stages

section Compose
variable (m : (ℓ : Loc nD τ sig) → Buf (Elt F) ℓ) (c : Dev nD)

/-- The group sizes. -/
abbrev gsOf : IVec S32 32 := m (c, Proc.devRef .tc main_arg1)

/-- The buffers after 1 stretches. -/
def Ws0 : Valuation τ sig (Elt F) := after hostOps0 (fun b => m (c, b))
theorem Ws0_v0 : Ws0 m c (Proc.devRef .tc main_v0) = cumI (gsOf m c) :=
  (st0 (fun b => m (c, b))).trans (rfl)
theorem Ws0_arg1 : Ws0 m c (Proc.devRef .tc main_arg1) = gsOf m c :=
  (kp_arg1 (fun b => m (c, b))).trans (rfl)
/-- The buffers after 2 stretches. -/
def Ws1 : Valuation τ sig (Elt F) := after hostOps0_1 (Ws0 m c)
theorem Ws1_v1 : Ws1 m c (Proc.devRef .tc main_v1) = startsI (gsOf m c) :=
  (st1 (Ws0 m c)).trans (by rw [Ws0_v0, Ws0_arg1]; try rfl)
theorem Ws1_c : Ws1 m c (Proc.devRef .tc main_c) = constantI S_ 32 256#32 :=
  (st1c (Ws0 m c)).trans (rfl)
theorem Ws1_arg1 : Ws1 m c (Proc.devRef .tc main_arg1) = gsOf m c :=
  (kp_1_arg1 (Ws0 m c)).trans (Ws0_arg1 m c)
theorem Ws1_v0 : Ws1 m c (Proc.devRef .tc main_v0) = cumI (gsOf m c) :=
  (kp_1_v0 (Ws0 m c)).trans (Ws0_v0 m c)
/-- The buffers after 3 stretches. -/
def Ws2 : Valuation τ sig (Elt F) := after hostOps0_2 (Ws1 m c)
theorem Ws2_v2 : Ws2 m c (Proc.devRef .tc main_v2) = firstI (gsOf m c) :=
  (st2 (Ws1 m c)).trans (by rw [Ws1_v1, Ws1_c]; try rfl)
theorem Ws2_arg1 : Ws2 m c (Proc.devRef .tc main_arg1) = gsOf m c :=
  (kp_2_arg1 (Ws1 m c)).trans (Ws1_arg1 m c)
theorem Ws2_v0 : Ws2 m c (Proc.devRef .tc main_v0) = cumI (gsOf m c) :=
  (kp_2_v0 (Ws1 m c)).trans (Ws1_v0 m c)
theorem Ws2_v1 : Ws2 m c (Proc.devRef .tc main_v1) = startsI (gsOf m c) :=
  (kp_2_v1 (Ws1 m c)).trans (Ws1_v1 m c)
/-- The buffers after 4 stretches. -/
def Ws3 : Valuation τ sig (Elt F) := after hostOps0_3 (Ws2 m c)
theorem Ws3_v4 : Ws3 m c (Proc.devRef .tc main_v4) = (cmpi .sgt (gsOf m c) (k32 0#32) : IVec S32 1) :=
  (st3 (Ws2 m c)).trans (by rw [Ws2_arg1]; try rfl)
theorem Ws3_v6 : Ws3 m c (Proc.devRef .tc main_v6) = (subi (cumI (gsOf m c)) (k32 1#32) : IVec S32 32) :=
  (st3b (Ws2 m c)).trans (by rw [Ws2_v0]; try rfl)
theorem Ws3_c_2 : Ws3 m c (Proc.devRef .tc main_c_2) = constantI S_ 32 256#32 :=
  (st3c (Ws2 m c)).trans (rfl)
theorem Ws3_v0 : Ws3 m c (Proc.devRef .tc main_v0) = cumI (gsOf m c) :=
  (kp_3_v0 (Ws2 m c)).trans (Ws2_v0 m c)
theorem Ws3_v1 : Ws3 m c (Proc.devRef .tc main_v1) = startsI (gsOf m c) :=
  (kp_3_v1 (Ws2 m c)).trans (Ws2_v1 m c)
theorem Ws3_v2 : Ws3 m c (Proc.devRef .tc main_v2) = firstI (gsOf m c) :=
  (kp_3_v2 (Ws2 m c)).trans (Ws2_v2 m c)
/-- The buffers after 5 stretches. -/
def Ws4 : Valuation τ sig (Elt F) := after hostOps0_4 (Ws3 m c)
theorem Ws4_v7 : Ws4 m c (Proc.devRef .tc main_v7) = Routing.pyDiv bcast_S_S32 (subi (cumI (gsOf m c)) (k32 1#32)) (constantI S_ 32 256#32) :=
  (st4 (Ws3 m c)).trans (by rw [Ws3_v6, Ws3_c_2]; try rfl)
theorem Ws4_v0 : Ws4 m c (Proc.devRef .tc main_v0) = cumI (gsOf m c) :=
  (kp_4_v0 (Ws3 m c)).trans (Ws3_v0 m c)
theorem Ws4_v1 : Ws4 m c (Proc.devRef .tc main_v1) = startsI (gsOf m c) :=
  (kp_4_v1 (Ws3 m c)).trans (Ws3_v1 m c)
theorem Ws4_v2 : Ws4 m c (Proc.devRef .tc main_v2) = firstI (gsOf m c) :=
  (kp_4_v2 (Ws3 m c)).trans (Ws3_v2 m c)
theorem Ws4_v4 : Ws4 m c (Proc.devRef .tc main_v4) = (cmpi .sgt (gsOf m c) (k32 0#32) : IVec S32 1) :=
  (kp_4_v4 (Ws3 m c)).trans (Ws3_v4 m c)
/-- The buffers after 6 stretches. -/
def Ws5 : Valuation τ sig (Elt F) := after hostOps0_5 (Ws4 m c)
theorem Ws5_v9 : Ws5 m c (Proc.devRef .tc main_v9) = (subi (firstI (gsOf m c)) (k32 1#32) : IVec S32 32) :=
  (st5 (Ws4 m c)).trans (by rw [Ws4_v2]; try rfl)
theorem Ws5_v0 : Ws5 m c (Proc.devRef .tc main_v0) = cumI (gsOf m c) :=
  (kp_5_v0 (Ws4 m c)).trans (Ws4_v0 m c)
theorem Ws5_v1 : Ws5 m c (Proc.devRef .tc main_v1) = startsI (gsOf m c) :=
  (kp_5_v1 (Ws4 m c)).trans (Ws4_v1 m c)
theorem Ws5_v2 : Ws5 m c (Proc.devRef .tc main_v2) = firstI (gsOf m c) :=
  (kp_5_v2 (Ws4 m c)).trans (Ws4_v2 m c)
theorem Ws5_v4 : Ws5 m c (Proc.devRef .tc main_v4) = (cmpi .sgt (gsOf m c) (k32 0#32) : IVec S32 1) :=
  (kp_5_v4 (Ws4 m c)).trans (Ws4_v4 m c)
theorem Ws5_v7 : Ws5 m c (Proc.devRef .tc main_v7) = Routing.pyDiv bcast_S_S32 (subi (cumI (gsOf m c)) (k32 1#32)) (constantI S_ 32 256#32) :=
  (kp_5_v7 (Ws4 m c)).trans (Ws4_v7 m c)
/-- The buffers after 7 stretches. -/
def Ws6 : Valuation τ sig (Elt F) := after hostOps0_6 (Ws5 m c)
theorem Ws6_v10 : Ws6 m c (Proc.devRef .tc main_v10) = (select (cmpi .sgt (gsOf m c) (k32 0#32)) (Routing.pyDiv bcast_S_S32 (subi (cumI (gsOf m c)) (k32 1#32)) (constantI S_ 32 256#32)) (subi (firstI (gsOf m c)) (k32 1#32)) : IVec S32 32) :=
  (st6 (Ws5 m c)).trans (by rw [Ws5_v4, Ws5_v7, Ws5_v9]; try rfl)
theorem Ws6_v0 : Ws6 m c (Proc.devRef .tc main_v0) = cumI (gsOf m c) :=
  (kp_6_v0 (Ws5 m c)).trans (Ws5_v0 m c)
theorem Ws6_v1 : Ws6 m c (Proc.devRef .tc main_v1) = startsI (gsOf m c) :=
  (kp_6_v1 (Ws5 m c)).trans (Ws5_v1 m c)
theorem Ws6_v2 : Ws6 m c (Proc.devRef .tc main_v2) = firstI (gsOf m c) :=
  (kp_6_v2 (Ws5 m c)).trans (Ws5_v2 m c)
/-- The buffers after 8 stretches. -/
def Ws7 : Valuation τ sig (Elt F) := after hostOps0_7 (Ws6 m c)
theorem Ws7_v13 : Ws7 m c (Proc.devRef .tc main_v13) = visI (gsOf m c) :=
  (st7 (Ws6 m c)).trans (by rw [Ws6_v10, Ws6_v2]; try rfl)
theorem Ws7_v0 : Ws7 m c (Proc.devRef .tc main_v0) = cumI (gsOf m c) :=
  (kp_7_v0 (Ws6 m c)).trans (Ws6_v0 m c)
theorem Ws7_v1 : Ws7 m c (Proc.devRef .tc main_v1) = startsI (gsOf m c) :=
  (kp_7_v1 (Ws6 m c)).trans (Ws6_v1 m c)
theorem Ws7_v2 : Ws7 m c (Proc.devRef .tc main_v2) = firstI (gsOf m c) :=
  (kp_7_v2 (Ws6 m c)).trans (Ws6_v2 m c)
/-- The buffers after 9 stretches. -/
def Ws8 : Valuation τ sig (Elt F) := after hostOps0_8 (Ws7 m c)
theorem Ws8_v14 : Ws8 m c (Proc.devRef .tc main_v14) = cumI (visI (gsOf m c)) :=
  (st8 (Ws7 m c)).trans (by rw [Ws7_v13]; try rfl)
theorem Ws8_v0 : Ws8 m c (Proc.devRef .tc main_v0) = cumI (gsOf m c) :=
  (kp_8_v0 (Ws7 m c)).trans (Ws7_v0 m c)
theorem Ws8_v1 : Ws8 m c (Proc.devRef .tc main_v1) = startsI (gsOf m c) :=
  (kp_8_v1 (Ws7 m c)).trans (Ws7_v1 m c)
theorem Ws8_v2 : Ws8 m c (Proc.devRef .tc main_v2) = firstI (gsOf m c) :=
  (kp_8_v2 (Ws7 m c)).trans (Ws7_v2 m c)
theorem Ws8_v13 : Ws8 m c (Proc.devRef .tc main_v13) = visI (gsOf m c) :=
  (kp_8_v13 (Ws7 m c)).trans (Ws7_v13 m c)
/-- The buffers after 10 stretches. -/
def Ws9 : Valuation τ sig (Elt F) := after hostOps0_9 (Ws8 m c)
theorem Ws9_v15 : Ws9 m c (Proc.devRef .tc main_v15) = iotaInDim S288 32 0 :=
  (st9_15 (Ws8 m c)).trans (rfl)
theorem Ws9_v17 : Ws9 m c (Proc.devRef .tc main_v17) = totF (cumI (visI (gsOf m c))) :=
  (st9_17 (Ws8 m c)).trans (by rw [Ws8_v14]; try rfl)
theorem Ws9_v27 : Ws9 m c (Proc.devRef .tc main_v27) = expertI (gsOf m c) :=
  (st9_27 (Ws8 m c)).trans (by rw [Ws8_v14]; try rfl)
theorem Ws9_v44 : Ws9 m c (Proc.devRef .tc main_v44) = tileI (gsOf m c) :=
  (st9_44 (Ws8 m c)).trans (by rw [Ws8_v2, Ws8_v14, Ws8_v13]; try rfl)
theorem Ws9_v49 : Ws9 m c (Proc.devRef .tc main_v49) = (andi (cmpi .eq (wiF (cumI (visI (gsOf m c))) (visI (gsOf m c))) (k288 0#32)) (liveF (cumI (visI (gsOf m c)))) : IVec S288 1) :=
  (st9_49 (Ws8 m c)).trans (by rw [Ws8_v14, Ws8_v13]; try rfl)
theorem Ws9_c_12 : Ws9 m c (Proc.devRef .tc main_c_12) = constantI S_ 32 1#32 :=
  (st9_c12 (Ws8 m c)).trans (rfl)
theorem Ws9_c_13 : Ws9 m c (Proc.devRef .tc main_c_13) = constantI S_ 32 0#32 :=
  (st9_c13 (Ws8 m c)).trans (rfl)
theorem Ws9_v0 : Ws9 m c (Proc.devRef .tc main_v0) = cumI (gsOf m c) :=
  (kp_9_v0 (Ws8 m c)).trans (Ws8_v0 m c)
theorem Ws9_v1 : Ws9 m c (Proc.devRef .tc main_v1) = startsI (gsOf m c) :=
  (kp_9_v1 (Ws8 m c)).trans (Ws8_v1 m c)
/-- The buffers after 11 stretches. -/
def Ws10 : Valuation τ sig (Elt F) := after hostOps0_10 (Ws9 m c)
theorem Ws10_v50 : Ws10 m c (Proc.devRef .tc main_v50) = freshI (gsOf m c) :=
  (st10_50 (Ws9 m c)).trans (by rw [Ws9_v49, Ws9_c_12, Ws9_c_13]; try rfl)
theorem Ws10_v0 : Ws10 m c (Proc.devRef .tc main_v0) = cumI (gsOf m c) :=
  (kp_10_v0 (Ws9 m c)).trans (Ws9_v0 m c)
theorem Ws10_v1 : Ws10 m c (Proc.devRef .tc main_v1) = startsI (gsOf m c) :=
  (kp_10_v1 (Ws9 m c)).trans (Ws9_v1 m c)
theorem Ws10_v15 : Ws10 m c (Proc.devRef .tc main_v15) = iotaInDim S288 32 0 :=
  (kp_10_v15 (Ws9 m c)).trans (Ws9_v15 m c)
theorem Ws10_v17 : Ws10 m c (Proc.devRef .tc main_v17) = totF (cumI (visI (gsOf m c))) :=
  (kp_10_v17 (Ws9 m c)).trans (Ws9_v17 m c)
theorem Ws10_v27 : Ws10 m c (Proc.devRef .tc main_v27) = expertI (gsOf m c) :=
  (kp_10_v27 (Ws9 m c)).trans (Ws9_v27 m c)
theorem Ws10_v44 : Ws10 m c (Proc.devRef .tc main_v44) = tileI (gsOf m c) :=
  (kp_10_v44 (Ws9 m c)).trans (Ws9_v44 m c)
/-- The buffers after 12 stretches. -/
def Ws11 : Valuation τ sig (Elt F) := after hostOps0_11 (Ws10 m c)
theorem Ws11_v53 : Ws11 m c (Proc.devRef .tc main_v53) = activeI (gsOf m c) :=
  (st11_53 (Ws10 m c)).trans (by rw [Ws10_v15, Ws10_v17]; try rfl)
theorem Ws11_v60 : Ws11 m c (Proc.devRef .tc main_v60) = beginI (gsOf m c) :=
  (st11_60 (Ws10 m c)).trans (by rw [Ws10_v1, Ws10_v27]; try rfl)
theorem Ws11_v67 : Ws11 m c (Proc.devRef .tc main_v67) = endI (gsOf m c) :=
  (st11_67 (Ws10 m c)).trans (by rw [Ws10_v0, Ws10_v27]; try rfl)
theorem Ws11_v27 : Ws11 m c (Proc.devRef .tc main_v27) = expertI (gsOf m c) :=
  (kp_11_v27 (Ws10 m c)).trans (Ws10_v27 m c)
theorem Ws11_v44 : Ws11 m c (Proc.devRef .tc main_v44) = tileI (gsOf m c) :=
  (kp_11_v44 (Ws10 m c)).trans (Ws10_v44 m c)
theorem Ws11_v50 : Ws11 m c (Proc.devRef .tc main_v50) = freshI (gsOf m c) :=
  (kp_11_v50 (Ws10 m c)).trans (Ws10_v50 m c)

theorem Vent_eq (b : Ref sig .tc) : Vent m c b = Ws11 m c (Proc.devRef .tc b) := by
  unfold Vent
  simp only [opss, List.flatten_cons, List.flatten_nil, after_append, after_nil]
  rfl
theorem Vent_v44 : Vent m c main_v44 = tileI (gsOf m c) := (Vent_eq m c _).trans (Ws11_v44 m c)
theorem Vent_v27 : Vent m c main_v27 = expertI (gsOf m c) := (Vent_eq m c _).trans (Ws11_v27 m c)
theorem Vent_v50 : Vent m c main_v50 = freshI (gsOf m c) := (Vent_eq m c _).trans (Ws11_v50 m c)
theorem Vent_v53 : Vent m c main_v53 = activeI (gsOf m c) := (Vent_eq m c _).trans (Ws11_v53 m c)
theorem Vent_v60 : Vent m c main_v60 = beginI (gsOf m c) := (Vent_eq m c _).trans (Ws11_v60 m c)
theorem Vent_v67 : Vent m c main_v67 = endI (gsOf m c) := (Vent_eq m c _).trans (Ws11_v67 m c)

/-- The host operations leave the arguments as they are. -/
theorem Vent_arg (b : Ref sig .tc) (hb : b ∈ [main_arg0, main_arg1, main_arg2, main_arg3, main_arg4]) : Vent m c b = m (c, Proc.devRef .tc b) := by
  rw [Vent_eq]
  simp only [List.mem_cons, List.not_mem_nil, or_false] at hb
  rcases hb with rfl | rfl | rfl | rfl | rfl <;>
  (unfold Ws11 Ws10 Ws9 Ws8 Ws7 Ws6 Ws5 Ws4 Ws3 Ws2 Ws1 Ws0; after_results_simp)
end Compose

end Cert.KernelIdeal.Hand
end
-- ==== Proof.Plan.lean ====
/- The plan of row tiles, in the natural numbers: experts own consecutive rows, each expert visits the row tiles that its rows
   touch, and the steps enumerate these visits. What the steps cover, and in which order, from the group sizes alone. -/
module

public import Mathlib.Data.Nat.Count
public import Mathlib.Algebra.BigOperators.Group.List.Basic
public import Mathlib.Tactic.Linarith

@[expose] public section

namespace Cert.Plan

variable (g : ℕ → ℕ)

/-- The rows before expert `n`. -/
def P (n : ℕ) : ℕ := ((List.range n).map g).sum
/-- How many row tiles expert `e` visits. -/
def vis (e : ℕ) : ℕ := if 0 < g e then (P g (e + 1) - 1) / 256 - P g e / 256 + 1 else 0
/-- The visits before expert `n`. -/
def Q (n : ℕ) : ℕ := ((List.range n).map (vis g)).sum
/-- A step's number, cut at the last visit. -/
def cl (j : ℕ) : ℕ := min j (Q g 32 - 1)
/-- A step's expert. -/
def ex (j : ℕ) : ℕ := Nat.count (fun e => Q g (e + 1) ≤ cl g j) 32
/-- The visits of its expert before a step. -/
def wi (j : ℕ) : ℕ := cl g j - Q g (ex g j)
/-- A step's row tile. -/
def tile (j : ℕ) : ℕ := P g (ex g j) / 256 + wi g j

theorem P_succ (n : ℕ) : P g (n + 1) = P g n + g n := by simp [P, List.range_succ]
theorem Q_succ (n : ℕ) : Q g (n + 1) = Q g n + vis g n := by simp [Q, List.range_succ]
theorem P_zero : P g 0 = 0 := rfl
theorem Q_zero : Q g 0 = 0 := rfl

theorem P_mono {a b : ℕ} (h : a ≤ b) : P g a ≤ P g b := by
  induction h with
  | refl => exact le_rfl
  | step _ ih => exact ih.trans (by rw [P_succ]; omega)
theorem Q_mono {a b : ℕ} (h : a ≤ b) : Q g a ≤ Q g b := by
  induction h with
  | refl => exact le_rfl
  | step _ ih => exact ih.trans (by rw [Q_succ]; omega)

/-- No visits between two experts: no rows between them. -/
theorem P_eq_of_Q_eq {a b : ℕ} (h : a ≤ b) (hq : Q g a = Q g b) : P g a = P g b := by
  induction h with
  | refl => rfl
  | @step m hm ih =>
    have hq : Q g a = Q g (m + 1) := hq
    have h1 := Q_mono g hm
    have h2 := Q_succ g m
    have hv : vis g m = 0 := by omega
    rw [ih (by omega), P_succ]
    unfold vis at hv
    split at hv <;> omega

theorem Q_le (n : ℕ) : Q g n ≤ n + P g n / 256 := by
  induction n with
  | zero => simp [Q_zero]
  | succ n ih =>
    rw [Q_succ]
    have := P_succ g n
    unfold vis
    split <;> omega

/-- The expert of a visit. -/
theorem find_expert (n c : ℕ) (h : c < Q g n) : ∃ e, e < n ∧ Q g e ≤ c ∧ c < Q g (e + 1) := by
  induction n with
  | zero => simp [Q_zero] at h
  | succ n ih =>
    by_cases h' : c < Q g n
    · obtain ⟨e, he, h1⟩ := ih h'; exact ⟨e, by omega, h1⟩
    · exact ⟨n, by omega, by omega, h⟩

/-- The expert of a row. -/
theorem find_row (n r : ℕ) (h : r < P g n) : ∃ e, e < n ∧ P g e ≤ r ∧ r < P g (e + 1) := by
  induction n with
  | zero => simp [P_zero] at h
  | succ n ih =>
    by_cases h' : r < P g n
    · obtain ⟨e, he, h1⟩ := ih h'; exact ⟨e, by omega, h1⟩
    · exact ⟨n, by omega, by omega, h⟩

/-- The count that gives a step's expert. -/
theorem count_eq (c e : ℕ) (he : e < 32) (h1 : Q g e ≤ c) (h2 : c < Q g (e + 1)) (n : ℕ) :
    Nat.count (fun i => Q g (i + 1) ≤ c) n = min n e := by
  induction n with
  | zero => simp
  | succ n ih =>
    rw [Nat.count_succ, ih]
    by_cases hn : n < e
    · have := Q_mono g (show n + 1 ≤ e by omega)
      rw [if_pos (by omega)]; omega
    · have := Q_mono g (show e + 1 ≤ n + 1 by omega)
      rw [if_neg (by omega)]; omega

/-- A row has one owner. -/
theorem own {e e' r : ℕ} (h1 : P g e ≤ r) (h2 : r < P g (e + 1)) (h3 : P g e' ≤ r) (h4 : r < P g (e' + 1)) : e = e' := by
  rcases Nat.lt_trichotomy e e' with h | h | h
  · have := P_mono g (show e + 1 ≤ e' by omega); omega
  · exact h
  · have := P_mono g (show e' + 1 ≤ e by omega); omega

variable (hP : P g 32 = 65536)
include hP

theorem tot_pos : 0 < Q g 32 := by
  by_contra h
  have := P_eq_of_Q_eq g (show 0 ≤ 32 by omega) (by rw [Q_zero]; omega)
  rw [P_zero, hP] at this
  omega

theorem tot_le : Q g 32 ≤ 288 := by have := Q_le g 32; rw [hP] at this; omega

/-- The facts of one step. -/
theorem step (j : ℕ) : ex g j < 32 ∧ Q g (ex g j) ≤ cl g j ∧ cl g j < Q g (ex g j + 1) ∧ cl g j < Q g 32 := by
  have ht := tot_pos g hP
  have hc : cl g j < Q g 32 := by unfold cl; omega
  obtain ⟨e, he, h1, h2⟩ := find_expert g 32 _ hc
  have : ex g j = e := by unfold ex; rw [count_eq g _ e he h1 h2]; omega
  rw [this]; exact ⟨he, h1, h2, hc⟩

theorem ex_of {j e : ℕ} (h1 : Q g e ≤ cl g j) (h2 : cl g j < Q g (e + 1)) (he : e < 32) : ex g j = e := by
  unfold ex; rw [count_eq g _ e he h1 h2]; omega

theorem P_le (e : ℕ) (he : e ≤ 32) : P g e ≤ 65536 := by rw [← hP]; exact P_mono g he

/-- The tile of a step lies within the tiles of its expert's rows. -/
theorem tile_bd (j : ℕ) : 0 < g (ex g j) ∧ P g (ex g j) / 256 ≤ tile g j ∧ tile g j ≤ (P g (ex g j + 1) - 1) / 256 ∧ 0 < P g (ex g j + 1) := by
  obtain ⟨h0, h1, h2, h3⟩ := step g hP j
  have hq := Q_succ g (ex g j)
  have hp := P_succ g (ex g j)
  have hv : vis g (ex g j) ≠ 0 := by omega
  unfold tile wi
  unfold vis at hq hv
  split at hv
  · next hg => rw [if_pos hg] at hq; omega
  · omega

theorem tile_lt (j : ℕ) : tile g j < 256 := by
  obtain ⟨h0, -⟩ := step g hP j
  obtain ⟨-, -, h2, h3⟩ := tile_bd g hP j
  have := P_le g hP (ex g j + 1) (by omega)
  omega

/-- The last visit of an expert is at the tile of its last row. -/
theorem tile_last {j : ℕ} (h : cl g j + 1 = Q g (ex g j + 1)) : tile g j = (P g (ex g j + 1) - 1) / 256 := by
  obtain ⟨h0, h1, h2, h3⟩ := step g hP j
  obtain ⟨hg, -⟩ := tile_bd g hP j
  have hq := Q_succ g (ex g j)
  have hp := P_succ g (ex g j)
  unfold vis at hq
  rw [if_pos hg] at hq
  unfold tile wi
  omega

theorem cl_of_lt {j : ℕ} (h : j < Q g 32) : cl g j = j := by unfold cl; omega

/-- A step that is not its expert's first follows a step of the same expert. -/
theorem not_fresh {j : ℕ} (h : ¬ (cl g j = Q g (ex g j) ∧ j < Q g 32)) : 0 < j ∧ ex g (j - 1) = ex g j := by
  obtain ⟨h0, h1, h2, h3⟩ := step g hP j
  have ht := tot_pos g hP
  by_cases hj : j < Q g 32
  · have hc := cl_of_lt g hP hj
    have hj0 : 0 < j := by omega
    have hc' := cl_of_lt g hP (show j - 1 < Q g 32 by omega)
    exact ⟨hj0, ex_of g hP (by omega) (by omega) h0⟩
  · have hj0 : 0 < j := by omega
    have hc' : cl g (j - 1) = cl g j := by unfold cl; omega
    exact ⟨hj0, ex_of g hP (by omega) (by omega) h0⟩

/-- A step past the last visit repeats the one before. -/
theorem idle {j : ℕ} (h : ¬ j < Q g 32) : 0 < j ∧ ex g (j - 1) = ex g j ∧ tile g (j - 1) = tile g j := by
  have ht := tot_pos g hP
  have hj0 : 0 < j := by omega
  have hc' : cl g (j - 1) = cl g j := by unfold cl; omega
  have he : ex g (j - 1) = ex g j := by unfold ex; rw [hc']
  exact ⟨hj0, he, by unfold tile wi; rw [he, hc']⟩

/-- A row of a step's tile before its expert's first row was in the tile, and done, at the step before. -/
theorem keep {j r : ℕ} (hj : j < Q g 32) (h1 : 256 * tile g j ≤ r) (h2 : r < P g (ex g j)) :
    0 < j ∧ tile g (j - 1) = tile g j ∧ r < P g (ex g (j - 1) + 1) := by
  obtain ⟨h0, hq1, hq2, -⟩ := step g hP j
  have hc := cl_of_lt g hP hj
  have hw : wi g j = 0 := by unfold tile at h1; omega
  have hcq : j = Q g (ex g j) := by unfold wi at hw; omega
  have hj0 : 0 < j := by
    rcases Nat.eq_zero_or_pos j with h | h
    · exfalso
      have := P_eq_of_Q_eq g (show 0 ≤ ex g j by omega) (by rw [Q_zero]; omega)
      rw [P_zero] at this; omega
    · exact h
  have hc' := cl_of_lt g hP (show j - 1 < Q g 32 by omega)
  obtain ⟨k0, kq1, kq2, -⟩ := step g hP (j - 1)
  have hlt : ex g (j - 1) < ex g j := by
    by_contra hle
    have := Q_mono g (show ex g j ≤ ex g (j - 1) by omega)
    omega
  have hm := Q_mono g (show ex g (j - 1) + 1 ≤ ex g j by omega)
  have hpe := P_eq_of_Q_eq g (show ex g (j - 1) + 1 ≤ ex g j by omega) (by omega)
  have hl := tile_last g hP (j := j - 1) (by omega)
  have ht : tile g j = P g (ex g j) / 256 := by unfold tile; omega
  refine ⟨hj0, ?_, by omega⟩
  rw [hl, ht, hpe]
  omega

/-- When a tile is left, or at the end, all its rows are done. -/
theorem flush {j : ℕ} (h : j = 287 ∨ tile g (j + 1) ≠ tile g j) : 256 * (tile g j + 1) ≤ P g (ex g j + 1) := by
  obtain ⟨h0, hq1, hq2, -⟩ := step g hP j
  obtain ⟨hg, hb1, hb2, hb3⟩ := tile_bd g hP j
  have htl := tot_le g hP
  have htp := tot_pos g hP
  have hlt := tile_lt g hP j
  by_cases hj : j + 1 < Q g 32
  · have hc := cl_of_lt g hP (show j < Q g 32 by omega)
    have hc' := cl_of_lt g hP hj
    have hne : tile g (j + 1) ≠ tile g j := by
      rcases h with h | h
      · omega
      · exact h
    obtain ⟨k0, kq1, kq2, -⟩ := step g hP (j + 1)
    by_cases he : ex g (j + 1) = ex g j
    · obtain ⟨_, kb1, kb2, kb3⟩ := tile_bd g hP (j + 1)
      have : tile g (j + 1) = tile g j + 1 := by unfold tile wi; rw [he, hc, hc']; omega
      rw [he] at kb2
      omega
    · have hgt : ex g j < ex g (j + 1) := by
        by_contra hle
        have := Q_mono g (show ex g (j + 1) + 1 ≤ ex g j by omega)
        omega
      have hm := Q_mono g (show ex g j + 1 ≤ ex g (j + 1) by omega)
      have hpe := P_eq_of_Q_eq g (show ex g j + 1 ≤ ex g (j + 1) by omega) (by omega)
      have hl := tile_last g hP (j := j) (by omega)
      have ht : tile g (j + 1) = P g (ex g (j + 1)) / 256 := by unfold tile wi; omega
      rw [hl, ht, ← hpe] at hne
      omega
  · have hc : cl g j = Q g 32 - 1 := by unfold cl; omega
    have hm := Q_mono g (show ex g j + 1 ≤ 32 by omega)
    have hpe := P_eq_of_Q_eq g (show ex g j + 1 ≤ 32 by omega) (by omega)
    omega

/-- Every tile is visited. -/
theorem cover {t : ℕ} (ht : t < 256) : ∃ j, j < 288 ∧ tile g j = t := by
  obtain ⟨e, he, h1, h2⟩ := find_row g 32 (256 * t) (by omega)
  have hp := P_succ g e
  have hq := Q_succ g e
  have htl := tot_le g hP
  have hv : vis g e = (P g (e + 1) - 1) / 256 - P g e / 256 + 1 := by unfold vis; rw [if_pos (by omega)]
  have hm := Q_mono g (show e + 1 ≤ 32 by omega)
  have hlt : Q g e + (t - P g e / 256) < Q g 32 := by omega
  have hc := cl_of_lt g hP hlt
  have hex := ex_of g hP (j := Q g e + (t - P g e / 256)) (e := e) (by omega) (by omega) he
  refine ⟨Q g e + (t - P g e / 256), by omega, ?_⟩
  unfold tile wi
  rw [hex, hc]
  omega

end Cert.Plan
end
-- ==== Proof.Words.lean ====
/- The tables' words as natural numbers: under the precondition (no group size negative, 65536 rows in all) each table holds at
   every step what the plan says. -/
module

public import proofs.«01_k».proof.Proof.HostVals
public import proofs.«01_k».proof.Proof.Plan
public import Idealize.ShloMosaic.Lib.Routing.Words
public import Idealize.ShloMosaic.Lib.Routing.Ops
public import Idealize.ShloMosaic.Lib.Routing.OpsSet
public import Idealize.ShloMosaic.Lib.PlanTiles.Rows
public import Idealize.ShloMosaic.Lib.WordCmp
public import Idealize.ShloMosaic.Lib.ReduceAll

@[expose] public section

set_option maxRecDepth 16384

noncomputable section

namespace Cert.KernelIdeal.Hand

open Cert.KernelIdeal Cert.KernelIdeal.Gen
open Idealize.ShloMosaic Idealize.ShloMosaic.Routing Idealize.ShloMosaic.ValueIdx Idealize.ShloMosaic.WordCmp
open Cert.Plan (P Q vis cl ex wi tile)

variable (gs : IVec S32 32)

/-- The group sizes as natural numbers. -/
def gN (e : ℕ) : ℕ := if h : e < 32 then (gs (ix1 ⟨e, h⟩)).toNat else 0

theorem gs_ap (e : Fin 32) : gs (ix1 e) = BitVec.ofNat 32 (gN gs e.val) := by
  unfold gN; rw [dif_pos e.isLt, BitVec.ofNat_toNat, BitVec.setWidth_eq]

theorem sub_ofNat (a b : ℕ) : BitVec.ofNat 32 (a + b) - BitVec.ofNat 32 b = BitVec.ofNat 32 a := by
  rw [BitVec.ofNat_add, BitVec.add_sub_cancel]

theorem k32_at (v : BitVec 32) (i : S32.Idx) : k32 v i = v := rfl
theorem k288_at (v : BitVec 32) (i : S288.Idx) : k288 v i = v := rfl

/-- The precondition, read off. -/
structure Rows : Prop where
  tot : P (gN gs) 32 = 65536

theorem cumI_ap (x : IVec S32 32) (f : ℕ → ℕ) (hx : ∀ i : Fin 32, x (ix1 i) = BitVec.ofNat 32 (f i.val)) (j : Fin 32) :
    cumI x (ix1 j) = BitVec.ofNat 32 ((List.range (j.val + 1)).map f).sum :=
  cumsum1 (N := 32) (Nm1 := 31) rfl x f hx _ (bc0 _ _ _) _ _ j

theorem ends_ap (e : Fin 32) : cumI gs (ix1 e) = BitVec.ofNat 32 (P (gN gs) (e.val + 1)) := cumI_ap gs _ (fun i => gs_ap gs i) e

theorem starts_ap (e : Fin 32) : startsI gs (ix1 e) = BitVec.ofNat 32 (P (gN gs) e.val) := by
  unfold startsI
  rw [subi_ap, ends_ap, gs_ap gs, Plan.P_succ, sub_ofNat]

variable (h : Rows gs)
include h

theorem P_le' (e : ℕ) (he : e ≤ 32) : P (gN gs) e ≤ 65536 := Plan.P_le _ h.tot e he

theorem first_ap (e : Fin 32) : firstI gs (ix1 e) = BitVec.ofNat 32 (P (gN gs) e.val / 256) := by
  have := P_le' gs h e.val (by omega)
  exact pyDiv_ap _ _ _ (ix1 e) (starts_ap gs e) rfl (by omega) (by omega) (by omega)

theorem vis_ap (e : Fin 32) : visI gs (ix1 e) = BitVec.ofNat 32 (vis (gN gs) e.val) := by
  have h1 := P_le' gs h e.val (by omega)
  have h2 := P_le' gs h (e.val + 1) (by omega)
  have hp := Plan.P_succ (gN gs) e.val
  have hf := first_ap gs h e
  unfold visI
  rw [addi_ap, subi_ap, select_at, cmpi_at, gs_ap gs, hf]
  simp only [k32_at]
  rw [show (0#32 : BitVec 32) = BitVec.ofNat 32 0 from rfl, cmpi_sgt_ofNat (w := 32) (by omega) (by omega), select_decide]
  unfold vis
  split
  · next hg =>
    have hd : Routing.pyDiv bcast_S_S32 (subi (cumI gs) (k32 1#32)) (constantI S_ 32 256#32) (ix1 e) = BitVec.ofNat 32 ((P (gN gs) (e.val + 1) - 1) / 256) := by
      refine pyDiv_ap _ _ _ (ix1 e) ?_ rfl (by omega) (by omega) (by omega)
      rw [subi_ap, ends_ap]
      simp only [k32_at]
      rw [show P (gN gs) (e.val + 1) = (P (gN gs) (e.val + 1) - 1) + 1 by omega, sub_ofNat]
      rfl
    rw [hd, show (P (gN gs) (e.val + 1) - 1) / 256 = ((P (gN gs) (e.val + 1) - 1) / 256 - P (gN gs) e.val / 256) + P (gN gs) e.val / 256 by omega,
      sub_ofNat, Nat.add_sub_cancel]
    exact (BitVec.ofNat_add _ 1).symm
  · rw [subi_ap, hf]
    simp only [k32_at]
    bv_omega

theorem cv_ap (e : Fin 32) : cumI (visI gs) (ix1 e) = BitVec.ofNat 32 (Q (gN gs) (e.val + 1)) := cumI_ap _ _ (vis_ap gs h) e

theorem Q_le' (e : ℕ) (he : e ≤ 32) : Q (gN gs) e ≤ 288 := (Plan.Q_mono _ he).trans (Plan.tot_le _ h.tot)

theorem tot_ap : totF (cumI (visI gs)) ValueIdx.ix0 = BitVec.ofNat 32 (Q (gN gs) 32) := by
  unfold totF
  rw [show shapeCast S_ (extractStridedSlice S1 ![31] (cumI (visI gs)) slices_S32_S1_31) shapeCasts_S1_S_ ValueIdx.ix0
    = extractStridedSlice S1 ![31] (cumI (visI gs)) slices_S32_S1_31 (ix1 (0 : Fin 1)) from by
      unfold shapeCast; exact congrArg _ (funext fun a => by
        match a with
        | ⟨0, _⟩ => exact Subsingleton.elim (α := Fin 1) _ _)]
  exact (slice1 31 _ _ (0 : Fin 1) (by decide)).trans (cv_ap gs h 31)

theorem cl_ap (j : Fin 288) : clF (cumI (visI gs)) (ix1 j) = BitVec.ofNat 32 (cl (gN gs) j.val) := by
  have hj := j.isLt
  have ht := Plan.tot_pos _ h.tot
  have hl := Plan.tot_le _ h.tot
  have e1 : broadcastInDim S288 ![] bcast_S_S288 (subi (totF (cumI (visI gs))) (constantI S_ 32 1#32)) (ix1 j) = BitVec.ofNat 32 (Q (gN gs) 32 - 1) := by
    rw [bc0, subi_ap, tot_ap gs h, constantI_at, show Q (gN gs) 32 = (Q (gN gs) 32 - 1) + 1 by omega, show (1#32 : BitVec 32) = BitVec.ofNat 32 1 from rfl, sub_ofNat,
      Nat.add_sub_cancel]
  show IntOp.minsi (iotaInDim (shape1 288) 32 0 (ix1 j)) _ = _
  rw [iota1_ap, e1, PlanTiles.minsi_word (by omega) (by omega)]
  unfold cl; rw [min_comm]

theorem ex_ap (j : Fin 288) : exF (cumI (visI gs)) (ix1 j) = BitVec.ofNat 32 (ex (gN gs) j.val) := by
  have hl := Plan.tot_le _ h.tot
  unfold exF ex
  refine reduce_count (n := 288) (m := 32) (by decide) _ _ _ _ j _ fun q => ?_
  rw [cmpi_at]
  rw [show broadcastInDim S288x32 ![0, 1] bcast_S1x32_S288x32_0_1 (broadcastInDim S1x32 ![1] bcast_S32_S1x32_1 (cumI (visI gs))) (ix2 j q) = _ from bcCols _ _ _ j q,
    show broadcastInDim S288x32 ![0, 1] bcast_S288x1_S288x32_0_1 (broadcastInDim S288x1 ![0] bcast_S288_S288x1_0 (clF (cumI (visI gs)))) (ix2 j q) = _ from bcRows _ _ _ j q,
    cv_ap gs h, cl_ap gs h]
  have h1 := Q_le' gs h (q.val + 1) (by omega)
  have h2 : cl (gN gs) j.val ≤ 288 := by unfold cl; omega
  exact cmpi_sle_ofNat_eq_one_iff (w := 32) (by omega) (by omega)

theorem gat_ap (t : IVec S32 32) (f : ℕ → ℕ) (ht : ∀ e : Fin 32, t (ix1 e) = BitVec.ofNat 32 (f e.val)) (j : Fin 288) :
    gatF t (exF (cumI (visI gs))) (ix1 j) = BitVec.ofNat 32 (f (ex (gN gs) j.val)) := by
  have he := (Plan.step _ h.tot j.val).1
  unfold gatF
  refine (gather_take1 (N := 32) (n := 288) _ rfl rfl rfl rfl t _ j ⟨_, he⟩ ?_ (by decide)).trans (ht _)
  refine (bcCol _ _ j).trans ?_
  rw [select_at, cmpi_at, ex_ap gs h]
  simp only [k288_at]
  rw [show (0#32 : BitVec 32) = BitVec.ofNat 32 0 from rfl, cmpi_slt_ofNat (w := 32) (by omega) (by omega), select_decide, if_neg (by omega)]

theorem wi_ap (j : Fin 288) : wiF (cumI (visI gs)) (visI gs) (ix1 j) = BitVec.ofNat 32 (wi (gN gs) j.val) := by
  have hs := Plan.step _ h.tot j.val
  unfold wiF wi
  rw [subi_ap, cl_ap gs h, gat_ap gs h _ (Q (gN gs)) (fun e => by rw [subi_ap, cv_ap gs h, vis_ap gs h, Plan.Q_succ, sub_ofNat]) j]
  conv_lhs => rw [show cl (gN gs) j.val = (cl (gN gs) j.val - Q (gN gs) (ex (gN gs) j.val)) + Q (gN gs) (ex (gN gs) j.val) by omega]
  rw [sub_ofNat]

theorem tile_ap (j : Fin 288) : tileI gs (ix1 j) = BitVec.ofNat 32 (tile (gN gs) j.val) := by
  unfold tileI tile
  rw [addi_ap, wi_ap gs h, gat_ap gs h _ (fun e => P (gN gs) e / 256) (first_ap gs h) j, BitVec.ofNat_add]

theorem expert_ap (j : Fin 288) : expertI gs (ix1 j) = BitVec.ofNat 32 (ex (gN gs) j.val) := ex_ap gs h j
theorem begin_ap (j : Fin 288) : beginI gs (ix1 j) = BitVec.ofNat 32 (P (gN gs) (ex (gN gs) j.val)) := gat_ap gs h _ (P (gN gs)) (starts_ap gs) j
theorem end_ap (j : Fin 288) : endI gs (ix1 j) = BitVec.ofNat 32 (P (gN gs) (ex (gN gs) j.val + 1)) :=
  gat_ap gs h _ (fun e => P (gN gs) (e + 1)) (ends_ap gs) j

theorem live_ap (j : Fin 288) : liveF (cumI (visI gs)) (ix1 j) = BitVec.ofBool (decide (j.val < Q (gN gs) 32)) := by
  have hl := Plan.tot_le _ h.tot
  have hj := j.isLt
  unfold liveF
  rw [cmpi_at, bc0, tot_ap gs h]
  exact cmpi_slt_ofNat (w := 32) (a := j.val) (by omega) (by omega)

theorem active_ap (j : Fin 288) : activeI gs (ix1 j) = if j.val < Q (gN gs) 32 then 1#32 else 0#32 := by
  unfold activeI
  rw [extui_at, live_ap gs h]
  split <;> rename_i hh
  · rw [decide_eq_true hh]; rfl
  · rw [decide_eq_false hh]; rfl

theorem fresh_ap (j : Fin 288) : freshI gs (ix1 j) = if cl (gN gs) j.val = Q (gN gs) (ex (gN gs) j.val) ∧ j.val < Q (gN gs) 32 then 1#32 else 0#32 := by
  have hs := Plan.step _ h.tot j.val
  have hl := Plan.tot_le _ h.tot
  unfold freshI
  rw [select_at, andi_at, cmpi_at, wi_ap gs h, live_ap gs h]
  simp only [k288_at]
  rw [show (0#32 : BitVec 32) = BitVec.ofNat 32 0 from rfl, cmpi_eq_ofNat (w := 32) (by unfold wi; omega) (by omega)]
  have : (wi (gN gs) j.val = 0) ↔ cl (gN gs) j.val = Q (gN gs) (ex (gN gs) j.val) := by unfold wi; omega
  by_cases h1 : cl (gN gs) j.val = Q (gN gs) (ex (gN gs) j.val) <;> by_cases h2 : j.val < Q (gN gs) 32 <;>
    simp only [this, h1, h2, and_true, and_false, true_and, false_and, if_true, if_false, decide_true, decide_false] <;> rfl

end Cert.KernelIdeal.Hand
end
-- ==== Proof.KPre.lean ====
/- What the precondition gives: the group sizes, read as natural numbers, sum to the number of rows; hence the tables' words address
   whole blocks of the arrays. -/
module

public import proofs.«01_k».proof.Proof.Words
public import proofs.«01_k».proof.Proof.KRun
public import proofs.«01_k».proof.Proof.Gen.Pre_groups_cover_rows

@[expose] public section

set_option maxRecDepth 16384

noncomputable section

namespace Cert.KernelIdeal.Hand

open Cert.KernelIdeal Cert.KernelIdeal.Gen
open Idealize.ShloMosaic Idealize.ShloMosaic.Routing Idealize.ShloMosaic.ValueIdx Idealize.ShloMosaic.WordCmp
open Cert.Plan (P Q vis cl ex wi tile)

variable {F : FTy → Type} [FloatOps F] [∀ e, Nonempty (Elt F e)]

theorem cmpi_sge_zero_iff (x : BitVec 32) : IntOp.cmpi .sge x 0#32 = 1#1 ↔ 0 ≤ x.toInt := by
  show BitVec.ofBool ((0#32 : BitVec 32).sle x) = 1#1 ↔ _
  rw [BitVec.sle_eq_decide]
  exact ofBool_decide_eq_one_iff _

theorem cmpi_sle_65536_iff (x : BitVec 32) : IntOp.cmpi .sle x 65536#32 = 1#1 ↔ x.toInt ≤ 65536 := by
  show BitVec.ofBool (x.sle (65536#32 : BitVec 32)) = 1#1 ↔ _
  rw [BitVec.sle_eq_decide]
  exact ofBool_decide_eq_one_iff _

theorem P_bound (g : ℕ → ℕ) (hg : ∀ e, g e ≤ 65536) (n : ℕ) : P g n ≤ n * 65536 := by
  induction n with
  | zero => simp [P]
  | succ n ih => rw [Plan.P_succ]; have := hg n; omega

theorem rows_of_pre {x gs s w ws} (h : Cert.Pre_groups_cover_rows.fn (F := F) x gs s w ws = fun _ => 1#1) : Rows gs := by
  have h0 : IntOp.andi _ _ = 1#1 := congrFun h ValueIdx.ix0
  obtain ⟨h1, h2⟩ := IntOp.andi_eq_one.1 h0
  have hb : ∀ e : Fin 32, (gs (ix1 e)).toNat ≤ 65536 := fun e => by
    haveI : Subsingleton Cert.Pre_groups_cover_rows.S_.Idx := ⟨fun a b => funext fun i => i.elim0⟩
    have h3 : IntOp.andi _ _ = 1#1 := Host.reduce_andi_all _ _ _ _ _ h1 (ix1 e)
    obtain ⟨h4, h5⟩ := IntOp.andi_eq_one.1 h3
    have h6 := (cmpi_sge_zero_iff _).1 h4
    have h7 := (cmpi_sle_65536_iff _).1 h5
    have h8 := BitVec.toInt_eq_toNat_cond (gs (ix1 e))
    split at h8 <;> omega
  have hg : ∀ e, gN gs e ≤ 65536 := fun e => by
    unfold gN; split
    · exact hb _
    · omega
  constructor
  have h9 : IntOp.cmpi .eq (Host.reduce IntOp.addi gs (constantI (shape0) 32 0#32) _ _ ValueIdx.ix0) (65536#32) = 1#1 := h2
  rw [reduce_sum gs (gN gs) (gs_ap gs)] at h9
  have hp := P_bound (gN gs) hg 32
  exact (cmpi_eq_ofNat_eq_one_iff (w := 32) (by exact lt_of_le_of_lt hp (by norm_num)) (by norm_num)).1 h9

/-- The grid's step of a coordinate. -/
abbrev jOf (i : grid0.Coords) : Fin 288 := i 0

theorem rd_at (T : IVec S288 32) (off : Fin 1 → ℕ) (h) (i : grid0.Coords) (ho : off = ![(i 0).val]) (hn : 0 < S1.numel) :
    T ((Rect.unit (s := S288) off S1.size h).emb (Shape.Idx.first hn)) = T (ix1 (jOf i)) := by
  subst ho
  refine congrArg T (funext fun a => ?_)
  match a with
  | ⟨0, _⟩ => exact Fin.ext (by show (i 0).val + 0 * 1 = _; simp [jOf])

/-- The tables' words, as the launch reads them. -/
def pfG (gs : IVec S32 32) : pre0.Contents (Elt F) := fun
  | 0 => tileI gs
  | 1 => expertI gs
  | 2 => freshI gs
  | 3 => activeI gs
  | 4 => beginI gs
  | 5 => endI gs
  | ⟨_ + 6, h⟩ => absurd h (Nat.not_lt.2 (Nat.le_add_left _ _))

theorem off_nat (i : grid0.Coords) : (![(Scalar.indexCast (BitVec.ofNat 32 (i 0).val) : Index).toNat] : Fin 1 → ℕ) = ![(i 0).val] := k0_off1_eq i

theorem chk_of (v6 v11 : BitVec 32) (hv : v11.toNat < 32) : k0_chk1 v6 v11 := fun _ a => by
  match a with
  | ⟨0, _⟩ => exact hv

variable (gs : IVec S32 32) (h : Rows gs)
include h

theorem tr1 (i : grid0.Coords) : cc0_transform_1 k0_off1_inb numel1_S1 (pfG (F := F) gs) i = ![tile (gN gs) (i 0).val, 0] := by
  have hl := Plan.tile_lt _ h.tot (i 0).val
  have e : (pfG (F := F) gs).at 0 (Rect.unit (s := S288) (k0_off1 i) S1.size (k0_off1_inb i)) numel1_S1 = BitVec.ofNat 32 (tile (gN gs) (i 0).val) :=
    (rd_at (tileI gs) _ _ i (k0_off1_eq i) _).trans (tile_ap gs h (jOf i))
  show ![(BitVec.toNat ((pfG (F := F) gs).at 0 (Rect.unit (s := S288) (k0_off1 i) S1.size (k0_off1_inb i)) numel1_S1)), 0] = _
  rw [e, BitVec.toNat_ofNat, Nat.mod_eq_of_lt (by omega)]

theorem tr2 (i : grid0.Coords) : cc0_transform_2 k0_off1_inb numel1_S1 (pfG (F := F) gs) i = ![ex (gN gs) (i 0).val, 0, 0] := by
  have hl := (Plan.step _ h.tot (i 0).val).1
  have e : (pfG (F := F) gs).at 1 (Rect.unit (s := S288) (k0_off1 i) S1.size (k0_off1_inb i)) numel1_S1 = BitVec.ofNat 32 (ex (gN gs) (i 0).val) :=
    (rd_at (expertI gs) _ _ i (k0_off1_eq i) _).trans (expert_ap gs h (jOf i))
  show ![(BitVec.toNat ((pfG (F := F) gs).at 1 (Rect.unit (s := S288) (k0_off1 i) S1.size (k0_off1_inb i)) numel1_S1)), 0, 0] = _
  rw [e, BitVec.toNat_ofNat, Nat.mod_eq_of_lt (by omega)]

theorem tr3 (i : grid0.Coords) : cc0_transform_3 k0_off1_inb numel1_S1 (pfG (F := F) gs) i = ![ex (gN gs) (i 0).val, 0, 0] := tr2 gs h i
theorem tr4 (i : grid0.Coords) : cc0_transform_4 k0_off1_inb numel1_S1 (pfG (F := F) gs) i = ![tile (gN gs) (i 0).val, 0] := tr1 gs h i

theorem ok : ok0 (pfG (F := F) gs) := by
  refine ⟨fun i => ?_, fun i => ?_, fun i => ?_, fun i => ?_⟩
  · have hl := Plan.tile_lt _ h.tot (i 0).val
    rw [tr1 gs h]
    refine ⟨fun a => ?_, .inr (.inl (.inr ⟨by decide, rfl, .inl ⟨?_, ?_⟩⟩))⟩
    · match a with
      | ⟨0, _⟩ => show (tile (gN gs) (i 0).val + 1) * 256 ≤ 65536; omega
      | ⟨1, _⟩ => show (0 + 1) * 6144 ≤ 6144; omega
    · show 2 ∣ tile (gN gs) (i 0).val * 256; omega
    · show 2 ∣ 256; omega
  · have hl := (Plan.step _ h.tot (i 0).val).1
    rw [tr2 gs h]
    refine ⟨fun a => ?_, .inr (.inr ⟨by decide, rfl, ?_, rfl⟩)⟩
    · match a with
      | ⟨0, _⟩ => show (ex (gN gs) (i 0).val + 1) * 1 ≤ 32; omega
      | ⟨1, _⟩ => show (0 + 1) * 6144 ≤ 6144; omega
      | ⟨2, _⟩ => show (0 + 1) * 768 ≤ 768; omega
    · show 0 * 6144 = 0; rfl
  · have hl := (Plan.step _ h.tot (i 0).val).1
    rw [tr3 gs h]
    refine ⟨fun a => ?_, .inl rfl⟩
    match a with
      | ⟨0, _⟩ => show (ex (gN gs) (i 0).val + 1) * 1 ≤ 32; omega
      | ⟨1, _⟩ => show (0 + 1) * 48 ≤ 48; omega
      | ⟨2, _⟩ => show (0 + 1) * 1536 ≤ 1536; omega
  · have hl := Plan.tile_lt _ h.tot (i 0).val
    rw [tr4 gs h]
    refine ⟨fun a => ?_, .inr (.inl (.inr ⟨by decide, rfl, .inl ⟨?_, ?_⟩⟩))⟩
    · match a with
      | ⟨0, _⟩ => show (tile (gN gs) (i 0).val + 1) * 256 ≤ 65536; omega
      | ⟨1, _⟩ => show (0 + 1) * 1536 ≤ 1536; omega
    · show 2 ∣ tile (gN gs) (i 0).val * 256; omega
    · show 2 ∣ 256; omega

/-- The launch's tables, with what the launch needs of them. -/
def admG : (p : Fin 1) → (pcfgs (F := F) p).Adm := fun _ => ⟨pfG gs, ok gs h⟩

theorem rE (i : grid0.Coords) : rdw (F := F) mE (pfG (F := F) gs 1) (k0_off33 i) (k0_off33_inb i) = BitVec.ofNat 32 (ex (gN gs) (i 0).val) :=
  (rd_at (expertI gs) _ _ i (k0_off33_eq i) _).trans (expert_ap gs h (jOf i))
theorem rA (i : grid0.Coords) : rdw (F := F) mA (pfG (F := F) gs 3) (k0_off32 i) (k0_off32_inb i) = if (i 0).val < Q (gN gs) 32 then 1#32 else 0#32 :=
  (rd_at (activeI gs) _ _ i (k0_off32_eq i) _).trans (active_ap gs h (jOf i))
theorem rF (i : grid0.Coords) : rdw (F := F) mF (pfG (F := F) gs 2) (k0_off1 i) (k0_off1_inb i)
    = if cl (gN gs) (i 0).val = Q (gN gs) (ex (gN gs) (i 0).val) ∧ (i 0).val < Q (gN gs) 32 then 1#32 else 0#32 :=
  (rd_at (freshI gs) _ _ i (k0_off1_eq i) _).trans (fresh_ap gs h (jOf i))
theorem rT (i : grid0.Coords) : rdw (F := F) mT (pfG (F := F) gs 0) (k0_off35 i) (k0_off35_inb i) = BitVec.ofNat 32 (tile (gN gs) (i 0).val) :=
  (rd_at (tileI gs) _ _ i (k0_off35_eq i) _).trans (tile_ap gs h (jOf i))
theorem rS (i : grid0.Coords) : rdw (F := F) mS (pfG (F := F) gs 4) (k0_off35 i) (k0_off35_inb i) = BitVec.ofNat 32 (P (gN gs) (ex (gN gs) (i 0).val)) :=
  (rd_at (beginI gs) _ _ i (k0_off35_eq i) _).trans (begin_ap gs h (jOf i))
omit h in
theorem pfG5 : pfG (F := F) gs 5 = endI gs := rfl
omit h in
theorem rN' (i : grid0.Coords) (T : IVec S288 32) : rdw (F := F) mN T (k0_off35 i) (k0_off35_inb i) = T (ix1 (jOf i)) := rd_at T _ _ i (k0_off35_eq i) _
theorem rN (i : grid0.Coords) : rdw (F := F) mN (pfG (F := F) gs 5) (k0_off35 i) (k0_off35_inb i) = BitVec.ofNat 32 (P (gN gs) (ex (gN gs) (i 0).val + 1)) :=
  (rN' i (endI gs)).trans (end_ap gs h (jOf i))

theorem chk (i : grid0.Coords) : k0_chk1 (rdw (F := F) mA (pfG (F := F) gs 3) (k0_off32 i) (k0_off32_inb i)) (rdw (F := F) mE (pfG (F := F) gs 1) (k0_off33 i) (k0_off33_inb i)) := by
  have hl := (Plan.step _ h.tot (i 0).val).1
  rw [rE gs h]
  exact chk_of _ _ (by rw [BitVec.toNat_ofNat, Nat.mod_eq_of_lt (by omega)]; exact hl)

end Cert.KernelIdeal.Hand
end
-- ==== Proof.KFrame.lean ====
/- The kernel's frame: under the precondition it terminates without fault, at rest, its arguments unchanged; and, for any relation
   the steps establish on the output's blocks, the output array is made by those blocks. -/
module

public import proofs.«01_k».proof.Proof.KPre

@[expose] public section

set_option maxRecDepth 16384

noncomputable section

namespace Cert.KernelIdeal.Hand

open Cert.KernelIdeal Cert.KernelIdeal.Gen
open Idealize.ShloMosaic Idealize.SL.Sem

variable {F : FTy → Type} [FloatOps F] [∀ e, Nonempty (Elt F e)]
variable (m : (ℓ : Loc nD τ sig) → Buf (Elt F) ℓ) (g : Dev nD → PrngReg)

theorem pf_eq (h : ∀ c, Rows (gsOf m c)) (c : Dev nD) (k : Fin 6) : Vent m c (pre0.ref k) = pfG (F := F) (gsOf m 0) k := by
  have hc : c = 0 := Subsingleton.elim _ _
  subst hc
  match k with
  | 0 => exact Vent_v44 m 0
  | 1 => exact Vent_v27 m 0
  | 2 => exact Vent_v50 m 0
  | 3 => exact Vent_v53 m 0
  | 4 => exact Vent_v60 m 0
  | 5 => exact Vent_v67 m 0

section Post

variable (a : (p : Fin 1) → (pcfgs (F := F) p).Adm)
variable (V : (c : Dev nD) → (b : Ref sig .tc) → Buf (Elt F) ((c.tc : Thread nD τ).loc b))
variable (R : Dev nD → Fin (cfg0 (a 0)).N → (Y X : S256x1536.Idx → Elt F .bf16) → Prop)
variable (I : Dev nD → ℕ → (S6144x1536.Idx → Elt F .bf16) → Prop)

/-- What the launch leaves in the argument arrays. -/
theorem argsV (r) (hf : Pipeline.RDat.FramePost (cfg0 (F := F) (a 0)) (rdat a V R I) V r) (c : Dev nD) :
    r.2.mem ((c.tc : Thread nD τ).loc main_arg0) = V c main_arg0
    ∧ r.2.mem ((c.tc : Thread nD τ).loc main_arg1) = V c main_arg1
    ∧ r.2.mem ((c.tc : Thread nD τ).loc main_arg2) = V c main_arg2
    ∧ r.2.mem ((c.tc : Thread nD τ).loc main_arg3) = V c main_arg3
    ∧ r.2.mem ((c.tc : Thread nD τ).loc main_arg4) = V c main_arg4
    ∧ (rdat a V R I c).ArrAt 4 (cfg0 (F := F) (a 0)).N (r.2.mem ((c.tc : Thread nD τ).loc main_v68)) :=
  ⟨Pipeline.RDat.FramePost.arr_in hf c 1 rfl, (hf c).2 main_arg1 (Pipeline.mem_restRefs_of (win := spec0) _ (by decide) (by decide)),
    Pipeline.RDat.FramePost.arr_in hf c 0 rfl, Pipeline.RDat.FramePost.arr_in hf c 2 rfl, Pipeline.RDat.FramePost.arr_in hf c 3 rfl,
    (hf c).1 4⟩

end Post

/-- The launch at the tables the host computes, for any relation and invariant the steps keep. -/
theorem runG (h : ∀ c, Rows (gsOf m c))
    (R : Dev nD → Fin (cfg0 (admG (F := F) (gsOf m 0) (h 0) 0)).N → (Y X : S256x1536.Idx → Elt F .bf16) → Prop)
    (I : Dev nD → ℕ → (S6144x1536.Idx → Elt F .bf16) → Prop)
    (hs : ∀ c, StepOk (admG (gsOf m 0) (h 0)) (Vent m) R I (chk (gsOf m 0) (h 0)) c) (hI : ∀ c f, I c 0 f) :
    θ_run (defs (F := F)) (onTc main) ⟨m, fun _ => 0, g⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ (∀ c : Dev nD, (rdat (admG (gsOf m 0) (h 0)) (Vent m) R I c).ArrAt 4 (cfg0 (F := F) (admG (gsOf m 0) (h 0) 0)).N (r.2.mem ((c.tc : Thread nD τ).loc main_v68)))
      ∧ r.2.sem = fun _ => 0) := by
  refine (θ_run (defs (F := F)) _ _).mono ?_ (runV (admG (gsOf m 0) (h 0)) (Vent m) R I m g (chk (gsOf m 0) (h 0)) hs hI (pf_eq m h) (hmain m))
  rintro r ⟨hf, hz⟩
  have h5 := argsV _ (Vent m) R I r hf
  refine ⟨fun c => ?_, fun c => (h5 c).2.2.2.2.2, hz⟩
  obtain ⟨e0, e1, e2, e3, e4, -⟩ := h5 c
  rw [Vent_arg m c _ (by simp)] at e0 e1 e2 e3 e4
  exact ⟨e0, e1, e2, e3, e4⟩

/-- The kernel's frame. -/
theorem frame (h : ∀ c, Rows (gsOf m c)) :
    θ_run (defs (F := F)) (onTc main) ⟨m, fun _ => 0, g⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run (defs (F := F)) _ _).mono (fun _ hr => ⟨hr.1, hr.2.2⟩) (runG m g h (fun _ _ _ _ => True) (fun _ _ _ => True) (fun _ _ _ _ _ _ _ _ _ _ _ _ _ _ _ _ _ _ => ⟨trivial, trivial⟩) (fun _ _ => trivial))

end Cert.KernelIdeal.Hand
end
-- ==== Proof.BBody.lean ====
module

public import proofs.«01_k».proof.Proof.Gen.Kernel.Loops
public import proofs.«01_k».proof.Proof.Gen.Kernel.Launch
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

abbrev mT : Memref sig .tc .smem S288 .i32 := Memref.whole main_v44
abbrev mE : Memref sig .tc .smem S288 .i32 := Memref.whole main_v27
abbrev mF : Memref sig .tc .smem S288 .i32 := Memref.whole main_v50
abbrev mA : Memref sig .tc .smem S288 .i32 := Memref.whole main_v53
abbrev mS : Memref sig .tc .smem S288 .i32 := Memref.whole main_v60
abbrev mN : Memref sig .tc .smem S288 .i32 := Memref.whole main_v67
abbrev mW : Memref sig .tc .vmem S6144x1536 .bf16 := Memref.whole cc0_scratch0

/-- The word of a prefetched table at one element. -/
abbrev rdw (arg : Memref sig .tc .smem S288 .i32) (f : BufTy.Contents (Elt F) arg.view.ty) (off : Fin 1 → ℕ)
    (h : ∀ a, off a + S1.size a ≤ S288.size a) : Elt F .i32 :=
  arg.view.readAt (Elt F) (Rect.unit (s := S288) off S1.size h).toLoadRect f
    (Shape.Idx.first (numel1_S1.symm ▸ Nat.one_pos))

/-- Whether a step dequantises: the body's first condition, on the table word it loads. -/
abbrev condF (v : BitVec 32) : Prop := Scalar.cmpi .ne (Scalar.extui (Scalar.cmpi .eq v 1#32) : BitVec 32) 0#32 = 1#1

/-- What a step leaves in the scratch (`fW`) and in the output's staging buffer (`fO`). -/
structure BodyPost (c : Dev nD) (i : grid0.Coords)
    (arg1 : Memref sig .tc .smem S288 .i32) (harg1 : arg1.IsWhole)
    (arg2 : Memref sig .tc .smem S288 .i32) (harg2 : arg2.IsWhole)
    (arg3 : Memref sig .tc .smem S288 .i32) (harg3 : arg3.IsWhole)
    (arg4 : Memref sig .tc .smem S288 .i32) (harg4 : arg4.IsWhole)
    (arg5 : Memref sig .tc .smem S288 .i32) (harg5 : arg5.IsWhole)
    (arg6 : Memref sig .tc .smem S288 .i32) (harg6 : arg6.IsWhole)
    (arg7 : Memref sig .tc .smem S32 .f32) (harg7 : arg7.IsWhole) (arg8 : Memref sig .tc .vmem S256x6144 .bf16) (harg8 : arg8.IsWhole)
    (arg9 : Memref sig .tc .vmem S1x6144x768 .i8) (harg9 : arg9.IsWhole) (arg10 : Memref sig .tc .vmem S1x48x1536 .f32) (harg10 : arg10.IsWhole)
    (arg11 : Memref sig .tc .vmem S256x1536 .bf16) (harg11 : arg11.IsWhole) (arg12 : Memref sig .tc .vmem S6144x1536 .bf16) (harg12 : arg12.IsWhole)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (hE : k0_chk1 (rdw arg4 f4 (k0_off32 i) (k0_off32_inb i)) (rdw arg2 f2 (k0_off33 i) (k0_off33_inb i)))
    (fO : BufTy.Contents (Elt F) arg11.view.ty) (fW : BufTy.Contents (Elt F) arg12.view.ty) : Prop where
  fresh : condF (rdw arg3 f3 (k0_off1 i) (k0_off1_inb i)) →
    fW = arg12.view.writes (Elt F) f12 (pb_k0_t1 (F := F) Variants.none c none i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) f9 f10 k0_t1_loop.trips)
  kept : ¬ condF (rdw arg3 f3 (k0_off1 i) (k0_off1_inb i)) → fW = f12
  active : ∀ hA : k0_cond2 (rdw arg4 f4 (k0_off32 i) (k0_off32_inb i)) = 1#1,
    fO = arg11.view.writes (Elt F) f11 [⟨Rect.unit ![0, 0] S256x1536.size inb_S256x1536_S256x1536_0_0,
      k0_pay3 (arg7.view.readAt (Elt F) (Rect.unit (s := S32) (k0_off34 (rdw arg2 f2 (k0_off33 i) (k0_off33_inb i))) S1.size (hE hA)).toLoadRect f7
          (Shape.Idx.first (numel1_S1.symm ▸ Nat.one_pos)))
        (arg8.view.readAt (Elt F) (Rect.unit ![0, 0] S256x6144.size inb_S256x6144_S256x6144_0_0).toLoadRect f8)
        (arg12.view.readAt (Elt F) (Rect.unit ![0, 0] S6144x1536.size inb_S6144x1536_S6144x1536_0_0).toLoadRect fW)
        (rdw arg1 f1 (k0_off35 i) (k0_off35_inb i)) (rdw arg5 f5 (k0_off35 i) (k0_off35_inb i)) (rdw arg6 f6 (k0_off35 i) (k0_off35_inb i))
        (arg11.view.readAt (Elt F) (Rect.unit ![0, 0] S256x1536.size inb_S256x1536_S256x1536_0_0).toLoadRect f11)⟩]
  idle : ¬ k0_cond2 (rdw arg4 f4 (k0_off32 i) (k0_off32_inb i)) = 1#1 → fO = f11

set_option maxHeartbeats 2000000 in
theorem bodyRun (c : Dev nD) (i : grid0.Coords)
    (arg1 : Memref sig .tc .smem S288 .i32) (harg1 : arg1.IsWhole)
    (arg2 : Memref sig .tc .smem S288 .i32) (harg2 : arg2.IsWhole)
    (arg3 : Memref sig .tc .smem S288 .i32) (harg3 : arg3.IsWhole)
    (arg4 : Memref sig .tc .smem S288 .i32) (harg4 : arg4.IsWhole)
    (arg5 : Memref sig .tc .smem S288 .i32) (harg5 : arg5.IsWhole)
    (arg6 : Memref sig .tc .smem S288 .i32) (harg6 : arg6.IsWhole)
    (arg7 : Memref sig .tc .smem S32 .f32) (harg7 : arg7.IsWhole) (arg8 : Memref sig .tc .vmem S256x6144 .bf16) (harg8 : arg8.IsWhole)
    (arg9 : Memref sig .tc .vmem S1x6144x768 .i8) (harg9 : arg9.IsWhole) (arg10 : Memref sig .tc .vmem S1x48x1536 .f32) (harg10 : arg10.IsWhole)
    (arg11 : Memref sig .tc .vmem S256x1536 .bf16) (harg11 : arg11.IsWhole) (arg12 : Memref sig .tc .vmem S6144x1536 .bf16) (harg12 : arg12.IsWhole)
    (f1 : BufTy.Contents (Elt F) arg1.view.ty)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty)
    (f12 : BufTy.Contents (Elt F) arg12.view.ty)
    (hE : k0_chk1 (rdw arg4 f4 (k0_off32 i) (k0_off32_inb i)) (rdw arg2 f2 (k0_off33 i) (k0_off33_inb i)))
    (q : PosShare TreeShare) (K : PUnit → sProp 𝕄) :
    iprop((arg1.view.loc (c : Thread nD τ) ↦[arg1.view.set]{q} f1)
      ∗ (arg2.view.loc (c : Thread nD τ) ↦[arg2.view.set]{q} f2)
      ∗ (arg3.view.loc (c : Thread nD τ) ↦[arg3.view.set]{q} f3)
      ∗ (arg4.view.loc (c : Thread nD τ) ↦[arg4.view.set]{q} f4)
      ∗ (arg5.view.loc (c : Thread nD τ) ↦[arg5.view.set]{q} f5)
      ∗ (arg6.view.loc (c : Thread nD τ) ↦[arg6.view.set]{q} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ ((∃ fO fW, ⌜BodyPost c i arg1 harg1 arg2 harg2 arg3 harg3 arg4 harg4 arg5 harg5 arg6 harg6 arg7 harg7 arg8 harg8 arg9 harg9 arg10 harg10 arg11 harg11 arg12 harg12 f1 f2 f3 f4 f5 f6 f7 f8 f9 f10 f11 f12 hE fO fW⌝ ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg5.view.loc (c : Thread nD τ) ↦[arg5.view.set]{q} f5) ∗ (arg6.view.loc (c : Thread nD τ) ↦[arg6.view.set]{q} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} fO) ∗ (arg12.view.loc (c : Thread nD τ) ↦[arg12.view.set]{fullShare} fW)) -∗ K ⟨⟩))
    ⊢ wp frame (wpE (defs₀ (F := F)) Variants.none c none) Set.univ
        (cc0_moe_dot i arg1 harg1 arg2 harg2 arg3 harg3 arg4 harg4 arg5 harg5 arg6 harg6 arg7 harg7 arg8 harg8 arg9 harg9 arg10 harg10 arg11 harg11 arg12 harg12) K := by
  simp only [cc0_moe_dot_eq_skeleton]; unfold cc0_moe_dot_skel
  iintro ⟨H1, H2, H3, H4, H5, H6, H7, H8, H9, H10, H11, H12, HK⟩
  sl_exec
  split
  · rename_i hF
    sl_exec
    split
    · rename_i hA
      sl_exec (disch := exact hE)
      sl_step
      iapply HK
      iexists _; iexists _
      isplitr
      rotate_left
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      ipureintro
      exact ⟨fun _ => rfl, fun h => absurd hF h, fun _ => rfl, fun h => absurd hA h⟩

    · rename_i hA
      sl_exec
      sl_step
      iapply HK
      iexists _; iexists _
      isplitr
      rotate_left
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      ipureintro
      exact ⟨fun _ => rfl, fun h => absurd hF h, fun h => absurd h hA, fun _ => rfl⟩

  · rename_i hF
    sl_exec
    split
    · rename_i hA
      sl_exec (disch := exact hE)
      sl_step
      iapply HK
      iexists _; iexists _
      isplitr
      rotate_left
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      ipureintro
      exact ⟨fun h => absurd h hF, fun _ => rfl, fun _ => rfl, fun h => absurd hA h⟩

    · rename_i hA
      sl_exec
      sl_step
      iapply HK
      iexists _; iexists _
      isplitr
      rotate_left
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      ipureintro
      exact ⟨fun h => absurd h hF, fun _ => rfl, fun h => absurd h hA, fun _ => rfl⟩

end Cert.Kernel.Hand

end
-- ==== Proof.BRun.lean ====
/- The pipeline's run, for any float values: the proof data (each input window left as found, the output window and the
   scratch under a relation and an invariant the caller names), the body obligation from `bodyRun`, and the launch. -/
module

public import proofs.«01_k».proof.Proof.BBody
public import Idealize.ShloMosaic.Lib.Pipeline.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

/-- The host operations before the region, stretch by stretch. -/
abbrev opss : List (List (HloOp τ sig (Elt F))) :=
  [hostOps0, hostOps0_1, hostOps0_2, hostOps0_3, hostOps0_4, hostOps0_5, hostOps0_6, hostOps0_7, hostOps0_8, hostOps0_9,
    hostOps0_10, hostOps0_11]

/-- A core's buffers when the region is entered. -/
def Vent (m : (ℓ : Loc nD τ sig) → Buf (Elt F) ℓ) (c : Dev nD) (b : Ref sig .tc) : Buf (Elt F) ((c : Thread nD τ).loc b) :=
  StableHlo.after (opss (F := F)).flatten (fun b => m (c, b)) b

theorem hmain (m : (ℓ : Loc nD τ sig) → Buf (Elt F) ℓ) :
    Pipeline.HMainP (Ix := Unit) (Name := ℕ) (U := UR sig nD τ) (Lvl := ℕ) (pcfgs (F := F)) 0 defs₀ Variants.none m main (Vent m) :=
  Pipeline.hmainP_prefixes (pcfgs (F := F)) 0 defs₀ Variants.none m main opss
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub, hostOps0_11_sub⟩
    (by simp only [opss, List.Forall]; repeat' constructor) main_chain

/-- The six tables, each held at half its share. -/
abbrev tabs (v : pre0.Contents (Elt F)) (c : Dev nD) : sProp 𝕄 := iprop(
      ((mT.view.loc (c : Thread nD τ)) ↦[mT.view.set]{fullShare.right} v 0)
      ∗ ((mE.view.loc (c : Thread nD τ)) ↦[mE.view.set]{fullShare.right} v 1)
      ∗ ((mF.view.loc (c : Thread nD τ)) ↦[mF.view.set]{fullShare.right} v 2)
      ∗ ((mA.view.loc (c : Thread nD τ)) ↦[mA.view.set]{fullShare.right} v 3)
      ∗ ((mS.view.loc (c : Thread nD τ)) ↦[mS.view.set]{fullShare.right} v 4)
      ∗ ((mN.view.loc (c : Thread nD τ)) ↦[mN.view.set]{fullShare.right} v 5))

/-- The tables' halves, listed. -/
theorem PhiT0_eq (v : pre0.Contents (Elt F)) (c : Dev nD) :
    (Pipeline.ΦT (U := UR sig nD τ) pre0 v c : sProp 𝕄) = tabs v c := by
  have h := bigSep_univ_eq_bigSepL [(0 : Fin 6), (1 : Fin 6), (2 : Fin 6), (3 : Fin 6), (4 : Fin 6), (5 : Fin 6)] (by decide) (by decide)
    (fun k : Fin 6 => iprop((((c : Dev nD) : Thread nD τ).loc (pre0.ref k)) ↦{fullShare.right} v k) : Fin 6 → sProp 𝕄)
  simp only [tabs, Memref.view_whole, View.set_whole]
  exact h

section Run

variable (a : (p : Fin 1) → (pcfgs (F := F) p).Adm)
variable (V : (c : Dev nD) → (b : Ref sig .tc) → Buf (Elt F) ((c : Thread nD τ).loc b))
variable (R : Dev nD → Fin (cfg0 (a 0)).N → (Y X : S256x1536.Idx → Elt F .bf16) → Prop)
variable (I : Dev nD → ℕ → (S6144x1536.Idx → Elt F .bf16) → Prop)

/-- The proof data: inputs left as found, the output's buffer related by `R`, the scratch within `I`. -/
def rdat (c : Dev nD) : RDat τ (Elt F) Unit ℕ (UR sig nD τ) ℕ (cfg0 (a 0)) c where
  A w := V c (Pipeline.arrRef spec0 w)
  after := fun
    | ⟨0, _⟩ => fun _ Y X => X = Y
    | ⟨1, _⟩ => fun _ Y X => X = Y
    | ⟨2, _⟩ => fun _ Y X => X = Y
    | ⟨3, _⟩ => fun _ Y X => X = Y
    | ⟨4, _⟩ => R c
    | ⟨_ + 5, h⟩ => absurd h (Nat.not_lt.2 (Nat.le_add_left _ _))
  Φ t := iprop((∃ f, ⌜I c t.val f⌝ ∗ ((mW.view.loc (c : Thread nD τ)) ↦[mW.view.set]{fullShare} f)) ∗ (∃ r, prngReg c r) ∗ tabs (a 0).1 c)
  q _ := fullShare
  owed _ := 0

/-- What the step at point `t` leaves, at the pipeline's own memrefs. -/
abbrev StepPost (hE : ∀ i : grid0.Coords, k0_chk1 (rdw mA ((a 0).1 3) (k0_off32 i) (k0_off32_inb i)) (rdw mE ((a 0).1 1) (k0_off33 i) (k0_off33_inb i)))
    (c : Dev nD) (t : Fin (cfg0 (F := F) (a 0)).N) (s : (w : Fin 5) → Fin ((spec0 w).nbuf))
    (f7 : BufTy.Contents (Elt F) (spec0_0.stage (s 0)).view.ty) (f8 : BufTy.Contents (Elt F) (spec0_1.stage (s 1)).view.ty)
    (f9 : BufTy.Contents (Elt F) (spec0_2.stage (s 2)).view.ty) (f10 : BufTy.Contents (Elt F) (spec0_3.stage (s 3)).view.ty)
    (f11 : BufTy.Contents (Elt F) (spec0_4.stage (s 4)).view.ty) (f12 : S6144x1536.Idx → Elt F .bf16)
    (fO : BufTy.Contents (Elt F) (spec0_4.stage (s 4)).view.ty) (fW : S6144x1536.Idx → Elt F .bf16) : Prop :=
  BodyPost c (grid0.coords t) mT (Memref.isWhole_whole _) mE (Memref.isWhole_whole _) mF (Memref.isWhole_whole _) mA (Memref.isWhole_whole _)
    mS (Memref.isWhole_whole _) mN (Memref.isWhole_whole _) (spec0_0.stage (s 0)) (hstage0_0 ((s 0).cast nbuf0_0))
    (spec0_1.stage (s 1)) (hstage0_1 ((s 1).cast nbuf0_1)) (spec0_2.stage (s 2)) (hstage0_2 ((s 2).cast nbuf0_2))
    (spec0_3.stage (s 3)) (hstage0_3 ((s 3).cast nbuf0_3)) (spec0_4.stage (s 4)) (hstage0_4 ((s 4).cast nbuf0_4))
    mW (Memref.isWhole_whole _) ((a 0).1 0) ((a 0).1 1) ((a 0).1 2) ((a 0).1 3) ((a 0).1 4) ((a 0).1 5) f7 f8 f9 f10 f11 f12 (hE _) fO fW

/-- A step keeps the invariant and establishes the output's relation. -/
def StepOk (hE : ∀ i : grid0.Coords, k0_chk1 (rdw mA ((a 0).1 3) (k0_off32 i) (k0_off32_inb i)) (rdw mE ((a 0).1 1) (k0_off33 i) (k0_off33_inb i)))
    (c : Dev nD) : Prop :=
  ∀ (t : Fin (cfg0 (F := F) (a 0)).N) (s : (w : Fin 5) → Fin ((spec0 w).nbuf)) f7 f8 f9 f10 f11 f12 fO fW,
    (rdat a V R I c).Finds 0 t ((spec0_0.stage (s 0)).view.read (Elt F) f7) →
    (rdat a V R I c).Finds 1 t ((spec0_1.stage (s 1)).view.read (Elt F) f8) →
    (rdat a V R I c).Finds 2 t ((spec0_2.stage (s 2)).view.read (Elt F) f9) →
    (rdat a V R I c).Finds 3 t ((spec0_3.stage (s 3)).view.read (Elt F) f10) →
    (rdat a V R I c).Finds 4 t ((spec0_4.stage (s 4)).view.read (Elt F) f11) →
    I c t.val f12 → StepPost a hE c t s f7 f8 f9 f10 f11 f12 fO fW →
    I c (t.val + 1) fW ∧ R c t ((spec0_4.stage (s 4)).view.read (Elt F) f11) ((spec0_4.stage (s 4)).view.read (Elt F) fO)

set_option maxHeartbeats 2000000 in
theorem body (hE) (c : Dev nD) (hs : StepOk a V R I hE c) :
    (rdat a V R I c).BodyObligation (defs₀ (F := F)) Variants.none () Set.univ := by
  intro t Y hY
  rw [show (bigSep Finset.univ fun w => owns c (((cfg0 (F := F) (a 0)).win w).stage ((cfg0 (F := F) (a 0)).slots t w)) fullShare (Y w) : sProp 𝕄) = _ from bigSep_W0 _]
  rw [show (fun w => iprop(∃ X, ⌜(rdat a V R I c).after w t (Y w) X⌝ ∗ owns c (((cfg0 (F := F) (a 0)).win w).stage ((cfg0 (F := F) (a 0)).slots t w)) fullShare X) : Fin 5 → sProp 𝕄) = _ from rfl]
  simp only [bigSep_W0]
  unfold defs₀; rw [Defs.onTc_tc]
  simp only [rdat, tabs, owns]
  unfold RDat.owesAt Pipeline.owesWithin
  iintro ⟨⟨⟨%f12, %hI, H12⟩, HR, H1, H2, H3, H4, H5, H6⟩, ⟨%W, %hW, HO⟩, ⟨%f7, %h7, H7⟩, ⟨%f8, %h8, H8⟩, ⟨%f9, %h9, H9⟩, ⟨%f10, %h10, H10⟩, ⟨%f11, %h11, H11⟩⟩
  iapply (bodyRun (F := F) c (grid0.coords t) mT (Memref.isWhole_whole _) mE (Memref.isWhole_whole _) mF (Memref.isWhole_whole _) mA (Memref.isWhole_whole _)
    mS (Memref.isWhole_whole _) mN (Memref.isWhole_whole _) (spec0_0.stage _) (hstage0_0 _)
    (spec0_1.stage _) (hstage0_1 _) (spec0_2.stage _) (hstage0_2 _)
    (spec0_3.stage _) (hstage0_3 _) (spec0_4.stage _) (hstage0_4 _)
    mW (Memref.isWhole_whole _) ((a 0).1 0) ((a 0).1 1) ((a 0).1 2) ((a 0).1 3) ((a 0).1 4) ((a 0).1 5) f7 f8 f9 f10 f11 f12 (hE _) fullShare.right _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨%fO, %fW, %hB, H1, H2, H3, H4, H5, H6, H7, H8, H9, H10, H11, H12⟩
  have hk := hs t ((cfg0 (F := F) (a 0)).slots t) f7 f8 f9 f10 f11 f12 fO fW (h7 ▸ hY 0) (h8 ▸ hY 1) (h9 ▸ hY 2) (h10 ▸ hY 3) (h11 ▸ hY 4) hI hB
  isplitl [H12 HR H1 H2 H3 H4 H5 H6]
  · isplitl [H12]
    · iexists fW
      isplitr
      · ipureintro; exact hk.1
      · iexact H12
    isplitl [HR]; · iexact HR
    isplitl [H1]; · iexact H1
    isplitl [H2]; · iexact H2
    isplitl [H3]; · iexact H3
    isplitl [H4]; · iexact H4
    isplitl [H5]; · iexact H5
    iexact H6
  isplitl [HO]
  · iexists W
    isplitr
    · ipureintro; exact fun _ _ => Or.inl trivial
    · iexact HO
  isplitl [H7]
  · iexists (Y 0)
    isplitr
    · ipureintro; rfl
    · iexists f7
      isplitr
      · ipureintro; exact h7
      · iexact H7
  isplitl [H8]
  · iexists (Y 1)
    isplitr
    · ipureintro; rfl
    · iexists f8
      isplitr
      · ipureintro; exact h8
      · iexact H8
  isplitl [H9]
  · iexists (Y 2)
    isplitr
    · ipureintro; rfl
    · iexists f9
      isplitr
      · ipureintro; exact h9
      · iexact H9
  isplitl [H10]
  · iexists (Y 3)
    isplitr
    · ipureintro; rfl
    · iexists f10
      isplitr
      · ipureintro; exact h10
      · iexact H10
  · iexists ((spec0_4.stage ((cfg0 (F := F) (a 0)).slots t 4)).view.read (Elt F) fO)
    isplitr
    · ipureintro; exact h11 ▸ hk.2
    · iexists fO
      isplitr
      · ipureintro; rfl
      · iexact H11

/-- Entering the region: the scratch and the tables in hand. -/
theorem phi_in (hI : ∀ c f, I c 0 f) (c : Dev nD) :
    iprop(Pipeline.ΦA spec0 c ∗ Pipeline.ΦT pre0 (a 0).1 c) ⊢ (rdat a V R I c).Φ 0 := by
  rw [show (rdat a V R I c).Φ 0 = iprop((∃ f, ⌜I c 0 f⌝ ∗ ((mW.view.loc (c : Thread nD τ)) ↦[mW.view.set]{fullShare} f)) ∗ (∃ r, prngReg c r) ∗ tabs (a 0).1 c) from rfl, ← PhiT0_eq]
  unfold Pipeline.ΦA
  rw [scopedRest0_eq]
  simp only [Memref.view_whole, View.set_whole]
  iintro ⟨⟨⟨%f, Hf⟩, HR⟩, HT⟩
  isplitl [Hf]
  · iexists f
    isplitr
    · ipureintro; exact hI c f
    · iexact Hf
  isplitl [HR]; · iexact HR
  iexact HT

/-- Leaving the region. -/
theorem phi_out (c : Dev nD) :
    (rdat a V R I c).Φ (Fin.last _) ⊢ Pipeline.ΦA spec0 c := by
  rw [show (rdat a V R I c).Φ (Fin.last _) = iprop((∃ f, ⌜I c _ f⌝ ∗ ((mW.view.loc (c : Thread nD τ)) ↦[mW.view.set]{fullShare} f)) ∗ (∃ r, prngReg c r) ∗ tabs (a 0).1 c) from rfl]
  unfold Pipeline.ΦA
  rw [scopedRest0_eq]
  simp only [Memref.view_whole, View.set_whole]
  iintro ⟨⟨%f, %h, Hf⟩, HR, HT⟩
  isplitl [Hf]
  · iexists f
    iexact Hf
  · iexact HR

set_option backward.isDefEq.respectTransparency.types false in
set_option maxHeartbeats 1000000 in
/-- The region's run from contents `V` at its entry. -/
theorem runV (m : (ℓ : Loc nD τ sig) → Buf (Elt F) ℓ) (g : Dev nD → PrngReg) (hE) (hs : ∀ c, StepOk a V R I hE c)
    (hI : ∀ c f, I c 0 f) (hpf : ∀ c k, V c (pre0.ref k) = (a 0).1 k)
    (hm : Pipeline.HMainP (Ix := Unit) (Name := ℕ) (U := UR sig nD τ) (Lvl := ℕ) (pcfgs (F := F)) 0 defs₀ Variants.none m main V) :
    θ_run (defs (F := F)) (onTc main) ⟨m, fun _ => 0, g⟩
      (fun r => RDat.FramePost (cfg0 (F := F) (a 0)) (rdat a V R I) V r ∧ r.2.sem = (fun _ => 0)) :=
  Pipeline.RDat.θ_run_frameP_track (pcfgs (F := F)) a 0 launch0 (defs₀ (F := F)) Variants.none (rdat a V R I) m g main
    (fun c => body a V R I hE c (hs c)) (fun c w => (rdat a V R I c).share_full (fun _ => rfl) w) (fun _ _ => rfl) V hm
    (fun _ _ => rfl) hpf (phi_in a V R I hI) (phi_out a V R I) _ (fun _ h => h)

end Run

end Cert.Kernel.Hand

end
-- ==== Proof.BHostVals.lean ====
/- The tables that the host operations compute from the group sizes, as functions of the group sizes; and that the region
   finds exactly these. -/
module

public import proofs.«01_k».proof.Proof.BRun
public import Idealize.ShloMosaic.Lib.Routing.Model

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.StableHlo

variable {F : FTy → Type} [FloatOps F] [∀ e, Nonempty (Elt F e)]

/-- A constant word at every expert. -/
abbrev k32 (v : BitVec 32) : IVec S32 32 := broadcastInDim S32 ![] bcast_S_S32 (constantI S_ 32 v)
/-- A constant word at every step. -/
abbrev k288 (v : BitVec 32) : IVec S288 32 := broadcastInDim S288 ![] bcast_S_S288 (constantI S_ 32 v)
/-- The running sum. -/
def cumI (x : IVec S32 32) : IVec S32 32 :=
  Host.reduceWindow IntOp.addi ![32] ![1] ![31] ![0] x (broadcastInDim S_ ![] bcast_S_S_ (constantI S_ 32 0#32)) reduceWindows_S32_S32_w32s1p31_0 h_S_
/-- Each expert's first row. -/
def startsI (gs : IVec S32 32) : IVec S32 32 := subi (cumI gs) gs
/-- Each expert's first row tile. -/
def firstI (gs : IVec S32 32) : IVec S32 32 := Routing.pyDiv bcast_S_S32 (startsI gs) (constantI S_ 32 256#32)
/-- How many row tiles each expert visits. -/
def visI (gs : IVec S32 32) : IVec S32 32 :=
  addi (subi (select (cmpi .sgt gs (k32 0#32)) (Routing.pyDiv bcast_S_S32 (subi (cumI gs) (k32 1#32)) (constantI S_ 32 256#32))
    (subi (firstI gs) (k32 1#32))) (firstI gs)) (k32 1#32)
/-- The number of steps that do something, from the running sum of the visits. -/
def totF (cv : IVec S32 32) : IVec S_ 32 := shapeCast S_ (extractStridedSlice S1 ![31] cv slices_S32_S1_31) shapeCasts_S1_S_
/-- Each step's number, cut at the last that does something. -/
def clF (cv : IVec S32 32) : IVec S288 32 :=
  minsi (iotaInDim S288 32 0) (broadcastInDim S288 ![] bcast_S_S288 (subi (totF cv) (constantI S_ 32 1#32)))
/-- Each step's expert. -/
def exF (cv : IVec S32 32) : IVec S288 32 :=
  Host.reduce IntOp.addi (extui 32 (cmpi .sle (broadcastInDim S288x32 ![0, 1] bcast_S1x32_S288x32_0_1 (broadcastInDim S1x32 ![1] bcast_S32_S1x32_1 cv))
    (broadcastInDim S288x32 ![0, 1] bcast_S288x1_S288x32_0_1 (broadcastInDim S288x1 ![0] bcast_S288_S288x1_0 (clF cv)))) natLt_1_32)
    (constantI S_ 32 0#32) reducesTo_S288x32_S288_d1 h_S_
/-- A table over experts, read at each step's expert. -/
def gatF (t : IVec S32 32) (ex : IVec S288 32) : IVec S288 32 :=
  Host.gather gather_S32_S288x1_S288_n_0_n_n_0_1_1 t
    (broadcastInDim S288x1 ![0] bcast_S288_S288x1_0 (select (cmpi .slt ex (k288 0#32)) (addi ex (k288 32#32)) ex))
/-- How many tiles of its expert come before each step. -/
def wiF (cv vis : IVec S32 32) : IVec S288 32 := subi (clF cv) (gatF (subi cv vis) (exF cv))
/-- Which steps do something. -/
def liveF (cv : IVec S32 32) : IVec S288 1 := cmpi .slt (iotaInDim S288 32 0) (broadcastInDim S288 ![] bcast_S_S288 (totF cv))

/-- The six tables. -/
def tileI (gs : IVec S32 32) : IVec S288 32 := addi (gatF (firstI gs) (exF (cumI (visI gs)))) (wiF (cumI (visI gs)) (visI gs))
def expertI (gs : IVec S32 32) : IVec S288 32 := exF (cumI (visI gs))
def freshI (gs : IVec S32 32) : IVec S288 32 :=
  select (andi (cmpi .eq (wiF (cumI (visI gs)) (visI gs)) (k288 0#32)) (liveF (cumI (visI gs)))) (k288 1#32) (k288 0#32)
def activeI (gs : IVec S32 32) : IVec S288 32 := extui 32 (liveF (cumI (visI gs))) natLt_1_32
def beginI (gs : IVec S32 32) : IVec S288 32 := gatF (startsI gs) (exF (cumI (visI gs)))
def endI (gs : IVec S32 32) : IVec S288 32 := gatF (cumI gs) (exF (cumI (visI gs)))

section Stages
variable (W : Valuation τ sig (Elt F))

set_option maxHeartbeats 400000

theorem st0 : after hostOps0 W (Proc.devRef .tc main_v0) = cumI (W (Proc.devRef .tc main_arg1)) := by
  after_results_simp
  simp only [TRef.toBuf, TRef.ofBuf, cast_cast, cast_eq]
  try rfl
theorem st1 : after hostOps0_1 W (Proc.devRef .tc main_v1) = (subi (W (Proc.devRef .tc main_v0)) (W (Proc.devRef .tc main_arg1)) : IVec S32 32) := by
  after_results_simp
theorem st1c : after hostOps0_1 W (Proc.devRef .tc main_c) = constantI S_ 32 256#32 := by
  after_results_simp
theorem st2 : after hostOps0_2 W (Proc.devRef .tc main_v2) = Routing.pyDiv bcast_S_S32 (W (Proc.devRef .tc main_v1)) (W (Proc.devRef .tc main_c)) := by
  after_results_simp
  simp only [TRef.toBuf, TRef.ofBuf, cast_cast, cast_eq]
  try rfl
theorem st3 : after hostOps0_3 W (Proc.devRef .tc main_v4) = (cmpi .sgt (W (Proc.devRef .tc main_arg1)) (k32 0#32) : IVec S32 1) := by
  after_results_simp
theorem st3b : after hostOps0_3 W (Proc.devRef .tc main_v6) = (subi (W (Proc.devRef .tc main_v0)) (k32 1#32) : IVec S32 32) := by
  after_results_simp
theorem st3c : after hostOps0_3 W (Proc.devRef .tc main_c_2) = constantI S_ 32 256#32 := by
  after_results_simp
theorem st4 : after hostOps0_4 W (Proc.devRef .tc main_v7) = Routing.pyDiv bcast_S_S32 (W (Proc.devRef .tc main_v6)) (W (Proc.devRef .tc main_c_2)) := by
  after_results_simp
  simp only [TRef.toBuf, TRef.ofBuf, cast_cast, cast_eq]
  try rfl
theorem st5 : after hostOps0_5 W (Proc.devRef .tc main_v9) = (subi (W (Proc.devRef .tc main_v2)) (k32 1#32) : IVec S32 32) := by
  after_results_simp
theorem st6 : after hostOps0_6 W (Proc.devRef .tc main_v10) = (select (W (Proc.devRef .tc main_v4)) (W (Proc.devRef .tc main_v7)) (W (Proc.devRef .tc main_v9)) : IVec S32 32) := by
  after_results_simp
  simp only [TRef.toBuf, TRef.ofBuf, cast_cast, cast_eq]
  try rfl
theorem st7 : after hostOps0_7 W (Proc.devRef .tc main_v13) = (addi (subi (W (Proc.devRef .tc main_v10)) (W (Proc.devRef .tc main_v2))) (k32 1#32) : IVec S32 32) := by
  after_results_simp
theorem st8 : after hostOps0_8 W (Proc.devRef .tc main_v14) = cumI (W (Proc.devRef .tc main_v13)) := by
  after_results_simp
  simp only [TRef.toBuf, TRef.ofBuf, cast_cast, cast_eq]
  try rfl
theorem st9_15 : after hostOps0_9 W (Proc.devRef .tc main_v15) = (iotaInDim S288 32 0 : IVec S288 32) := by
  after_results_simp
  try rfl
theorem st9_17 : after hostOps0_9 W (Proc.devRef .tc main_v17) = (totF (W (Proc.devRef .tc main_v14)) : IVec S_ 32) := by
  after_results_simp
  try rfl
theorem st9_27 : after hostOps0_9 W (Proc.devRef .tc main_v27) = (exF (W (Proc.devRef .tc main_v14)) : IVec S288 32) := by
  after_results_simp
  try rfl
theorem st9_44 : after hostOps0_9 W (Proc.devRef .tc main_v44) = (addi (gatF (W (Proc.devRef .tc main_v2)) (exF (W (Proc.devRef .tc main_v14)))) (wiF (W (Proc.devRef .tc main_v14)) (W (Proc.devRef .tc main_v13))) : IVec S288 32) := by
  after_results_simp
  try rfl
theorem st9_49 : after hostOps0_9 W (Proc.devRef .tc main_v49) = (andi (cmpi .eq (wiF (W (Proc.devRef .tc main_v14)) (W (Proc.devRef .tc main_v13))) (k288 0#32)) (liveF (W (Proc.devRef .tc main_v14))) : IVec S288 1) := by
  after_results_simp
  try rfl
theorem st9_c12 : after hostOps0_9 W (Proc.devRef .tc main_c_12) = (constantI S_ 32 1#32 : IVec S_ 32) := by
  after_results_simp
  try rfl
theorem st9_c13 : after hostOps0_9 W (Proc.devRef .tc main_c_13) = (constantI S_ 32 0#32 : IVec S_ 32) := by
  after_results_simp
  try rfl
theorem st10_50 : after hostOps0_10 W (Proc.devRef .tc main_v50) = (select (W (Proc.devRef .tc main_v49)) (broadcastInDim S288 ![] bcast_S_S288 (W (Proc.devRef .tc main_c_12))) (broadcastInDim S288 ![] bcast_S_S288 (W (Proc.devRef .tc main_c_13))) : IVec S288 32) := by
  after_results_simp
  simp only [TRef.toBuf, TRef.ofBuf, cast_cast, cast_eq]
  try rfl
theorem st11_53 : after hostOps0_11 W (Proc.devRef .tc main_v53) = (extui 32 (cmpi .slt (W (Proc.devRef .tc main_v15)) (broadcastInDim S288 ![] bcast_S_S288 (W (Proc.devRef .tc main_v17)))) natLt_1_32 : IVec S288 32) := by
  after_results_simp
  try rfl
theorem st11_60 : after hostOps0_11 W (Proc.devRef .tc main_v60) = (gatF (W (Proc.devRef .tc main_v1)) (W (Proc.devRef .tc main_v27)) : IVec S288 32) := by
  after_results_simp
  try rfl
theorem st11_67 : after hostOps0_11 W (Proc.devRef .tc main_v67) = (gatF (W (Proc.devRef .tc main_v0)) (W (Proc.devRef .tc main_v27)) : IVec S288 32) := by
  after_results_simp
  try rfl
theorem kp_arg1 : after hostOps0 W (Proc.devRef .tc main_arg1) = W (Proc.devRef .tc main_arg1) := by
  after_results_simp
theorem kp_1_arg1 : after hostOps0_1 W (Proc.devRef .tc main_arg1) = W (Proc.devRef .tc main_arg1) := by
  after_results_simp
theorem kp_1_v0 : after hostOps0_1 W (Proc.devRef .tc main_v0) = W (Proc.devRef .tc main_v0) := by
  after_results_simp
theorem kp_2_arg1 : after hostOps0_2 W (Proc.devRef .tc main_arg1) = W (Proc.devRef .tc main_arg1) := by
  after_results_simp
theorem kp_2_v0 : after hostOps0_2 W (Proc.devRef .tc main_v0) = W (Proc.devRef .tc main_v0) := by
  after_results_simp
theorem kp_2_v1 : after hostOps0_2 W (Proc.devRef .tc main_v1) = W (Proc.devRef .tc main_v1) := by
  after_results_simp
theorem kp_3_v0 : after hostOps0_3 W (Proc.devRef .tc main_v0) = W (Proc.devRef .tc main_v0) := by
  after_results_simp
theorem kp_3_v1 : after hostOps0_3 W (Proc.devRef .tc main_v1) = W (Proc.devRef .tc main_v1) := by
  after_results_simp
theorem kp_3_v2 : after hostOps0_3 W (Proc.devRef .tc main_v2) = W (Proc.devRef .tc main_v2) := by
  after_results_simp
theorem kp_4_v0 : after hostOps0_4 W (Proc.devRef .tc main_v0) = W (Proc.devRef .tc main_v0) := by
  after_results_simp
theorem kp_4_v1 : after hostOps0_4 W (Proc.devRef .tc main_v1) = W (Proc.devRef .tc main_v1) := by
  after_results_simp
theorem kp_4_v2 : after hostOps0_4 W (Proc.devRef .tc main_v2) = W (Proc.devRef .tc main_v2) := by
  after_results_simp
theorem kp_4_v4 : after hostOps0_4 W (Proc.devRef .tc main_v4) = W (Proc.devRef .tc main_v4) := by
  after_results_simp
theorem kp_5_v0 : after hostOps0_5 W (Proc.devRef .tc main_v0) = W (Proc.devRef .tc main_v0) := by
  after_results_simp
theorem kp_5_v1 : after hostOps0_5 W (Proc.devRef .tc main_v1) = W (Proc.devRef .tc main_v1) := by
  after_results_simp
theorem kp_5_v2 : after hostOps0_5 W (Proc.devRef .tc main_v2) = W (Proc.devRef .tc main_v2) := by
  after_results_simp
theorem kp_5_v4 : after hostOps0_5 W (Proc.devRef .tc main_v4) = W (Proc.devRef .tc main_v4) := by
  after_results_simp
theorem kp_5_v7 : after hostOps0_5 W (Proc.devRef .tc main_v7) = W (Proc.devRef .tc main_v7) := by
  after_results_simp
theorem kp_6_v0 : after hostOps0_6 W (Proc.devRef .tc main_v0) = W (Proc.devRef .tc main_v0) := by
  after_results_simp
theorem kp_6_v1 : after hostOps0_6 W (Proc.devRef .tc main_v1) = W (Proc.devRef .tc main_v1) := by
  after_results_simp
theorem kp_6_v2 : after hostOps0_6 W (Proc.devRef .tc main_v2) = W (Proc.devRef .tc main_v2) := by
  after_results_simp
theorem kp_7_v0 : after hostOps0_7 W (Proc.devRef .tc main_v0) = W (Proc.devRef .tc main_v0) := by
  after_results_simp
theorem kp_7_v1 : after hostOps0_7 W (Proc.devRef .tc main_v1) = W (Proc.devRef .tc main_v1) := by
  after_results_simp
theorem kp_7_v2 : after hostOps0_7 W (Proc.devRef .tc main_v2) = W (Proc.devRef .tc main_v2) := by
  after_results_simp
theorem kp_8_v0 : after hostOps0_8 W (Proc.devRef .tc main_v0) = W (Proc.devRef .tc main_v0) := by
  after_results_simp
theorem kp_8_v1 : after hostOps0_8 W (Proc.devRef .tc main_v1) = W (Proc.devRef .tc main_v1) := by
  after_results_simp
theorem kp_8_v2 : after hostOps0_8 W (Proc.devRef .tc main_v2) = W (Proc.devRef .tc main_v2) := by
  after_results_simp
theorem kp_8_v13 : after hostOps0_8 W (Proc.devRef .tc main_v13) = W (Proc.devRef .tc main_v13) := by
  after_results_simp
theorem kp_9_v0 : after hostOps0_9 W (Proc.devRef .tc main_v0) = W (Proc.devRef .tc main_v0) := by
  after_results_simp
theorem kp_9_v1 : after hostOps0_9 W (Proc.devRef .tc main_v1) = W (Proc.devRef .tc main_v1) := by
  after_results_simp
theorem kp_10_v0 : after hostOps0_10 W (Proc.devRef .tc main_v0) = W (Proc.devRef .tc main_v0) := by
  after_results_simp
theorem kp_10_v1 : after hostOps0_10 W (Proc.devRef .tc main_v1) = W (Proc.devRef .tc main_v1) := by
  after_results_simp
theorem kp_10_v15 : after hostOps0_10 W (Proc.devRef .tc main_v15) = W (Proc.devRef .tc main_v15) := by
  after_results_simp
theorem kp_10_v17 : after hostOps0_10 W (Proc.devRef .tc main_v17) = W (Proc.devRef .tc main_v17) := by
  after_results_simp
theorem kp_10_v27 : after hostOps0_10 W (Proc.devRef .tc main_v27) = W (Proc.devRef .tc main_v27) := by
  after_results_simp
theorem kp_10_v44 : after hostOps0_10 W (Proc.devRef .tc main_v44) = W (Proc.devRef .tc main_v44) := by
  after_results_simp
theorem kp_11_v27 : after hostOps0_11 W (Proc.devRef .tc main_v27) = W (Proc.devRef .tc main_v27) := by
  after_results_simp
theorem kp_11_v44 : after hostOps0_11 W (Proc.devRef .tc main_v44) = W (Proc.devRef .tc main_v44) := by
  after_results_simp
theorem kp_11_v50 : after hostOps0_11 W (Proc.devRef .tc main_v50) = W (Proc.devRef .tc main_v50) := by
  after_results_simp
end Stages

section Compose
variable (m : (ℓ : Loc nD τ sig) → Buf (Elt F) ℓ) (c : Dev nD)

/-- The group sizes. -/
abbrev gsOf : IVec S32 32 := m (c, Proc.devRef .tc main_arg1)

/-- The buffers after 1 stretches. -/
def Ws0 : Valuation τ sig (Elt F) := after hostOps0 (fun b => m (c, b))
theorem Ws0_v0 : Ws0 m c (Proc.devRef .tc main_v0) = cumI (gsOf m c) :=
  (st0 (fun b => m (c, b))).trans (rfl)
theorem Ws0_arg1 : Ws0 m c (Proc.devRef .tc main_arg1) = gsOf m c :=
  (kp_arg1 (fun b => m (c, b))).trans (rfl)
/-- The buffers after 2 stretches. -/
def Ws1 : Valuation τ sig (Elt F) := after hostOps0_1 (Ws0 m c)
theorem Ws1_v1 : Ws1 m c (Proc.devRef .tc main_v1) = startsI (gsOf m c) :=
  (st1 (Ws0 m c)).trans (by rw [Ws0_v0, Ws0_arg1]; try rfl)
theorem Ws1_c : Ws1 m c (Proc.devRef .tc main_c) = constantI S_ 32 256#32 :=
  (st1c (Ws0 m c)).trans (rfl)
theorem Ws1_arg1 : Ws1 m c (Proc.devRef .tc main_arg1) = gsOf m c :=
  (kp_1_arg1 (Ws0 m c)).trans (Ws0_arg1 m c)
theorem Ws1_v0 : Ws1 m c (Proc.devRef .tc main_v0) = cumI (gsOf m c) :=
  (kp_1_v0 (Ws0 m c)).trans (Ws0_v0 m c)
/-- The buffers after 3 stretches. -/
def Ws2 : Valuation τ sig (Elt F) := after hostOps0_2 (Ws1 m c)
theorem Ws2_v2 : Ws2 m c (Proc.devRef .tc main_v2) = firstI (gsOf m c) :=
  (st2 (Ws1 m c)).trans (by rw [Ws1_v1, Ws1_c]; try rfl)
theorem Ws2_arg1 : Ws2 m c (Proc.devRef .tc main_arg1) = gsOf m c :=
  (kp_2_arg1 (Ws1 m c)).trans (Ws1_arg1 m c)
theorem Ws2_v0 : Ws2 m c (Proc.devRef .tc main_v0) = cumI (gsOf m c) :=
  (kp_2_v0 (Ws1 m c)).trans (Ws1_v0 m c)
theorem Ws2_v1 : Ws2 m c (Proc.devRef .tc main_v1) = startsI (gsOf m c) :=
  (kp_2_v1 (Ws1 m c)).trans (Ws1_v1 m c)
/-- The buffers after 4 stretches. -/
def Ws3 : Valuation τ sig (Elt F) := after hostOps0_3 (Ws2 m c)
theorem Ws3_v4 : Ws3 m c (Proc.devRef .tc main_v4) = (cmpi .sgt (gsOf m c) (k32 0#32) : IVec S32 1) :=
  (st3 (Ws2 m c)).trans (by rw [Ws2_arg1]; try rfl)
theorem Ws3_v6 : Ws3 m c (Proc.devRef .tc main_v6) = (subi (cumI (gsOf m c)) (k32 1#32) : IVec S32 32) :=
  (st3b (Ws2 m c)).trans (by rw [Ws2_v0]; try rfl)
theorem Ws3_c_2 : Ws3 m c (Proc.devRef .tc main_c_2) = constantI S_ 32 256#32 :=
  (st3c (Ws2 m c)).trans (rfl)
theorem Ws3_v0 : Ws3 m c (Proc.devRef .tc main_v0) = cumI (gsOf m c) :=
  (kp_3_v0 (Ws2 m c)).trans (Ws2_v0 m c)
theorem Ws3_v1 : Ws3 m c (Proc.devRef .tc main_v1) = startsI (gsOf m c) :=
  (kp_3_v1 (Ws2 m c)).trans (Ws2_v1 m c)
theorem Ws3_v2 : Ws3 m c (Proc.devRef .tc main_v2) = firstI (gsOf m c) :=
  (kp_3_v2 (Ws2 m c)).trans (Ws2_v2 m c)
/-- The buffers after 5 stretches. -/
def Ws4 : Valuation τ sig (Elt F) := after hostOps0_4 (Ws3 m c)
theorem Ws4_v7 : Ws4 m c (Proc.devRef .tc main_v7) = Routing.pyDiv bcast_S_S32 (subi (cumI (gsOf m c)) (k32 1#32)) (constantI S_ 32 256#32) :=
  (st4 (Ws3 m c)).trans (by rw [Ws3_v6, Ws3_c_2]; try rfl)
theorem Ws4_v0 : Ws4 m c (Proc.devRef .tc main_v0) = cumI (gsOf m c) :=
  (kp_4_v0 (Ws3 m c)).trans (Ws3_v0 m c)
theorem Ws4_v1 : Ws4 m c (Proc.devRef .tc main_v1) = startsI (gsOf m c) :=
  (kp_4_v1 (Ws3 m c)).trans (Ws3_v1 m c)
theorem Ws4_v2 : Ws4 m c (Proc.devRef .tc main_v2) = firstI (gsOf m c) :=
  (kp_4_v2 (Ws3 m c)).trans (Ws3_v2 m c)
theorem Ws4_v4 : Ws4 m c (Proc.devRef .tc main_v4) = (cmpi .sgt (gsOf m c) (k32 0#32) : IVec S32 1) :=
  (kp_4_v4 (Ws3 m c)).trans (Ws3_v4 m c)
/-- The buffers after 6 stretches. -/
def Ws5 : Valuation τ sig (Elt F) := after hostOps0_5 (Ws4 m c)
theorem Ws5_v9 : Ws5 m c (Proc.devRef .tc main_v9) = (subi (firstI (gsOf m c)) (k32 1#32) : IVec S32 32) :=
  (st5 (Ws4 m c)).trans (by rw [Ws4_v2]; try rfl)
theorem Ws5_v0 : Ws5 m c (Proc.devRef .tc main_v0) = cumI (gsOf m c) :=
  (kp_5_v0 (Ws4 m c)).trans (Ws4_v0 m c)
theorem Ws5_v1 : Ws5 m c (Proc.devRef .tc main_v1) = startsI (gsOf m c) :=
  (kp_5_v1 (Ws4 m c)).trans (Ws4_v1 m c)
theorem Ws5_v2 : Ws5 m c (Proc.devRef .tc main_v2) = firstI (gsOf m c) :=
  (kp_5_v2 (Ws4 m c)).trans (Ws4_v2 m c)
theorem Ws5_v4 : Ws5 m c (Proc.devRef .tc main_v4) = (cmpi .sgt (gsOf m c) (k32 0#32) : IVec S32 1) :=
  (kp_5_v4 (Ws4 m c)).trans (Ws4_v4 m c)
theorem Ws5_v7 : Ws5 m c (Proc.devRef .tc main_v7) = Routing.pyDiv bcast_S_S32 (subi (cumI (gsOf m c)) (k32 1#32)) (constantI S_ 32 256#32) :=
  (kp_5_v7 (Ws4 m c)).trans (Ws4_v7 m c)
/-- The buffers after 7 stretches. -/
def Ws6 : Valuation τ sig (Elt F) := after hostOps0_6 (Ws5 m c)
theorem Ws6_v10 : Ws6 m c (Proc.devRef .tc main_v10) = (select (cmpi .sgt (gsOf m c) (k32 0#32)) (Routing.pyDiv bcast_S_S32 (subi (cumI (gsOf m c)) (k32 1#32)) (constantI S_ 32 256#32)) (subi (firstI (gsOf m c)) (k32 1#32)) : IVec S32 32) :=
  (st6 (Ws5 m c)).trans (by rw [Ws5_v4, Ws5_v7, Ws5_v9]; try rfl)
theorem Ws6_v0 : Ws6 m c (Proc.devRef .tc main_v0) = cumI (gsOf m c) :=
  (kp_6_v0 (Ws5 m c)).trans (Ws5_v0 m c)
theorem Ws6_v1 : Ws6 m c (Proc.devRef .tc main_v1) = startsI (gsOf m c) :=
  (kp_6_v1 (Ws5 m c)).trans (Ws5_v1 m c)
theorem Ws6_v2 : Ws6 m c (Proc.devRef .tc main_v2) = firstI (gsOf m c) :=
  (kp_6_v2 (Ws5 m c)).trans (Ws5_v2 m c)
/-- The buffers after 8 stretches. -/
def Ws7 : Valuation τ sig (Elt F) := after hostOps0_7 (Ws6 m c)
theorem Ws7_v13 : Ws7 m c (Proc.devRef .tc main_v13) = visI (gsOf m c) :=
  (st7 (Ws6 m c)).trans (by rw [Ws6_v10, Ws6_v2]; try rfl)
theorem Ws7_v0 : Ws7 m c (Proc.devRef .tc main_v0) = cumI (gsOf m c) :=
  (kp_7_v0 (Ws6 m c)).trans (Ws6_v0 m c)
theorem Ws7_v1 : Ws7 m c (Proc.devRef .tc main_v1) = startsI (gsOf m c) :=
  (kp_7_v1 (Ws6 m c)).trans (Ws6_v1 m c)
theorem Ws7_v2 : Ws7 m c (Proc.devRef .tc main_v2) = firstI (gsOf m c) :=
  (kp_7_v2 (Ws6 m c)).trans (Ws6_v2 m c)
/-- The buffers after 9 stretches. -/
def Ws8 : Valuation τ sig (Elt F) := after hostOps0_8 (Ws7 m c)
theorem Ws8_v14 : Ws8 m c (Proc.devRef .tc main_v14) = cumI (visI (gsOf m c)) :=
  (st8 (Ws7 m c)).trans (by rw [Ws7_v13]; try rfl)
theorem Ws8_v0 : Ws8 m c (Proc.devRef .tc main_v0) = cumI (gsOf m c) :=
  (kp_8_v0 (Ws7 m c)).trans (Ws7_v0 m c)
theorem Ws8_v1 : Ws8 m c (Proc.devRef .tc main_v1) = startsI (gsOf m c) :=
  (kp_8_v1 (Ws7 m c)).trans (Ws7_v1 m c)
theorem Ws8_v2 : Ws8 m c (Proc.devRef .tc main_v2) = firstI (gsOf m c) :=
  (kp_8_v2 (Ws7 m c)).trans (Ws7_v2 m c)
theorem Ws8_v13 : Ws8 m c (Proc.devRef .tc main_v13) = visI (gsOf m c) :=
  (kp_8_v13 (Ws7 m c)).trans (Ws7_v13 m c)
/-- The buffers after 10 stretches. -/
def Ws9 : Valuation τ sig (Elt F) := after hostOps0_9 (Ws8 m c)
theorem Ws9_v15 : Ws9 m c (Proc.devRef .tc main_v15) = iotaInDim S288 32 0 :=
  (st9_15 (Ws8 m c)).trans (rfl)
theorem Ws9_v17 : Ws9 m c (Proc.devRef .tc main_v17) = totF (cumI (visI (gsOf m c))) :=
  (st9_17 (Ws8 m c)).trans (by rw [Ws8_v14]; try rfl)
theorem Ws9_v27 : Ws9 m c (Proc.devRef .tc main_v27) = expertI (gsOf m c) :=
  (st9_27 (Ws8 m c)).trans (by rw [Ws8_v14]; try rfl)
theorem Ws9_v44 : Ws9 m c (Proc.devRef .tc main_v44) = tileI (gsOf m c) :=
  (st9_44 (Ws8 m c)).trans (by rw [Ws8_v2, Ws8_v14, Ws8_v13]; try rfl)
theorem Ws9_v49 : Ws9 m c (Proc.devRef .tc main_v49) = (andi (cmpi .eq (wiF (cumI (visI (gsOf m c))) (visI (gsOf m c))) (k288 0#32)) (liveF (cumI (visI (gsOf m c)))) : IVec S288 1) :=
  (st9_49 (Ws8 m c)).trans (by rw [Ws8_v14, Ws8_v13]; try rfl)
theorem Ws9_c_12 : Ws9 m c (Proc.devRef .tc main_c_12) = constantI S_ 32 1#32 :=
  (st9_c12 (Ws8 m c)).trans (rfl)
theorem Ws9_c_13 : Ws9 m c (Proc.devRef .tc main_c_13) = constantI S_ 32 0#32 :=
  (st9_c13 (Ws8 m c)).trans (rfl)
theorem Ws9_v0 : Ws9 m c (Proc.devRef .tc main_v0) = cumI (gsOf m c) :=
  (kp_9_v0 (Ws8 m c)).trans (Ws8_v0 m c)
theorem Ws9_v1 : Ws9 m c (Proc.devRef .tc main_v1) = startsI (gsOf m c) :=
  (kp_9_v1 (Ws8 m c)).trans (Ws8_v1 m c)
/-- The buffers after 11 stretches. -/
def Ws10 : Valuation τ sig (Elt F) := after hostOps0_10 (Ws9 m c)
theorem Ws10_v50 : Ws10 m c (Proc.devRef .tc main_v50) = freshI (gsOf m c) :=
  (st10_50 (Ws9 m c)).trans (by rw [Ws9_v49, Ws9_c_12, Ws9_c_13]; try rfl)
theorem Ws10_v0 : Ws10 m c (Proc.devRef .tc main_v0) = cumI (gsOf m c) :=
  (kp_10_v0 (Ws9 m c)).trans (Ws9_v0 m c)
theorem Ws10_v1 : Ws10 m c (Proc.devRef .tc main_v1) = startsI (gsOf m c) :=
  (kp_10_v1 (Ws9 m c)).trans (Ws9_v1 m c)
theorem Ws10_v15 : Ws10 m c (Proc.devRef .tc main_v15) = iotaInDim S288 32 0 :=
  (kp_10_v15 (Ws9 m c)).trans (Ws9_v15 m c)
theorem Ws10_v17 : Ws10 m c (Proc.devRef .tc main_v17) = totF (cumI (visI (gsOf m c))) :=
  (kp_10_v17 (Ws9 m c)).trans (Ws9_v17 m c)
theorem Ws10_v27 : Ws10 m c (Proc.devRef .tc main_v27) = expertI (gsOf m c) :=
  (kp_10_v27 (Ws9 m c)).trans (Ws9_v27 m c)
theorem Ws10_v44 : Ws10 m c (Proc.devRef .tc main_v44) = tileI (gsOf m c) :=
  (kp_10_v44 (Ws9 m c)).trans (Ws9_v44 m c)
/-- The buffers after 12 stretches. -/
def Ws11 : Valuation τ sig (Elt F) := after hostOps0_11 (Ws10 m c)
theorem Ws11_v53 : Ws11 m c (Proc.devRef .tc main_v53) = activeI (gsOf m c) :=
  (st11_53 (Ws10 m c)).trans (by rw [Ws10_v15, Ws10_v17]; try rfl)
theorem Ws11_v60 : Ws11 m c (Proc.devRef .tc main_v60) = beginI (gsOf m c) :=
  (st11_60 (Ws10 m c)).trans (by rw [Ws10_v1, Ws10_v27]; try rfl)
theorem Ws11_v67 : Ws11 m c (Proc.devRef .tc main_v67) = endI (gsOf m c) :=
  (st11_67 (Ws10 m c)).trans (by rw [Ws10_v0, Ws10_v27]; try rfl)
theorem Ws11_v27 : Ws11 m c (Proc.devRef .tc main_v27) = expertI (gsOf m c) :=
  (kp_11_v27 (Ws10 m c)).trans (Ws10_v27 m c)
theorem Ws11_v44 : Ws11 m c (Proc.devRef .tc main_v44) = tileI (gsOf m c) :=
  (kp_11_v44 (Ws10 m c)).trans (Ws10_v44 m c)
theorem Ws11_v50 : Ws11 m c (Proc.devRef .tc main_v50) = freshI (gsOf m c) :=
  (kp_11_v50 (Ws10 m c)).trans (Ws10_v50 m c)

theorem Vent_eq (b : Ref sig .tc) : Vent m c b = Ws11 m c (Proc.devRef .tc b) := by
  unfold Vent
  simp only [opss, List.flatten_cons, List.flatten_nil, after_append, after_nil]
  rfl
theorem Vent_v44 : Vent m c main_v44 = tileI (gsOf m c) := (Vent_eq m c _).trans (Ws11_v44 m c)
theorem Vent_v27 : Vent m c main_v27 = expertI (gsOf m c) := (Vent_eq m c _).trans (Ws11_v27 m c)
theorem Vent_v50 : Vent m c main_v50 = freshI (gsOf m c) := (Vent_eq m c _).trans (Ws11_v50 m c)
theorem Vent_v53 : Vent m c main_v53 = activeI (gsOf m c) := (Vent_eq m c _).trans (Ws11_v53 m c)
theorem Vent_v60 : Vent m c main_v60 = beginI (gsOf m c) := (Vent_eq m c _).trans (Ws11_v60 m c)
theorem Vent_v67 : Vent m c main_v67 = endI (gsOf m c) := (Vent_eq m c _).trans (Ws11_v67 m c)

/-- The host operations leave the arguments as they are. -/
theorem Vent_arg (b : Ref sig .tc) (hb : b ∈ [main_arg0, main_arg1, main_arg2, main_arg3, main_arg4]) : Vent m c b = m (c, Proc.devRef .tc b) := by
  rw [Vent_eq]
  simp only [List.mem_cons, List.not_mem_nil, or_false] at hb
  rcases hb with rfl | rfl | rfl | rfl | rfl <;>
  (unfold Ws11 Ws10 Ws9 Ws8 Ws7 Ws6 Ws5 Ws4 Ws3 Ws2 Ws1 Ws0; after_results_simp)
end Compose

end Cert.Kernel.Hand
end
-- ==== Proof.BWords.lean ====
/- The tables' words as natural numbers: under the precondition (no group size negative, 65536 rows in all) each table holds at
   every step what the plan says. -/
module

public import proofs.«01_k».proof.Proof.BHostVals
public import proofs.«01_k».proof.Proof.Plan
public import Idealize.ShloMosaic.Lib.Routing.Words
public import Idealize.ShloMosaic.Lib.Routing.Ops
public import Idealize.ShloMosaic.Lib.Routing.OpsSet
public import Idealize.ShloMosaic.Lib.PlanTiles.Rows
public import Idealize.ShloMosaic.Lib.WordCmp
public import Idealize.ShloMosaic.Lib.ReduceAll

@[expose] public section

set_option maxRecDepth 16384

noncomputable section

namespace Cert.Kernel.Hand

open Cert.Kernel Cert.Kernel.Gen
open Idealize.ShloMosaic Idealize.ShloMosaic.Routing Idealize.ShloMosaic.ValueIdx Idealize.ShloMosaic.WordCmp
open Cert.Plan (P Q vis cl ex wi tile)

variable (gs : IVec S32 32)

/-- The group sizes as natural numbers. -/
def gN (e : ℕ) : ℕ := if h : e < 32 then (gs (ix1 ⟨e, h⟩)).toNat else 0

theorem gs_ap (e : Fin 32) : gs (ix1 e) = BitVec.ofNat 32 (gN gs e.val) := by
  unfold gN; rw [dif_pos e.isLt, BitVec.ofNat_toNat, BitVec.setWidth_eq]

theorem sub_ofNat (a b : ℕ) : BitVec.ofNat 32 (a + b) - BitVec.ofNat 32 b = BitVec.ofNat 32 a := by
  rw [BitVec.ofNat_add, BitVec.add_sub_cancel]

theorem k32_at (v : BitVec 32) (i : S32.Idx) : k32 v i = v := rfl
theorem k288_at (v : BitVec 32) (i : S288.Idx) : k288 v i = v := rfl

/-- The precondition, read off. -/
structure Rows : Prop where
  tot : P (gN gs) 32 = 65536

theorem cumI_ap (x : IVec S32 32) (f : ℕ → ℕ) (hx : ∀ i : Fin 32, x (ix1 i) = BitVec.ofNat 32 (f i.val)) (j : Fin 32) :
    cumI x (ix1 j) = BitVec.ofNat 32 ((List.range (j.val + 1)).map f).sum :=
  cumsum1 (N := 32) (Nm1 := 31) rfl x f hx _ (bc0 _ _ _) _ _ j

theorem ends_ap (e : Fin 32) : cumI gs (ix1 e) = BitVec.ofNat 32 (P (gN gs) (e.val + 1)) := cumI_ap gs _ (fun i => gs_ap gs i) e

theorem starts_ap (e : Fin 32) : startsI gs (ix1 e) = BitVec.ofNat 32 (P (gN gs) e.val) := by
  unfold startsI
  rw [subi_ap, ends_ap, gs_ap gs, Plan.P_succ, sub_ofNat]

variable (h : Rows gs)
include h

theorem P_le' (e : ℕ) (he : e ≤ 32) : P (gN gs) e ≤ 65536 := Plan.P_le _ h.tot e he

theorem first_ap (e : Fin 32) : firstI gs (ix1 e) = BitVec.ofNat 32 (P (gN gs) e.val / 256) := by
  have := P_le' gs h e.val (by omega)
  exact pyDiv_ap _ _ _ (ix1 e) (starts_ap gs e) rfl (by omega) (by omega) (by omega)

theorem vis_ap (e : Fin 32) : visI gs (ix1 e) = BitVec.ofNat 32 (vis (gN gs) e.val) := by
  have h1 := P_le' gs h e.val (by omega)
  have h2 := P_le' gs h (e.val + 1) (by omega)
  have hp := Plan.P_succ (gN gs) e.val
  have hf := first_ap gs h e
  unfold visI
  rw [addi_ap, subi_ap, select_at, cmpi_at, gs_ap gs, hf]
  simp only [k32_at]
  rw [show (0#32 : BitVec 32) = BitVec.ofNat 32 0 from rfl, cmpi_sgt_ofNat (w := 32) (by omega) (by omega), select_decide]
  unfold vis
  split
  · next hg =>
    have hd : Routing.pyDiv bcast_S_S32 (subi (cumI gs) (k32 1#32)) (constantI S_ 32 256#32) (ix1 e) = BitVec.ofNat 32 ((P (gN gs) (e.val + 1) - 1) / 256) := by
      refine pyDiv_ap _ _ _ (ix1 e) ?_ rfl (by omega) (by omega) (by omega)
      rw [subi_ap, ends_ap]
      simp only [k32_at]
      rw [show P (gN gs) (e.val + 1) = (P (gN gs) (e.val + 1) - 1) + 1 by omega, sub_ofNat]
      rfl
    rw [hd, show (P (gN gs) (e.val + 1) - 1) / 256 = ((P (gN gs) (e.val + 1) - 1) / 256 - P (gN gs) e.val / 256) + P (gN gs) e.val / 256 by omega,
      sub_ofNat, Nat.add_sub_cancel]
    exact (BitVec.ofNat_add _ 1).symm
  · rw [subi_ap, hf]
    simp only [k32_at]
    bv_omega

theorem cv_ap (e : Fin 32) : cumI (visI gs) (ix1 e) = BitVec.ofNat 32 (Q (gN gs) (e.val + 1)) := cumI_ap _ _ (vis_ap gs h) e

theorem Q_le' (e : ℕ) (he : e ≤ 32) : Q (gN gs) e ≤ 288 := (Plan.Q_mono _ he).trans (Plan.tot_le _ h.tot)

theorem tot_ap : totF (cumI (visI gs)) ValueIdx.ix0 = BitVec.ofNat 32 (Q (gN gs) 32) := by
  unfold totF
  rw [show shapeCast S_ (extractStridedSlice S1 ![31] (cumI (visI gs)) slices_S32_S1_31) shapeCasts_S1_S_ ValueIdx.ix0
    = extractStridedSlice S1 ![31] (cumI (visI gs)) slices_S32_S1_31 (ix1 (0 : Fin 1)) from by
      unfold shapeCast; exact congrArg _ (funext fun a => by
        match a with
        | ⟨0, _⟩ => exact Subsingleton.elim (α := Fin 1) _ _)]
  exact (slice1 31 _ _ (0 : Fin 1) (by decide)).trans (cv_ap gs h 31)

theorem cl_ap (j : Fin 288) : clF (cumI (visI gs)) (ix1 j) = BitVec.ofNat 32 (cl (gN gs) j.val) := by
  have hj := j.isLt
  have ht := Plan.tot_pos _ h.tot
  have hl := Plan.tot_le _ h.tot
  have e1 : broadcastInDim S288 ![] bcast_S_S288 (subi (totF (cumI (visI gs))) (constantI S_ 32 1#32)) (ix1 j) = BitVec.ofNat 32 (Q (gN gs) 32 - 1) := by
    rw [bc0, subi_ap, tot_ap gs h, constantI_at, show Q (gN gs) 32 = (Q (gN gs) 32 - 1) + 1 by omega, show (1#32 : BitVec 32) = BitVec.ofNat 32 1 from rfl, sub_ofNat,
      Nat.add_sub_cancel]
  show IntOp.minsi (iotaInDim (shape1 288) 32 0 (ix1 j)) _ = _
  rw [iota1_ap, e1, PlanTiles.minsi_word (by omega) (by omega)]
  unfold cl; rw [min_comm]

theorem ex_ap (j : Fin 288) : exF (cumI (visI gs)) (ix1 j) = BitVec.ofNat 32 (ex (gN gs) j.val) := by
  have hl := Plan.tot_le _ h.tot
  unfold exF ex
  refine reduce_count (n := 288) (m := 32) (by decide) _ _ _ _ j _ fun q => ?_
  rw [cmpi_at]
  rw [show broadcastInDim S288x32 ![0, 1] bcast_S1x32_S288x32_0_1 (broadcastInDim S1x32 ![1] bcast_S32_S1x32_1 (cumI (visI gs))) (ix2 j q) = _ from bcCols _ _ _ j q,
    show broadcastInDim S288x32 ![0, 1] bcast_S288x1_S288x32_0_1 (broadcastInDim S288x1 ![0] bcast_S288_S288x1_0 (clF (cumI (visI gs)))) (ix2 j q) = _ from bcRows _ _ _ j q,
    cv_ap gs h, cl_ap gs h]
  have h1 := Q_le' gs h (q.val + 1) (by omega)
  have h2 : cl (gN gs) j.val ≤ 288 := by unfold cl; omega
  exact cmpi_sle_ofNat_eq_one_iff (w := 32) (by omega) (by omega)

theorem gat_ap (t : IVec S32 32) (f : ℕ → ℕ) (ht : ∀ e : Fin 32, t (ix1 e) = BitVec.ofNat 32 (f e.val)) (j : Fin 288) :
    gatF t (exF (cumI (visI gs))) (ix1 j) = BitVec.ofNat 32 (f (ex (gN gs) j.val)) := by
  have he := (Plan.step _ h.tot j.val).1
  unfold gatF
  refine (gather_take1 (N := 32) (n := 288) _ rfl rfl rfl rfl t _ j ⟨_, he⟩ ?_ (by decide)).trans (ht _)
  refine (bcCol _ _ j).trans ?_
  rw [select_at, cmpi_at, ex_ap gs h]
  simp only [k288_at]
  rw [show (0#32 : BitVec 32) = BitVec.ofNat 32 0 from rfl, cmpi_slt_ofNat (w := 32) (by omega) (by omega), select_decide, if_neg (by omega)]

theorem wi_ap (j : Fin 288) : wiF (cumI (visI gs)) (visI gs) (ix1 j) = BitVec.ofNat 32 (wi (gN gs) j.val) := by
  have hs := Plan.step _ h.tot j.val
  unfold wiF wi
  rw [subi_ap, cl_ap gs h, gat_ap gs h _ (Q (gN gs)) (fun e => by rw [subi_ap, cv_ap gs h, vis_ap gs h, Plan.Q_succ, sub_ofNat]) j]
  conv_lhs => rw [show cl (gN gs) j.val = (cl (gN gs) j.val - Q (gN gs) (ex (gN gs) j.val)) + Q (gN gs) (ex (gN gs) j.val) by omega]
  rw [sub_ofNat]

theorem tile_ap (j : Fin 288) : tileI gs (ix1 j) = BitVec.ofNat 32 (tile (gN gs) j.val) := by
  unfold tileI tile
  rw [addi_ap, wi_ap gs h, gat_ap gs h _ (fun e => P (gN gs) e / 256) (first_ap gs h) j, BitVec.ofNat_add]

theorem expert_ap (j : Fin 288) : expertI gs (ix1 j) = BitVec.ofNat 32 (ex (gN gs) j.val) := ex_ap gs h j
theorem begin_ap (j : Fin 288) : beginI gs (ix1 j) = BitVec.ofNat 32 (P (gN gs) (ex (gN gs) j.val)) := gat_ap gs h _ (P (gN gs)) (starts_ap gs) j
theorem end_ap (j : Fin 288) : endI gs (ix1 j) = BitVec.ofNat 32 (P (gN gs) (ex (gN gs) j.val + 1)) :=
  gat_ap gs h _ (fun e => P (gN gs) (e + 1)) (ends_ap gs) j

theorem live_ap (j : Fin 288) : liveF (cumI (visI gs)) (ix1 j) = BitVec.ofBool (decide (j.val < Q (gN gs) 32)) := by
  have hl := Plan.tot_le _ h.tot
  have hj := j.isLt
  unfold liveF
  rw [cmpi_at, bc0, tot_ap gs h]
  exact cmpi_slt_ofNat (w := 32) (a := j.val) (by omega) (by omega)

theorem active_ap (j : Fin 288) : activeI gs (ix1 j) = if j.val < Q (gN gs) 32 then 1#32 else 0#32 := by
  unfold activeI
  rw [extui_at, live_ap gs h]
  split <;> rename_i hh
  · rw [decide_eq_true hh]; rfl
  · rw [decide_eq_false hh]; rfl

theorem fresh_ap (j : Fin 288) : freshI gs (ix1 j) = if cl (gN gs) j.val = Q (gN gs) (ex (gN gs) j.val) ∧ j.val < Q (gN gs) 32 then 1#32 else 0#32 := by
  have hs := Plan.step _ h.tot j.val
  have hl := Plan.tot_le _ h.tot
  unfold freshI
  rw [select_at, andi_at, cmpi_at, wi_ap gs h, live_ap gs h]
  simp only [k288_at]
  rw [show (0#32 : BitVec 32) = BitVec.ofNat 32 0 from rfl, cmpi_eq_ofNat (w := 32) (by unfold wi; omega) (by omega)]
  have : (wi (gN gs) j.val = 0) ↔ cl (gN gs) j.val = Q (gN gs) (ex (gN gs) j.val) := by unfold wi; omega
  by_cases h1 : cl (gN gs) j.val = Q (gN gs) (ex (gN gs) j.val) <;> by_cases h2 : j.val < Q (gN gs) 32 <;>
    simp only [this, h1, h2, and_true, and_false, true_and, false_and, if_true, if_false, decide_true, decide_false] <;> rfl

end Cert.Kernel.Hand
end
-- ==== Proof.BPre.lean ====
/- What the precondition gives: the group sizes, read as natural numbers, sum to the number of rows; hence the tables' words address
   whole blocks of the arrays. -/
module

public import proofs.«01_k».proof.Proof.BWords
public import proofs.«01_k».proof.Proof.BRun
public import proofs.«01_k».proof.Proof.Gen.Pre_groups_cover_rows

@[expose] public section

set_option maxRecDepth 16384

noncomputable section

namespace Cert.Kernel.Hand

open Cert.Kernel Cert.Kernel.Gen
open Idealize.ShloMosaic Idealize.ShloMosaic.Routing Idealize.ShloMosaic.ValueIdx Idealize.ShloMosaic.WordCmp
open Cert.Plan (P Q vis cl ex wi tile)

variable {F : FTy → Type} [FloatOps F] [∀ e, Nonempty (Elt F e)]

theorem cmpi_sge_zero_iff (x : BitVec 32) : IntOp.cmpi .sge x 0#32 = 1#1 ↔ 0 ≤ x.toInt := by
  show BitVec.ofBool ((0#32 : BitVec 32).sle x) = 1#1 ↔ _
  rw [BitVec.sle_eq_decide]
  exact ofBool_decide_eq_one_iff _

theorem cmpi_sle_65536_iff (x : BitVec 32) : IntOp.cmpi .sle x 65536#32 = 1#1 ↔ x.toInt ≤ 65536 := by
  show BitVec.ofBool (x.sle (65536#32 : BitVec 32)) = 1#1 ↔ _
  rw [BitVec.sle_eq_decide]
  exact ofBool_decide_eq_one_iff _

theorem P_bound (g : ℕ → ℕ) (hg : ∀ e, g e ≤ 65536) (n : ℕ) : P g n ≤ n * 65536 := by
  induction n with
  | zero => simp [P]
  | succ n ih => rw [Plan.P_succ]; have := hg n; omega

theorem rows_of_pre {x gs s w ws} (h : Cert.Pre_groups_cover_rows.fn (F := F) x gs s w ws = fun _ => 1#1) : Rows gs := by
  have h0 : IntOp.andi _ _ = 1#1 := congrFun h ValueIdx.ix0
  obtain ⟨h1, h2⟩ := IntOp.andi_eq_one.1 h0
  have hb : ∀ e : Fin 32, (gs (ix1 e)).toNat ≤ 65536 := fun e => by
    haveI : Subsingleton Cert.Pre_groups_cover_rows.S_.Idx := ⟨fun a b => funext fun i => i.elim0⟩
    have h3 : IntOp.andi _ _ = 1#1 := Host.reduce_andi_all _ _ _ _ _ h1 (ix1 e)
    obtain ⟨h4, h5⟩ := IntOp.andi_eq_one.1 h3
    have h6 := (cmpi_sge_zero_iff _).1 h4
    have h7 := (cmpi_sle_65536_iff _).1 h5
    have h8 := BitVec.toInt_eq_toNat_cond (gs (ix1 e))
    split at h8 <;> omega
  have hg : ∀ e, gN gs e ≤ 65536 := fun e => by
    unfold gN; split
    · exact hb _
    · omega
  constructor
  have h9 : IntOp.cmpi .eq (Host.reduce IntOp.addi gs (constantI (shape0) 32 0#32) _ _ ValueIdx.ix0) (65536#32) = 1#1 := h2
  rw [reduce_sum gs (gN gs) (gs_ap gs)] at h9
  have hp := P_bound (gN gs) hg 32
  exact (cmpi_eq_ofNat_eq_one_iff (w := 32) (by exact lt_of_le_of_lt hp (by norm_num)) (by norm_num)).1 h9

/-- The grid's step of a coordinate. -/
abbrev jOf (i : grid0.Coords) : Fin 288 := i 0

theorem rd_at (T : IVec S288 32) (off : Fin 1 → ℕ) (h) (i : grid0.Coords) (ho : off = ![(i 0).val]) (hn : 0 < S1.numel) :
    T ((Rect.unit (s := S288) off S1.size h).emb (Shape.Idx.first hn)) = T (ix1 (jOf i)) := by
  subst ho
  refine congrArg T (funext fun a => ?_)
  match a with
  | ⟨0, _⟩ => exact Fin.ext (by show (i 0).val + 0 * 1 = _; simp [jOf])

/-- The tables' words, as the launch reads them. -/
def pfG (gs : IVec S32 32) : pre0.Contents (Elt F) := fun
  | 0 => tileI gs
  | 1 => expertI gs
  | 2 => freshI gs
  | 3 => activeI gs
  | 4 => beginI gs
  | 5 => endI gs
  | ⟨_ + 6, h⟩ => absurd h (Nat.not_lt.2 (Nat.le_add_left _ _))

theorem off_nat (i : grid0.Coords) : (![(Scalar.indexCast (BitVec.ofNat 32 (i 0).val) : Index).toNat] : Fin 1 → ℕ) = ![(i 0).val] := k0_off1_eq i

theorem chk_of (v6 v11 : BitVec 32) (hv : v11.toNat < 32) : k0_chk1 v6 v11 := fun _ a => by
  match a with
  | ⟨0, _⟩ => exact hv

variable (gs : IVec S32 32) (h : Rows gs)
include h

theorem tr1 (i : grid0.Coords) : cc0_transform_1 k0_off1_inb numel1_S1 (pfG (F := F) gs) i = ![tile (gN gs) (i 0).val, 0] := by
  have hl := Plan.tile_lt _ h.tot (i 0).val
  have e : (pfG (F := F) gs).at 0 (Rect.unit (s := S288) (k0_off1 i) S1.size (k0_off1_inb i)) numel1_S1 = BitVec.ofNat 32 (tile (gN gs) (i 0).val) :=
    (rd_at (tileI gs) _ _ i (k0_off1_eq i) _).trans (tile_ap gs h (jOf i))
  show ![(BitVec.toNat ((pfG (F := F) gs).at 0 (Rect.unit (s := S288) (k0_off1 i) S1.size (k0_off1_inb i)) numel1_S1)), 0] = _
  rw [e, BitVec.toNat_ofNat, Nat.mod_eq_of_lt (by omega)]

theorem tr2 (i : grid0.Coords) : cc0_transform_2 k0_off1_inb numel1_S1 (pfG (F := F) gs) i = ![ex (gN gs) (i 0).val, 0, 0] := by
  have hl := (Plan.step _ h.tot (i 0).val).1
  have e : (pfG (F := F) gs).at 1 (Rect.unit (s := S288) (k0_off1 i) S1.size (k0_off1_inb i)) numel1_S1 = BitVec.ofNat 32 (ex (gN gs) (i 0).val) :=
    (rd_at (expertI gs) _ _ i (k0_off1_eq i) _).trans (expert_ap gs h (jOf i))
  show ![(BitVec.toNat ((pfG (F := F) gs).at 1 (Rect.unit (s := S288) (k0_off1 i) S1.size (k0_off1_inb i)) numel1_S1)), 0, 0] = _
  rw [e, BitVec.toNat_ofNat, Nat.mod_eq_of_lt (by omega)]

theorem tr3 (i : grid0.Coords) : cc0_transform_3 k0_off1_inb numel1_S1 (pfG (F := F) gs) i = ![ex (gN gs) (i 0).val, 0, 0] := tr2 gs h i
theorem tr4 (i : grid0.Coords) : cc0_transform_4 k0_off1_inb numel1_S1 (pfG (F := F) gs) i = ![tile (gN gs) (i 0).val, 0] := tr1 gs h i

theorem ok : ok0 (pfG (F := F) gs) := by
  refine ⟨fun i => ?_, fun i => ?_, fun i => ?_, fun i => ?_⟩
  · have hl := Plan.tile_lt _ h.tot (i 0).val
    rw [tr1 gs h]
    refine ⟨fun a => ?_, .inr (.inl (.inr ⟨by decide, rfl, .inl ⟨?_, ?_⟩⟩))⟩
    · match a with
      | ⟨0, _⟩ => show (tile (gN gs) (i 0).val + 1) * 256 ≤ 65536; omega
      | ⟨1, _⟩ => show (0 + 1) * 6144 ≤ 6144; omega
    · show 2 ∣ tile (gN gs) (i 0).val * 256; omega
    · show 2 ∣ 256; omega
  · have hl := (Plan.step _ h.tot (i 0).val).1
    rw [tr2 gs h]
    refine ⟨fun a => ?_, .inr (.inr ⟨by decide, rfl, ?_, rfl⟩)⟩
    · match a with
      | ⟨0, _⟩ => show (ex (gN gs) (i 0).val + 1) * 1 ≤ 32; omega
      | ⟨1, _⟩ => show (0 + 1) * 6144 ≤ 6144; omega
      | ⟨2, _⟩ => show (0 + 1) * 768 ≤ 768; omega
    · show 0 * 6144 = 0; rfl
  · have hl := (Plan.step _ h.tot (i 0).val).1
    rw [tr3 gs h]
    refine ⟨fun a => ?_, .inl rfl⟩
    match a with
      | ⟨0, _⟩ => show (ex (gN gs) (i 0).val + 1) * 1 ≤ 32; omega
      | ⟨1, _⟩ => show (0 + 1) * 48 ≤ 48; omega
      | ⟨2, _⟩ => show (0 + 1) * 1536 ≤ 1536; omega
  · have hl := Plan.tile_lt _ h.tot (i 0).val
    rw [tr4 gs h]
    refine ⟨fun a => ?_, .inr (.inl (.inr ⟨by decide, rfl, .inl ⟨?_, ?_⟩⟩))⟩
    · match a with
      | ⟨0, _⟩ => show (tile (gN gs) (i 0).val + 1) * 256 ≤ 65536; omega
      | ⟨1, _⟩ => show (0 + 1) * 1536 ≤ 1536; omega
    · show 2 ∣ tile (gN gs) (i 0).val * 256; omega
    · show 2 ∣ 256; omega

/-- The launch's tables, with what the launch needs of them. -/
def admG : (p : Fin 1) → (pcfgs (F := F) p).Adm := fun _ => ⟨pfG gs, ok gs h⟩

theorem rE (i : grid0.Coords) : rdw (F := F) mE (pfG (F := F) gs 1) (k0_off33 i) (k0_off33_inb i) = BitVec.ofNat 32 (ex (gN gs) (i 0).val) :=
  (rd_at (expertI gs) _ _ i (k0_off33_eq i) _).trans (expert_ap gs h (jOf i))
theorem rA (i : grid0.Coords) : rdw (F := F) mA (pfG (F := F) gs 3) (k0_off32 i) (k0_off32_inb i) = if (i 0).val < Q (gN gs) 32 then 1#32 else 0#32 :=
  (rd_at (activeI gs) _ _ i (k0_off32_eq i) _).trans (active_ap gs h (jOf i))
theorem rF (i : grid0.Coords) : rdw (F := F) mF (pfG (F := F) gs 2) (k0_off1 i) (k0_off1_inb i)
    = if cl (gN gs) (i 0).val = Q (gN gs) (ex (gN gs) (i 0).val) ∧ (i 0).val < Q (gN gs) 32 then 1#32 else 0#32 :=
  (rd_at (freshI gs) _ _ i (k0_off1_eq i) _).trans (fresh_ap gs h (jOf i))
theorem rT (i : grid0.Coords) : rdw (F := F) mT (pfG (F := F) gs 0) (k0_off35 i) (k0_off35_inb i) = BitVec.ofNat 32 (tile (gN gs) (i 0).val) :=
  (rd_at (tileI gs) _ _ i (k0_off35_eq i) _).trans (tile_ap gs h (jOf i))
theorem rS (i : grid0.Coords) : rdw (F := F) mS (pfG (F := F) gs 4) (k0_off35 i) (k0_off35_inb i) = BitVec.ofNat 32 (P (gN gs) (ex (gN gs) (i 0).val)) :=
  (rd_at (beginI gs) _ _ i (k0_off35_eq i) _).trans (begin_ap gs h (jOf i))
omit h in
theorem pfG5 : pfG (F := F) gs 5 = endI gs := rfl
omit h in
theorem rN' (i : grid0.Coords) (T : IVec S288 32) : rdw (F := F) mN T (k0_off35 i) (k0_off35_inb i) = T (ix1 (jOf i)) := rd_at T _ _ i (k0_off35_eq i) _
theorem rN (i : grid0.Coords) : rdw (F := F) mN (pfG (F := F) gs 5) (k0_off35 i) (k0_off35_inb i) = BitVec.ofNat 32 (P (gN gs) (ex (gN gs) (i 0).val + 1)) :=
  (rN' i (endI gs)).trans (end_ap gs h (jOf i))

theorem chk (i : grid0.Coords) : k0_chk1 (rdw (F := F) mA (pfG (F := F) gs 3) (k0_off32 i) (k0_off32_inb i)) (rdw (F := F) mE (pfG (F := F) gs 1) (k0_off33 i) (k0_off33_inb i)) := by
  have hl := (Plan.step _ h.tot (i 0).val).1
  rw [rE gs h]
  exact chk_of _ _ (by rw [BitVec.toNat_ofNat, Nat.mod_eq_of_lt (by omega)]; exact hl)

end Cert.Kernel.Hand
end
-- ==== Proof.BFrame.lean ====
/- The kernel's frame: under the precondition it terminates without fault, at rest, its arguments unchanged; and, for any relation
   the steps establish on the output's blocks, the output array is made by those blocks. -/
module

public import proofs.«01_k».proof.Proof.BPre

@[expose] public section

set_option maxRecDepth 16384

noncomputable section

namespace Cert.Kernel.Hand

open Cert.Kernel Cert.Kernel.Gen
open Idealize.ShloMosaic Idealize.SL.Sem

variable {F : FTy → Type} [FloatOps F] [∀ e, Nonempty (Elt F e)]
variable (m : (ℓ : Loc nD τ sig) → Buf (Elt F) ℓ) (g : Dev nD → PrngReg)

theorem pf_eq (h : ∀ c, Rows (gsOf m c)) (c : Dev nD) (k : Fin 6) : Vent m c (pre0.ref k) = pfG (F := F) (gsOf m 0) k := by
  have hc : c = 0 := Subsingleton.elim _ _
  subst hc
  match k with
  | 0 => exact Vent_v44 m 0
  | 1 => exact Vent_v27 m 0
  | 2 => exact Vent_v50 m 0
  | 3 => exact Vent_v53 m 0
  | 4 => exact Vent_v60 m 0
  | 5 => exact Vent_v67 m 0

section Post

variable (a : (p : Fin 1) → (pcfgs (F := F) p).Adm)
variable (V : (c : Dev nD) → (b : Ref sig .tc) → Buf (Elt F) ((c.tc : Thread nD τ).loc b))
variable (R : Dev nD → Fin (cfg0 (a 0)).N → (Y X : S256x1536.Idx → Elt F .bf16) → Prop)
variable (I : Dev nD → ℕ → (S6144x1536.Idx → Elt F .bf16) → Prop)

/-- What the launch leaves in the argument arrays. -/
theorem argsV (r) (hf : Pipeline.RDat.FramePost (cfg0 (F := F) (a 0)) (rdat a V R I) V r) (c : Dev nD) :
    r.2.mem ((c.tc : Thread nD τ).loc main_arg0) = V c main_arg0
    ∧ r.2.mem ((c.tc : Thread nD τ).loc main_arg1) = V c main_arg1
    ∧ r.2.mem ((c.tc : Thread nD τ).loc main_arg2) = V c main_arg2
    ∧ r.2.mem ((c.tc : Thread nD τ).loc main_arg3) = V c main_arg3
    ∧ r.2.mem ((c.tc : Thread nD τ).loc main_arg4) = V c main_arg4
    ∧ (rdat a V R I c).ArrAt 4 (cfg0 (F := F) (a 0)).N (r.2.mem ((c.tc : Thread nD τ).loc main_v68)) :=
  ⟨Pipeline.RDat.FramePost.arr_in hf c 1 rfl, (hf c).2 main_arg1 (Pipeline.mem_restRefs_of (win := spec0) _ (by decide) (by decide)),
    Pipeline.RDat.FramePost.arr_in hf c 0 rfl, Pipeline.RDat.FramePost.arr_in hf c 2 rfl, Pipeline.RDat.FramePost.arr_in hf c 3 rfl,
    (hf c).1 4⟩

end Post

/-- The launch at the tables the host computes, for any relation and invariant the steps keep. -/
theorem runG (h : ∀ c, Rows (gsOf m c))
    (R : Dev nD → Fin (cfg0 (admG (F := F) (gsOf m 0) (h 0) 0)).N → (Y X : S256x1536.Idx → Elt F .bf16) → Prop)
    (I : Dev nD → ℕ → (S6144x1536.Idx → Elt F .bf16) → Prop)
    (hs : ∀ c, StepOk (admG (gsOf m 0) (h 0)) (Vent m) R I (chk (gsOf m 0) (h 0)) c) (hI : ∀ c f, I c 0 f) :
    θ_run (defs (F := F)) (onTc main) ⟨m, fun _ => 0, g⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ (∀ c : Dev nD, (rdat (admG (gsOf m 0) (h 0)) (Vent m) R I c).ArrAt 4 (cfg0 (F := F) (admG (gsOf m 0) (h 0) 0)).N (r.2.mem ((c.tc : Thread nD τ).loc main_v68)))
      ∧ r.2.sem = fun _ => 0) := by
  refine (θ_run (defs (F := F)) _ _).mono ?_ (runV (admG (gsOf m 0) (h 0)) (Vent m) R I m g (chk (gsOf m 0) (h 0)) hs hI (pf_eq m h) (hmain m))
  rintro r ⟨hf, hz⟩
  have h5 := argsV _ (Vent m) R I r hf
  refine ⟨fun c => ?_, fun c => (h5 c).2.2.2.2.2, hz⟩
  obtain ⟨e0, e1, e2, e3, e4, -⟩ := h5 c
  rw [Vent_arg m c _ (by simp)] at e0 e1 e2 e3 e4
  exact ⟨e0, e1, e2, e3, e4⟩

/-- The kernel's frame. -/
theorem frame (h : ∀ c, Rows (gsOf m c)) :
    θ_run (defs (F := F)) (onTc main) ⟨m, fun _ => 0, g⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run (defs (F := F)) _ _).mono (fun _ hr => ⟨hr.1, hr.2.2⟩) (runG m g h (fun _ _ _ _ => True) (fun _ _ _ => True) (fun _ _ _ _ _ _ _ _ _ _ _ _ _ _ _ _ _ _ => ⟨trivial, trivial⟩) (fun _ _ => trivial))

end Cert.Kernel.Hand
end
-- ==== Proof.Block.lean ====
/- What one block of the weights becomes: each of a trip's 96 stores writes one 128 × 128 block of the scratch, and its value is one
   function of the packed bytes and of the scales it loads. -/
module

public import proofs.«01_k».proof.Proof.KBody

@[expose] public section

set_option maxRecDepth 16384

noncomputable section

namespace Cert.KernelIdeal.Hand

open Cert.KernelIdeal Cert.KernelIdeal.Gen
open Idealize.ShloMosaic Idealize.SL.Sem

variable {F : FTy → Type} [FloatOps F] [∀ e, Nonempty (Elt F e)]

/-- The lanes' own index, halved. -/
abbrev half : IVec S32x128 32 := k0_pay4 (iota .tc S32x128 32 [1] iota_S32x128_d1_w32)

/-- The lane that an even (`0`) or odd (`64`) chunk of 128 columns takes its bytes from. -/
def srcLane (o : BitVec 32) : IVec S32x128 32 :=
  addi (select (andi (cmpi .ne (subi (extui 32 (cmpi .sgt (iota .tc S32x128 32 [1] iota_S32x128_d1_w32) (broadcast S32x128 0#32)) natLt_1_32)
        (extui 32 (cmpi .slt (iota .tc S32x128 32 [1] iota_S32x128_d1_w32) (broadcast S32x128 0#32)) natLt_1_32))
      (broadcast S32x128 (Scalar.subi (Scalar.extui (Scalar.cmpi .sgt 2#32 0#32)) (Scalar.extui (Scalar.cmpi .slt 2#32 0#32)))))
      (cmpi .ne (remsi (iota .tc S32x128 32 [1] iota_S32x128_d1_w32) (broadcast S32x128 2#32)) (broadcast S32x128 0#32)))
    (subi (divsi (iota .tc S32x128 32 [1] iota_S32x128_d1_w32) (broadcast S32x128 2#32)) (broadcast S32x128 1#32))
    (divsi (iota .tc S32x128 32 [1] iota_S32x128_d1_w32) (broadcast S32x128 2#32))) (broadcast S32x128 o)

/-- The codes of a block: the words gathered from their lanes, shifted to bring the nibble up, masked, read as bytes. -/
def codes (o : BitVec 32) (wp : Vec F S1x128x128 .i8) : IVec S128x128 8 :=
  bitcast S128x128 8 (andi (shli (dynamicGather 1
      (bitcast S32x128 32 (shapeCast S128x128 wp shapeCasts_S1x128x128_S128x128 : IVec S128x128 8) bitcasts_S128x128_w8_S32x128_w32)
      (shapeCast S32x128 (shapeCast S32x128x1 (select (cmpi .slt (srcLane o) (broadcast S32x128 0#32)) (addi (srcLane o) (broadcast S32x128 128#32)) (srcLane o))
        shapeCasts_S32x128_S32x128x1) shapeCasts_S32x128x1_S32x128))
    k0_pay1) (broadcast S32x128 4042322160#32)) bitcasts_S32x128_w32_S128x128_w8

/-- The block's value: a sixteenth of the codes, times the scales of the group. -/
def blockVal (o : BitVec 32) (g : Fin 8) (hs : S8x128.Slices ![g.val, 0] S1x128) (wp : Vec F S1x128x128 .i8) (ws : Vec F S1x8x128 .f32) :
    FVec F S128x128 .bf16 :=
  shapeCast S128x128 (mulf (mulf (sitofp .bf16 (codes (F := F) o wp)) (broadcast S128x128 (Scalar.ofBits .bf16 0x3D80#16)))
    (broadcastTo S128x128 (extractStridedSlice S1x128 ![g.val, 0]
      (truncf .bf16 (shapeCast S8x128 ws shapeCasts_S1x8x128_S8x128) bitsLt_bf16_f32) hs) broadcasts_S1x128_S128x128)) shapeCasts_S128x128_S128x128

abbrev T1 := Fin k0_t1_loop.trips

/-- The offsets of the stores, of the byte loads and of the scale loads, by the chunk of columns. -/
def offW : Fin 12 → T1 → BitVec 32 → Fin 2 → ℕ := fun
  | 0 => k0_off4 | 1 => k0_off6 | 2 => k0_off9 | 3 => k0_off11 | 4 => k0_off14 | 5 => k0_off16
  | 6 => k0_off19 | 7 => k0_off21 | 8 => k0_off24 | 9 => k0_off26 | 10 => k0_off29 | 11 => k0_off31
def offP : Fin 12 → T1 → BitVec 32 → Fin 3 → ℕ := fun
  | 0 => k0_off3 | 1 => k0_off3 | 2 => k0_off8 | 3 => k0_off8 | 4 => k0_off13 | 5 => k0_off13
  | 6 => k0_off18 | 7 => k0_off18 | 8 => k0_off23 | 9 => k0_off23 | 10 => k0_off28 | 11 => k0_off28
def offS : Fin 12 → T1 → Fin 3 → ℕ := fun
  | 0 => k0_off2 | 1 => k0_off5 | 2 => k0_off7 | 3 => k0_off10 | 4 => k0_off12 | 5 => k0_off15
  | 6 => k0_off17 | 7 => k0_off20 | 8 => k0_off22 | 9 => k0_off25 | 10 => k0_off27 | 11 => k0_off30

theorem offW_eq (cc : Fin 12) (k : T1) (g : Fin 8) : offW cc k (BitVec.ofNat 32 g.val) = ![1024 * k.val + 128 * g.val, 128 * cc.val] := by
  revert cc k g; decide +kernel
theorem offP_eq (cc : Fin 12) (k : T1) (g : Fin 8) : offP cc k (BitVec.ofNat 32 g.val) = ![0, 1024 * k.val + 128 * g.val, 128 * (cc.val / 2)] := by
  revert cc k g; decide +kernel
theorem offS_eq (cc : Fin 12) (k : T1) : offS cc k = ![0, 8 * k.val, 128 * cc.val] := by
  revert cc k; decide +kernel

theorem T1_lt (k : T1) : k.val < 6 := Nat.lt_of_lt_of_le k.isLt k0_t1_abs.2.1

theorem offW_inb (cc : Fin 12) (k : T1) (g : Fin 8) : ∀ a, offW cc k (BitVec.ofNat 32 g.val) a + S128x128.size a ≤ S6144x1536.size a := by
  have hk := T1_lt k
  rw [offW_eq]
  intro a
  match a with
  | ⟨0, _⟩ => show 1024 * k.val + 128 * g.val + 128 ≤ 6144; omega
  | ⟨1, _⟩ => show 128 * cc.val + 128 ≤ 1536; omega
theorem offP_inb (cc : Fin 12) (k : T1) (g : Fin 8) : ∀ a, offP cc k (BitVec.ofNat 32 g.val) a + S1x128x128.size a ≤ S1x6144x768.size a := by
  have hk := T1_lt k
  rw [offP_eq]
  intro a
  match a with
  | ⟨0, _⟩ => show 0 + 1 ≤ 1; omega
  | ⟨1, _⟩ => show 1024 * k.val + 128 * g.val + 128 ≤ 6144; omega
  | ⟨2, _⟩ => show 128 * (cc.val / 2) + 128 ≤ 768; omega
theorem offS_inb (cc : Fin 12) (k : T1) : ∀ a, offS cc k a + S1x8x128.size a ≤ S1x48x1536.size a := by
  have hk := T1_lt k
  rw [offS_eq]
  intro a
  match a with
  | ⟨0, _⟩ => show 0 + 1 ≤ 1; omega
  | ⟨1, _⟩ => show 8 * k.val + 8 ≤ 48; omega
  | ⟨2, _⟩ => show 128 * cc.val + 128 ≤ 1536; omega

theorem slices_g (g : Fin 8) : S8x128.Slices ![g.val, 0] S1x128 := by revert g; decide

/-- The store of one block. -/
def pieceOf (arg9 : Memref sig .tc .vmem S1x6144x768 .i8) (arg10 : Memref sig .tc .vmem S1x48x1536 .f32)
    (X_arg9 : BufTy.Contents (Elt F) arg9.view.ty) (X_arg10 : BufTy.Contents (Elt F) arg10.view.ty) (k : T1) (cc : Fin 12) (g : Fin 8) :
    View.Piece (Elt F) S6144x1536 .bf16 :=
  ⟨Rect.unit (offW cc k (BitVec.ofNat 32 g.val)) S128x128.size (offW_inb cc k g),
    blockVal (if cc.val % 2 = 0 then 0#32 else 64#32) g (slices_g g)
      (arg9.view.readAt (Elt F) (Rect.unit (s := S1x6144x768) (offP cc k (BitVec.ofNat 32 g.val)) S1x128x128.size (offP_inb cc k g)).toLoadRect X_arg9)
      (arg10.view.readAt (Elt F) (Rect.unit (s := S1x48x1536) (offS cc k) S1x8x128.size (offS_inb cc k)).toLoadRect X_arg10)⟩

end Cert.KernelIdeal.Hand
end
-- ==== Proof.Trip.lean ====
/- The loop's stores: a trip's 96 stores are the 96 blocks of its 1024 rows, in order, and after the loop the scratch holds at
   every place the value of the block that covers it. -/
module

public import proofs.«01_k».proof.Proof.Block
public import Idealize.ShloMosaic.Lib.ValueIdx

@[expose] public section

set_option maxRecDepth 16384

noncomputable section

namespace Cert.KernelIdeal.Hand

open Cert.KernelIdeal Cert.KernelIdeal.Gen
open Idealize.ShloMosaic Idealize.SL.Sem

variable {F : FTy → Type} [FloatOps F] [∀ e, Nonempty (Elt F e)]

/-- The blocks of a trip, the last stored first. -/
def blocks : List (Fin 12 × Fin 8) :=
  (List.finRange 12).reverse.flatMap fun cc => (List.finRange 8).reverse.map fun g => (cc, g)

theorem mem_blocks (p : Fin 12 × Fin 8) : p ∈ blocks := by revert p; decide +kernel

set_option maxHeartbeats 4000000 in
/-- A trip's stores are its blocks. -/
theorem trip_list (𝒱 : Variants) (c : Dev nD) (bd : Option 𝒱.V) (i : grid0.Coords) (arg1 : Memref sig .tc .smem S288 .i32) (harg1 : arg1.IsWhole) (arg2 : Memref sig .tc .smem S288 .i32) (harg2 : arg2.IsWhole) (arg3 : Memref sig .tc .smem S288 .i32) (harg3 : arg3.IsWhole) (arg4 : Memref sig .tc .smem S288 .i32) (harg4 : arg4.IsWhole) (arg5 : Memref sig .tc .smem S288 .i32) (harg5 : arg5.IsWhole) (arg6 : Memref sig .tc .smem S288 .i32) (harg6 : arg6.IsWhole) (arg7 : Memref sig .tc .smem S32 .f32) (harg7 : arg7.IsWhole) (arg8 : Memref sig .tc .vmem S256x6144 .bf16) (harg8 : arg8.IsWhole) (arg9 : Memref sig .tc .vmem S1x6144x768 .i8) (harg9 : arg9.IsWhole) (arg10 : Memref sig .tc .vmem S1x48x1536 .f32) (harg10 : arg10.IsWhole) (arg11 : Memref sig .tc .vmem S256x1536 .bf16) (harg11 : arg11.IsWhole) (arg12 : Memref sig .tc .vmem S6144x1536 .bf16) (harg12 : arg12.IsWhole) (X_arg9 : BufTy.Contents (Elt F) arg9.view.ty) (X_arg10 : BufTy.Contents (Elt F) arg10.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) X_arg9 X_arg10 k
      = blocks.map fun p => pieceOf arg9 arg10 X_arg9 X_arg10 k p.1 p.2 := by
  rw [tripL_k0_t1, trip_k0_t1]
  rfl

/-- The stores up to a trip are the blocks of the trips before it. -/
theorem mem_pb (𝒱 : Variants) (c : Dev nD) (bd : Option 𝒱.V) (i : grid0.Coords) (arg1 : Memref sig .tc .smem S288 .i32) (harg1 : arg1.IsWhole) (arg2 : Memref sig .tc .smem S288 .i32) (harg2 : arg2.IsWhole) (arg3 : Memref sig .tc .smem S288 .i32) (harg3 : arg3.IsWhole) (arg4 : Memref sig .tc .smem S288 .i32) (harg4 : arg4.IsWhole) (arg5 : Memref sig .tc .smem S288 .i32) (harg5 : arg5.IsWhole) (arg6 : Memref sig .tc .smem S288 .i32) (harg6 : arg6.IsWhole) (arg7 : Memref sig .tc .smem S32 .f32) (harg7 : arg7.IsWhole) (arg8 : Memref sig .tc .vmem S256x6144 .bf16) (harg8 : arg8.IsWhole) (arg9 : Memref sig .tc .vmem S1x6144x768 .i8) (harg9 : arg9.IsWhole) (arg10 : Memref sig .tc .vmem S1x48x1536 .f32) (harg10 : arg10.IsWhole) (arg11 : Memref sig .tc .vmem S256x1536 .bf16) (harg11 : arg11.IsWhole) (arg12 : Memref sig .tc .vmem S6144x1536 .bf16) (harg12 : arg12.IsWhole) (X_arg9 : BufTy.Contents (Elt F) arg9.view.ty) (X_arg10 : BufTy.Contents (Elt F) arg10.view.ty) (n : ℕ) :
    n ≤ k0_t1_loop.trips → ∀ p, p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) X_arg9 X_arg10 n
      ↔ ∃ (k : T1) (cc : Fin 12) (g : Fin 8), k.val < n ∧ p = pieceOf arg9 arg10 X_arg9 X_arg10 k cc g := by
  induction n with
  | zero =>
    intro _ p
    rw [pb_k0_t1]
    exact ⟨fun h => absurd h List.not_mem_nil, fun ⟨_, _, _, h, _⟩ => absurd h (Nat.not_lt_zero _)⟩
  | succ n ih =>
    intro hn p
    rw [show n + 1 = (⟨n, hn⟩ : T1).val + 1 from rfl, pb_k0_t1_succ, List.mem_append, trip_list, List.mem_map]
    show _ ∨ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) X_arg9 X_arg10 n ↔ _
    rw [ih (Nat.le_of_succ_le hn)]
    constructor
    · rintro (⟨q, _, rfl⟩ | ⟨k, cc, g, h, rfl⟩)
      · exact ⟨⟨n, hn⟩, q.1, q.2, Nat.lt_succ_self n, rfl⟩
      · exact ⟨k, cc, g, Nat.lt_succ_of_lt h, rfl⟩
    · rintro ⟨k, cc, g, h, rfl⟩
      rcases Nat.lt_succ_iff_lt_or_eq.1 h with h | h
      · exact Or.inr ⟨k, cc, g, h, rfl⟩
      · obtain rfl : k = ⟨n, hn⟩ := Fin.ext h
        exact Or.inl ⟨(cc, g), mem_blocks _, rfl⟩

theorem trips_eq : k0_t1_loop.trips = 6 := by decide +kernel

/-- After the loop the scratch reads, at every place, whatever all its blocks agree on. -/
theorem read_pb (𝒱 : Variants) (c : Dev nD) (bd : Option 𝒱.V) (i : grid0.Coords) (arg1 : Memref sig .tc .smem S288 .i32) (harg1 : arg1.IsWhole) (arg2 : Memref sig .tc .smem S288 .i32) (harg2 : arg2.IsWhole) (arg3 : Memref sig .tc .smem S288 .i32) (harg3 : arg3.IsWhole) (arg4 : Memref sig .tc .smem S288 .i32) (harg4 : arg4.IsWhole) (arg5 : Memref sig .tc .smem S288 .i32) (harg5 : arg5.IsWhole) (arg6 : Memref sig .tc .smem S288 .i32) (harg6 : arg6.IsWhole) (arg7 : Memref sig .tc .smem S32 .f32) (harg7 : arg7.IsWhole) (arg8 : Memref sig .tc .vmem S256x6144 .bf16) (harg8 : arg8.IsWhole) (arg9 : Memref sig .tc .vmem S1x6144x768 .i8) (harg9 : arg9.IsWhole) (arg10 : Memref sig .tc .vmem S1x48x1536 .f32) (harg10 : arg10.IsWhole) (arg11 : Memref sig .tc .vmem S256x1536 .bf16) (harg11 : arg11.IsWhole) (arg12 : Memref sig .tc .vmem S6144x1536 .bf16) (harg12 : arg12.IsWhole) (X_arg9 : BufTy.Contents (Elt F) arg9.view.ty) (X_arg10 : BufTy.Contents (Elt F) arg10.view.ty) (f12 : BufTy.Contents (Elt F) arg12.view.ty) (G : S6144x1536.Idx → Elt F .bf16)
    (hG : ∀ (k : T1) (cc : Fin 12) (g : Fin 8) (i j : Fin 128), (pieceOf arg9 arg10 X_arg9 X_arg10 k cc g).2 (ValueIdx.ix2 i j)
      = G (ValueIdx.ix2 (⟨1024 * k.val + 128 * g.val + i.val, by have := T1_lt k; omega⟩ : Fin 6144) (⟨128 * cc.val + j.val, by omega⟩ : Fin 1536))) :
    arg12.view.read (Elt F) (arg12.view.writes (Elt F) f12 (pb_k0_t1 (F := F) 𝒱 c bd i arg1 harg1 arg2 harg2 arg3 harg3 arg4 harg4 arg5 harg5 arg6 harg6 arg7 harg7 arg8 harg8 arg9 harg9 arg10 harg10 arg11 harg11 arg12 harg12 (iota .tc S32x128 32 [1] iota_S32x128_d1_w32) X_arg9 X_arg10 k0_t1_loop.trips)) = G := by
  funext y
  apply View.read_writes_apply_of_pieces
  · intro p hp
    obtain ⟨k, cc, g, _, rfl⟩ := (mem_pb 𝒱 c bd i arg1 harg1 arg2 harg2 arg3 harg3 arg4 harg4 arg5 harg5 arg6 harg6 arg7 harg7 arg8 harg8 arg9 harg9 arg10 harg10 arg11 harg11 arg12 harg12 X_arg9 X_arg10 _ le_rfl p).1 hp
    intro x
    have hx : x = ValueIdx.ix2 (x 0 : Fin 128) (x 1 : Fin 128) := by
      funext a; match a with | ⟨0, _⟩ => rfl | ⟨1, _⟩ => rfl
    rw [hx]
    refine (hG k cc g (x 0) (x 1)).trans (congrArg G ?_)
    symm
    apply Rect.emb_eq_of_coords
    have e := offW_eq cc k g
    intro a
    match a with
    | ⟨0, _⟩ => show _ = offW cc k (BitVec.ofNat 32 g.val) 0 + 1 * _; rw [e]; show 1024 * k.val + 128 * g.val + (x 0).val = 1024 * k.val + 128 * g.val + 1 * (x 0).val; omega
    | ⟨1, _⟩ => show _ = offW cc k (BitVec.ofNat 32 g.val) 1 + 1 * _; rw [e]; show 128 * cc.val + (x 1).val = 128 * cc.val + 1 * (x 1).val; omega
  · have h0 : (y 0).val < 6144 := (y 0).isLt
    have h1 : (y 1).val < 1536 := (y 1).isLt
    have ht := trips_eq
    let k : T1 := ⟨(y 0).val / 1024, by omega⟩
    let cc : Fin 12 := ⟨(y 1).val / 128, by omega⟩
    let g : Fin 8 := ⟨(y 0).val % 1024 / 128, by omega⟩
    refine ⟨pieceOf arg9 arg10 X_arg9 X_arg10 k cc g, (mem_pb 𝒱 c bd i arg1 harg1 arg2 harg2 arg3 harg3 arg4 harg4 arg5 harg5 arg6 harg6 arg7 harg7 arg8 harg8 arg9 harg9 arg10 harg10 arg11 harg11 arg12 harg12 X_arg9 X_arg10 _ le_rfl _).2 ⟨k, cc, g, k.isLt, rfl⟩, ?_⟩
    refine (Rect.mem_set_unit (inb := offW_inb cc k g)).2 fun a => ?_
    show offW cc k (BitVec.ofNat 32 g.val) a ≤ _ ∧ _ < offW cc k (BitVec.ofNat 32 g.val) a + _
    rw [offW_eq cc k g]
    match a with
    | ⟨0, _⟩ => show 1024 * ((y 0).val / 1024) + 128 * ((y 0).val % 1024 / 128) ≤ (y 0).val ∧ (y 0).val < 1024 * ((y 0).val / 1024) + 128 * ((y 0).val % 1024 / 128) + 128; omega
    | ⟨1, _⟩ => show 128 * ((y 1).val / 128) ≤ (y 1).val ∧ (y 1).val < 128 * ((y 1).val / 128) + 128; omega

end Cert.KernelIdeal.Hand
end
-- ==== Proof.Codes.lean ====
/- What a block holds over the reals: the signed four-bit code of the packed byte, times the scale of the group. An even column
   takes the low half of its byte, an odd one the high half. -/
module

public import proofs.«01_k».proof.Proof.Block
public import Idealize.ShloMosaic.Lib.ValueIdx
public import Idealize.ShloMosaic.Lib.ValueLayout
public import Idealize.ShloMosaic.Lib.BitcastFour
public import Idealize.ShloMosaic.Lib.WordCmp
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.ValueIdx Idealize.ShloMosaic.WordCmp Idealize.ShloMosaic.Pipeline

/-- The byte whose upper four bits are the code of column parity `p`. -/
def nibW (p : ℕ) (b : BitVec 8) : BitVec 8 := (b <<< (if p = 0 then 4 else 0)) &&& 0xF0#8

/-- The signed code: the low half of the byte for parity 0, the high half for parity 1. -/
def nib (p : ℕ) (b : BitVec 8) : ℤ :=
  let z := if p = 0 then b.toNat % 16 else b.toNat / 16
  if 8 ≤ z then (z : ℤ) - 16 else z

theorem nibW_toInt (p : Fin 2) (b : BitVec 8) : (nibW p.val b).toInt = 16 * nib p.val b := by
  have h : ∀ (p : Fin 2) (b : Fin 256), (nibW p.val (BitVec.ofNat 8 b.val)).toInt = 16 * nib p.val (BitVec.ofNat 8 b.val) := by decide +kernel
  have := h p ⟨b.toNat, b.isLt⟩
  rwa [BitVec.ofNat_toNat, BitVec.setWidth_eq] at this

/-- A word read as bytes: bit `t` of the byte in row `i` is bit `8 (i % 4) + t` of the word in row `i / 4`. -/
theorem bitcast_32_8_ix2 (x : S32x128.Idx → BitVec 32) (i j : Fin 128) (t : ℕ) (ht : t < 8) :
    (bitcast S128x128 8 x bitcasts_S32x128_w32_S128x128_w8 (ix2 i j)).getLsbD t
      = (x (ix2 (⟨i.val / 4, by omega⟩ : Fin 32) j)).getLsbD (8 * (i.val % 4) + t) := by
  rw [bitcast_getLsbD _ _ _ t ht (by decide)]
  have hr : S128x128.row (ix2 i j) = i.val := rfl
  have e1 : (S128x128.row (ix2 i j) * 8 + t) / 32 = i.val / 4 := by rw [hr]; omega
  have e2 : (S128x128.row (ix2 i j) * 8 + t) % 32 = 8 * (i.val % 4) + t := by rw [hr]; omega
  rw [e2]
  congr 2
  funext c
  match c with
  | ⟨0, _⟩ => exact Fin.ext ((Shape.Bitcasts.srcIdx_row _ _ _ _ ⟨0, by decide⟩ rfl).trans e1)
  | ⟨1, _⟩ => exact Fin.ext (Shape.Bitcasts.srcIdx_other _ _ _ _ ⟨1, by decide⟩ (by decide))

theorem k0_pay1_at (q : Fin 32) (j : Fin 128) : k0_pay1 (ix2 q j) = if j.val % 2 = 0 then 4#32 else 0#32 := by
  have h : ∀ j : Fin 128, k0_pay1 (ix2 (0 : Fin 32) j) = if j.val % 2 = 0 then 4#32 else 0#32 := by decide +kernel
  exact h j

theorem srcLane_at (u : Fin 2) (q : Fin 32) (j : Fin 128) :
    srcLane (if u.val = 0 then 0#32 else 64#32) (ix2 q j) = BitVec.ofNat 32 (j.val / 2 + 64 * u.val) := by
  have h : ∀ (u : Fin 2) (j : Fin 128), srcLane (if u.val = 0 then 0#32 else 64#32) (ix2 (0 : Fin 32) j) = BitVec.ofNat 32 (j.val / 2 + 64 * u.val) := by
    decide +kernel
  exact h u j

/-- The index the words are gathered by, at an element. -/
theorem wrapLane_at (u : Fin 2) (q : Fin 32) (j : Fin 128) :
    (select (cmpi .slt (srcLane (if u.val = 0 then 0#32 else 64#32)) (broadcast S32x128 0#32))
        (addi (srcLane (if u.val = 0 then 0#32 else 64#32)) (broadcast S32x128 128#32)) (srcLane (if u.val = 0 then 0#32 else 64#32)) : IVec S32x128 32) (ix2 q j)
      = BitVec.ofNat 32 (j.val / 2 + 64 * u.val) := by
  show Scalar.select (IntOp.cmpi .slt (srcLane (if u.val = 0 then 0#32 else 64#32) (ix2 q j)) 0#32)
    (IntOp.addi (srcLane (if u.val = 0 then 0#32 else 64#32) (ix2 q j)) 128#32) (srcLane (if u.val = 0 then 0#32 else 64#32) (ix2 q j)) = _
  rw [srcLane_at]
  revert u j
  decide +kernel

variable {F : FTy → Type} [FloatOps F] [∀ e, Nonempty (Elt F e)]

theorem gather_lane (u : Fin 2) (j : Fin 128) : (BitVec.ofNat 32 (j.val / 2 + 64 * u.val)).toNat % 128 = j.val / 2 + 64 * u.val := by
  revert u j; decide +kernel

/-- The gathered words: each is the word of its source lane. -/
theorem gather_at (u : Fin 2) (X : IVec S32x128 32) (I : IVec S32x128 32) (q : Fin 32) (j : Fin 128)
    (h : I (ix2 q j) = BitVec.ofNat 32 (j.val / 2 + 64 * u.val)) :
    dynamicGather 1 X I (ix2 q j) = X (ix2 q (⟨j.val / 2 + 64 * u.val, by omega⟩ : Fin 128)) := by
  unfold dynamicGather
  congr 1
  funext b
  match b with
  | ⟨0, _⟩ => rfl
  | ⟨1, _⟩ => exact Fin.ext ((congrArg (fun w : BitVec 32 => w.toNat % 128) h).trans (gather_lane u j))

/-- The mask and the shift, bit by bit of the byte in row `r` of the word. -/
theorem word_bits (w : BitVec 32) (b : BitVec 8) (j : ℕ) (r : Fin 4) (hb : ∀ t, t < 8 → w.getLsbD (8 * r.val + t) = b.getLsbD t) (t : ℕ) (ht : t < 8) :
    (IntOp.andi (IntOp.shli .vector w (if j % 2 = 0 then 4#32 else 0#32)) 4042322160#32).getLsbD (8 * r.val + t) = (nibW (j % 2) b).getLsbD t := by
  have hm : ∀ (r : Fin 4) (t : Fin 8), (4042322160#32 : BitVec 32).getLsbD (8 * r.val + t.val) = (0xF0#8 : BitVec 8).getLsbD t.val := by decide +kernel
  have h8 : ∀ t : Fin 8, (0xF0#8 : BitVec 8).getLsbD t.val = decide (4 ≤ t.val) := by decide +kernel
  have hm' := hm r ⟨t, ht⟩
  have h8' := h8 ⟨t, ht⟩
  simp only at hm' h8'
  have hr := r.isLt
  unfold nibW IntOp.andi IntOp.shli
  rw [if_pos (by split <;> decide)]
  rw [BitVec.getLsbD_and, BitVec.getLsbD_and, hm', h8']
  by_cases h4 : 4 ≤ t
  · rw [decide_eq_true h4, Bool.and_true, Bool.and_true]
    by_cases hj : j % 2 = 0
    · rw [if_pos hj, if_pos hj]
      rw [show w <<< (4#32 : BitVec 32) = w <<< 4 from rfl, BitVec.getLsbD_shiftLeft, BitVec.getLsbD_shiftLeft]
      have e : 8 * r.val + t - 4 = 8 * r.val + (t - 4) := by omega
      rw [e, hb (t - 4) (by omega)]
      have a1 : 8 * r.val + t < 32 := by omega
      have a2 : ¬ 8 * r.val + t < 4 := by omega
      have a3 : ¬ t < 4 := by omega
      simp [a1, a2, a3, ht]
    · rw [if_neg hj, if_neg hj]
      rw [show w <<< (0#32 : BitVec 32) = w <<< 0 from rfl, BitVec.shiftLeft_zero, BitVec.shiftLeft_zero]
      exact hb t ht
  · rw [decide_eq_false h4, Bool.and_false, Bool.and_false]

/-- A block's codes: at row `i`, column `j`, the byte in row `i` of the source lane, its half for `j`'s parity brought up. -/
theorem codes_at (u : Fin 2) (wp : Vec F S1x128x128 .i8) (i j : Fin 128) :
    codes (F := F) (if u.val = 0 then 0#32 else 64#32) wp (ix2 i j)
      = nibW (j.val % 2) (wp (ix3 (0 : Fin 1) i (⟨j.val / 2 + 64 * u.val, by omega⟩ : Fin 128))) := by
  apply BitVec.eq_of_getLsbD_eq
  intro t ht
  unfold codes
  rw [bitcast_32_8_ix2 _ i j t ht]
  rw [andi_at]
  show (IntOp.andi (IntOp.shli .vector (dynamicGather 1 _ _ _) (k0_pay1 _)) 4042322160#32).getLsbD _ = _
  rw [k0_pay1_at]
  refine word_bits _ _ j.val ⟨i.val % 4, by omega⟩ (fun t' ht' => ?_) t ht
  rw [gather_at u _ _ _ j (by rw [shapeCast_shapeCast]; exact wrapLane_at u _ j)]
  rw [bitcast_8_32_getLsbD_ix2 _ _ _ _ _ (by show 8 * (i.val % 4) + t' < 32; omega) i (by show i.val = 4 * (i.val / 4) + (8 * (i.val % 4) + t') / 8; omega)]
  rw [shapeCast_1ab_ab_apply]
  congr 1
  show (8 * (i.val % 4) + t') % 8 = t'
  omega

/-- A block's value over the reals. -/
theorem blockVal_at (u : Fin 2) (g : Fin 8) (hs : S8x128.Slices ![g.val, 0] S1x128) (wp : Vec Ideal S1x128x128 .i8) (ws : Vec Ideal S1x8x128 .f32) (i j : Fin 128) :
    blockVal (F := Ideal) (if u.val = 0 then 0#32 else 64#32) g hs wp ws (ix2 i j)
      = (((nib (j.val % 2) (wp (ix3 (0 : Fin 1) i (⟨j.val / 2 + 64 * u.val, by omega⟩ : Fin 128))) : ℝ)) : EReal) * ws (ix3 (0 : Fin 1) g j) := by
  unfold blockVal
  rw [shapeCast_self, mulf_apply, mulf_apply, broadcastTo_1b_ab_apply,
    slice2_axis0_apply g.val _ hs (0 : Fin 1) j g rfl, truncf_apply, shapeCast_1ab_ab_apply]
  congr 1
  show ((((codes (F := Ideal) (if u.val = 0 then 0#32 else 64#32) wp (ix2 i j)).toInt : ℝ)) : EReal) * Ideal.ofBits .bf16 (0x3D80#16) = _
  rw [codes_at, nibW_toInt ⟨j.val % 2, by omega⟩, Ideal.ofBits_sixteenth_bf16, ← EReal.coe_mul]
  congr 1
  push_cast
  ring

end Cert.KernelIdeal.Hand
end
-- ==== Proof.Pay.lean ====
/- What a step computes over the reals: the product of its tile's quantised rows with the scratch, scaled, in the rows of its expert;
   the rows that the output's buffer held elsewhere. -/
module

public import proofs.«01_k».proof.Proof.Codes
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.ValueIdx Idealize.ShloMosaic.WordCmp Idealize.ShloMosaic.Pipeline

/-- The quantised activation: the quotient by the scale, clipped to ±448. -/
def quant (a s : EReal) : EReal := min (Ideal.ofBits .f32 0x43E00000#32) (max (Ideal.ofBits .f32 0xC3E00000#32) (Ideal.div a s))

/-- The weight in row `k`, column `n` of expert `e`: its four-bit code times the scale of its group of 128 rows. -/
def wVal (wp : S32x6144x768.Idx → BitVec 8) (ws : S32x48x1536.Idx → EReal) (e : Fin 32) (k : Fin 6144) (n : Fin 1536) : EReal :=
  (((nib (n.val % 2) (wp (ix3 e k (⟨n.val / 2, by omega⟩ : Fin 768))) : ℝ)) : EReal) * ws (ix3 e (⟨k.val / 128, by omega⟩ : Fin 48) n)

/-- Row `r`, column `n` of the product with expert `e`'s weights. -/
def rowVal (x : S65536x6144.Idx → EReal) (sc : S32.Idx → EReal) (wp : S32x6144x768.Idx → BitVec 8) (ws : S32x48x1536.Idx → EReal)
    (e : Fin 32) (r : Fin 65536) (n : Fin 1536) : EReal :=
  (∑ k : Fin 6144, quant (x (ix2 r k)) (sc (ix1 e)) * wVal wp ws e k n) * sc (ix1 e)

theorem row_word (T i : ℕ) (hT : T < 256) (hi : i < 256) :
    IntOp.addi (Scalar.muli (BitVec.ofNat 32 T) 256#32) (BitVec.ofNat 32 i) = BitVec.ofNat 32 (256 * T + i) := by
  show BitVec.ofNat 32 T * 256#32 + BitVec.ofNat 32 i = _
  rw [← BitVec.ofNat_mul, ← BitVec.ofNat_add, Nat.mul_comm]

/-- A step's store, element by element. -/
theorem pay3_at (s : EReal) (x : S256x6144.Idx → EReal) (w : S6144x1536.Idx → EReal) (T S E : ℕ) (hT : T < 256) (hS : S ≤ 65536) (hE : E ≤ 65536)
    (old : S256x1536.Idx → EReal) (i : Fin 256) (n : Fin 1536) :
    k0_pay3 (F := Ideal) s x w (BitVec.ofNat 32 T) (BitVec.ofNat 32 S) (BitVec.ofNat 32 E) old (ix2 i n)
      = if S ≤ 256 * T + i.val ∧ 256 * T + i.val < E then (∑ k : Fin 6144, quant (x (ix2 i k)) s * w (ix2 k n)) * s else old (ix2 i n) := by
  have hi := i.isLt
  unfold k0_pay3
  have hw : addi (broadcast S256x1536 (Scalar.muli (BitVec.ofNat 32 T) 256#32)) (iota .tc S256x1536 32 [0] iota_S256x1536_d0_w32) (ix2 i n)
      = BitVec.ofNat 32 (256 * T + i.val) := by
    refine Eq.trans ?_ (row_word T i.val hT hi)
    show IntOp.addi _ (iota .tc S256x1536 32 [0] iota_S256x1536_d0_w32 (ix2 i n)) = _
    rw [iota_single_apply]; rfl
  rw [truncf_apply, select_at, andi_at, cmpi_at, cmpi_at, mulf_apply, extf_apply, shapeCast_self, hw]
  simp only [Idealize.ShloMosaic.broadcast, cmpi_sge_ofNat (w := 32) (a := 256 * T + i.val) (b := S) (by omega) (by omega),
    cmpi_slt_ofNat (w := 32) (a := 256 * T + i.val) (b := E) (by omega) (by omega), andi_ofBool]
  rw [← Bool.decide_and, select_decide]
  congr 2
  refine (Ideal.matmul_plain_apply (M := 256) (K := 6144) (N := 1536) none _ w _ i n).trans ?_
  rw [constant_apply, Ideal.ofBits_zero_f32, zero_add]
  rfl

end Cert.KernelIdeal.Hand
end
-- ==== Proof.KVal.lean ====
/- What a step finds in its input windows: the scales, its tile's rows, and its expert's codes and group scales. -/
module

public import proofs.«01_k».proof.Proof.KFrame
public import proofs.«01_k».proof.Proof.Trip
public import proofs.«01_k».proof.Proof.Pay
public import Idealize.ShloMosaic.Lib.Pipeline.FrameBody
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.ValueIdx
open Idealize.ShloMosaic.Pipeline (RDat)
open Cert.Plan (P Q cl ex tile)

variable {F : FTy → Type} [FloatOps F] [∀ e, Nonempty (Elt F e)]
variable (gs : IVec S32 32) (h : Rows gs)
variable (V : (c : Dev nD) → (b : Ref sig .tc) → Buf (Elt F) ((c.tc : Thread nD τ).loc b))
variable (R : Dev nD → Fin (cfg0 (admG (F := F) gs h 0)).N → (Y X : S256x1536.Idx → Elt F .bf16) → Prop)
variable (I : Dev nD → ℕ → (S6144x1536.Idx → Elt F .bf16) → Prop)

theorem coord (t : Fin 288) : ((grid0.coords t) 0).val = t.val := by
  show t.val / (1 : ℕ) % 288 = _
  have := t.isLt
  omega

theorem tile_ok (t : ℕ) (h : Rows gs) (i : Fin 256) : 256 * tile (gN gs) t + i.val < 65536 := by
  have := Plan.tile_lt _ h.tot t; omega

theorem found0 (c : Dev nD) (t : Fin (cfg0 (F := F) (admG gs h 0)).N) (Y) (hY : (rdat (admG gs h) V R I c).Finds 0 t Y) (e : Fin 32) :
    Y (ix1 e) = V c main_arg2 (ix1 e) := by
  obtain ⟨d, rfl⟩ := RDat.finds_in_eq_fetched (rdat (admG gs h) V R I c) 0 rfl (fun _ _ _ => rfl) (fun _ _ _ hX => hX) t Y hY
  have hx : (((cfg0 (F := F) (admG gs h 0)).win 0).index t) = ![0] := rfl
  show V c main_arg2 ((((cfg0 (F := F) (admG gs h 0)).win 0).rect t).emb _) = _
  refine congrArg _ (funext fun a => Fin.ext ((Pipeline.Window.rect_emb_val _ t _ a rfl).trans ?_))
  rw [hx]
  match a with
  | ⟨0, _⟩ => show 0 * 32 + e.val = e.val; omega

theorem found1 (c : Dev nD) (t : Fin (cfg0 (F := F) (admG gs h 0)).N) (Y) (hY : (rdat (admG gs h) V R I c).Finds 1 t Y) (i : Fin 256) (k : Fin 6144) :
    Y (ix2 i k) = V c main_arg0 (ix2 (⟨256 * tile (gN gs) t.val + i.val, tile_ok gs t.val h i⟩ : Fin 65536) k) := by
  obtain ⟨d, rfl⟩ := RDat.finds_in_eq_fetched (rdat (admG gs h) V R I c) 1 rfl (fun _ _ _ => rfl) (fun _ _ _ hX => hX) t Y hY
  have hx : (((cfg0 (F := F) (admG gs h 0)).win 1).index t) = ![tile (gN gs) t.val, 0] :=
    (tr1 gs h _).trans (congrArg (fun n => ![tile (gN gs) n, 0]) (coord t))
  show V c main_arg0 ((((cfg0 (F := F) (admG gs h 0)).win 1).rect t).emb _) = _
  refine congrArg _ (funext fun a => Fin.ext ((Pipeline.Window.rect_emb_val _ t _ a rfl).trans ?_))
  rw [hx]
  match a with
  | ⟨0, _⟩ => show tile (gN gs) t.val * 256 + i.val = 256 * tile (gN gs) t.val + i.val; omega
  | ⟨1, _⟩ => show 0 * 6144 + k.val = k.val; omega

theorem found2 (c : Dev nD) (t : Fin (cfg0 (F := F) (admG gs h 0)).N) (Y) (hY : (rdat (admG gs h) V R I c).Finds 2 t Y) (k : Fin 6144) (n : Fin 768) :
    Y (ix3 (0 : Fin 1) k n) = V c main_arg3 (ix3 (⟨ex (gN gs) t.val, (Plan.step _ h.tot t.val).1⟩ : Fin 32) k n) := by
  obtain ⟨d, rfl⟩ := RDat.finds_in_eq_fetched (rdat (admG gs h) V R I c) 2 rfl (fun _ _ _ => rfl) (fun _ _ _ hX => hX) t Y hY
  have hx : (((cfg0 (F := F) (admG gs h 0)).win 2).index t) = ![ex (gN gs) t.val, 0, 0] :=
    (tr2 gs h _).trans (congrArg (fun n => ![ex (gN gs) n, 0, 0]) (coord t))
  show V c main_arg3 ((((cfg0 (F := F) (admG gs h 0)).win 2).rect t).emb _) = _
  refine congrArg _ (funext fun a => Fin.ext ((Pipeline.Window.rect_emb_val _ t _ a rfl).trans ?_))
  rw [hx]
  match a with
  | ⟨0, _⟩ => show ex (gN gs) t.val * 1 + 0 = ex (gN gs) t.val; omega
  | ⟨1, _⟩ => show 0 * 6144 + k.val = k.val; omega
  | ⟨2, _⟩ => show 0 * 768 + n.val = n.val; omega

theorem found3 (c : Dev nD) (t : Fin (cfg0 (F := F) (admG gs h 0)).N) (Y) (hY : (rdat (admG gs h) V R I c).Finds 3 t Y) (k : Fin 48) (n : Fin 1536) :
    Y (ix3 (0 : Fin 1) k n) = V c main_arg4 (ix3 (⟨ex (gN gs) t.val, (Plan.step _ h.tot t.val).1⟩ : Fin 32) k n) := by
  obtain ⟨d, rfl⟩ := RDat.finds_in_eq_fetched (rdat (admG gs h) V R I c) 3 rfl (fun _ _ _ => rfl) (fun _ _ _ hX => hX) t Y hY
  have hx : (((cfg0 (F := F) (admG gs h 0)).win 3).index t) = ![ex (gN gs) t.val, 0, 0] :=
    (tr3 gs h _).trans (congrArg (fun n => ![ex (gN gs) n, 0, 0]) (coord t))
  show V c main_arg4 ((((cfg0 (F := F) (admG gs h 0)).win 3).rect t).emb _) = _
  refine congrArg _ (funext fun a => Fin.ext ((Pipeline.Window.rect_emb_val _ t _ a rfl).trans ?_))
  rw [hx]
  match a with
  | ⟨0, _⟩ => show ex (gN gs) t.val * 1 + 0 = ex (gN gs) t.val; omega
  | ⟨1, _⟩ => show 0 * 48 + k.val = k.val; omega
  | ⟨2, _⟩ => show 0 * 1536 + n.val = n.val; omega

end Cert.KernelIdeal.Hand
end
-- ==== Proof.Step.lean ====
/- What a step does over the reals, for any buffers whose reads are known. -/
module

public import proofs.«01_k».proof.Proof.Trip
public import proofs.«01_k».proof.Proof.Pay
public import proofs.«01_k».proof.Proof.KBody
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.ValueIdx

theorem condF_ite (p : Prop) [Decidable p] : condF (if p then 1#32 else 0#32) ↔ p := by
  split <;> rename_i hp
  · exact iff_of_true (by decide) hp
  · exact iff_of_false (by decide) hp

theorem cond2_ite (p : Prop) [Decidable p] : k0_cond2 (if p then 1#32 else 0#32) = 1#1 ↔ p := by
  split <;> rename_i hp
  · exact iff_of_true (by decide) hp
  · exact iff_of_false (by decide) hp

/-- The block that each piece of the loop stores, over the reals. -/
theorem piece_val (arg9 : Memref sig .tc .vmem S1x6144x768 .i8) (arg10 : Memref sig .tc .vmem S1x48x1536 .f32)
    (f9 : BufTy.Contents (Elt Ideal) arg9.view.ty) (f10 : BufTy.Contents (Elt Ideal) arg10.view.ty)
    (wp : S32x6144x768.Idx → BitVec 8) (ws : S32x48x1536.Idx → EReal) (e : Fin 32)
    (h9 : ∀ k n, arg9.view.read (Elt Ideal) f9 (ix3 (0 : Fin 1) k n) = wp (ix3 e k n))
    (h10 : ∀ k n, arg10.view.read (Elt Ideal) f10 (ix3 (0 : Fin 1) k n) = ws (ix3 e k n))
    (k : T1) (cc : Fin 12) (g : Fin 8) (i j : Fin 128) :
    (pieceOf (F := Ideal) arg9 arg10 f9 f10 k cc g).2 (ix2 i j)
      = wVal wp ws e (⟨1024 * k.val + 128 * g.val + i.val, by have := T1_lt k; omega⟩ : Fin 6144) (⟨128 * cc.val + j.val, by omega⟩ : Fin 1536) := by
  have hk := T1_lt k
  have hP := offP_eq cc k g
  have hS := offS_eq cc k
  have hc : cc.val < 12 := cc.isLt
  have hgl : g.val < 8 := g.isLt
  have hi : i.val < 128 := i.isLt
  have hj : j.val < 128 := j.isLt
  refine (blockVal_at (⟨cc.val % 2, by omega⟩ : Fin 2) g (slices_g g) _ _ i j).trans ?_
  have e1 : arg9.view.readAt (Elt Ideal) (Rect.unit (s := S1x6144x768) (offP cc k (BitVec.ofNat 32 g.val)) S1x128x128.size (offP_inb cc k g)).toLoadRect f9
        (ix3 (0 : Fin 1) i (⟨j.val / 2 + 64 * (cc.val % 2), by omega⟩ : Fin 128))
      = wp (ix3 e (⟨1024 * k.val + 128 * g.val + i.val, by omega⟩ : Fin 6144) (⟨(128 * cc.val + j.val) / 2, by omega⟩ : Fin 768)) := by
    rw [← h9]
    show arg9.view.read (Elt Ideal) f9 (Rect.emb _ _) = _
    refine congrArg _ (Rect.emb_eq_of_coords _ _ _ fun a => ?_)
    match a with
    | ⟨0, _⟩ => show 0 = offP cc k (BitVec.ofNat 32 g.val) 0 + 1 * 0; rw [hP]; rfl
    | ⟨1, _⟩ => show 1024 * k.val + 128 * g.val + i.val = offP cc k (BitVec.ofNat 32 g.val) 1 + 1 * i.val; rw [hP]; show _ = 1024 * k.val + 128 * g.val + 1 * i.val; omega
    | ⟨2, _⟩ => show (128 * cc.val + j.val) / 2 = offP cc k (BitVec.ofNat 32 g.val) 2 + 1 * (j.val / 2 + 64 * (cc.val % 2)); rw [hP]; show _ = 128 * (cc.val / 2) + 1 * (j.val / 2 + 64 * (cc.val % 2)); omega
  have e2 : arg10.view.readAt (Elt Ideal) (Rect.unit (s := S1x48x1536) (offS cc k) S1x8x128.size (offS_inb cc k)).toLoadRect f10
        (ix3 (0 : Fin 1) g j)
      = ws (ix3 e (⟨(1024 * k.val + 128 * g.val + i.val) / 128, by omega⟩ : Fin 48) (⟨128 * cc.val + j.val, by omega⟩ : Fin 1536)) := by
    rw [← h10]
    show arg10.view.read (Elt Ideal) f10 (Rect.emb _ _) = _
    refine congrArg _ (Rect.emb_eq_of_coords _ _ _ fun a => ?_)
    match a with
    | ⟨0, _⟩ => show 0 = offS cc k 0 + 1 * 0; rw [hS]; rfl
    | ⟨1, _⟩ => show (1024 * k.val + 128 * g.val + i.val) / 128 = offS cc k 1 + 1 * g.val; rw [hS]; show _ = 8 * k.val + 1 * g.val; omega
    | ⟨2, _⟩ => show 128 * cc.val + j.val = offS cc k 2 + 1 * j.val; rw [hS]; show _ = 128 * cc.val + 1 * j.val; omega
  have e3 : (128 * cc.val + j.val) % 2 = j.val % 2 := by omega
  show _ = (((nib ((128 * cc.val + j.val) % 2) _ : ℝ)) : EReal) * _
  rw [e3]
  exact congrArg₂ (fun (a : BitVec 8) (b : EReal) => (((nib (j.val % 2) a : ℝ)) : EReal) * b) e1 e2

/-- The scale that a step reads. -/
theorem scale_val (arg7 : Memref sig .tc .smem S32 .f32) (f7 : BufTy.Contents (Elt Ideal) arg7.view.ty) (v : BitVec 32) (e : Fin 32)
    (hv : v = BitVec.ofNat 32 e.val) (hin : ∀ a, k0_off34 v a + S1.size a ≤ S32.size a) (hn : 0 < S1.numel) :
    arg7.view.readAt (Elt Ideal) (Rect.unit (s := S32) (k0_off34 v) S1.size hin).toLoadRect f7 (Shape.Idx.first hn)
      = arg7.view.read (Elt Ideal) f7 (ix1 e) := by
  subst hv
  show arg7.view.read (Elt Ideal) f7 (Rect.emb _ _) = _
  refine congrArg _ (Rect.emb_eq_of_coords _ _ _ fun a => ?_)
  match a with
  | ⟨0, _⟩ => show e.val = (BitVec.ofNat 32 e.val).toNat + 1 * 0; rw [BitVec.toNat_ofNat, Nat.mod_eq_of_lt (by omega)]; omega

/-- A read of a whole buffer through the rectangle at the origin. -/
theorem read_full {sp : Space} {M N : ℕ} {e : EltTy} (v : Memref sig .tc sp ⟨2, ![M, N]⟩ e) (f : BufTy.Contents (Elt Ideal) v.view.ty)
    (inb : ∀ a, (![0, 0] : Fin 2 → ℕ) a + (![M, N] : Fin 2 → ℕ) a ≤ (⟨2, ![M, N]⟩ : Shape).size a) :
    v.view.readAt (Elt Ideal) (Rect.unit (s := ⟨2, ![M, N]⟩) ![0, 0] ![M, N] inb).toLoadRect f = v.view.read (Elt Ideal) f := by
  funext y
  show v.view.read (Elt Ideal) f (Rect.emb _ _) = _
  refine congrArg _ (Rect.emb_eq_of_coords _ _ _ fun a => ?_)
  match a with
  | ⟨0, _⟩ => show (y 0).val = 0 + 1 * (y 0).val; omega
  | ⟨1, _⟩ => show (y 1).val = 0 + 1 * (y 1).val; omega

theorem step_val (c : Dev nD) (i : grid0.Coords) (arg1 : Memref sig .tc .smem S288 .i32) (harg1 : arg1.IsWhole) (arg2 : Memref sig .tc .smem S288 .i32) (harg2 : arg2.IsWhole) (arg3 : Memref sig .tc .smem S288 .i32) (harg3 : arg3.IsWhole) (arg4 : Memref sig .tc .smem S288 .i32) (harg4 : arg4.IsWhole) (arg5 : Memref sig .tc .smem S288 .i32) (harg5 : arg5.IsWhole) (arg6 : Memref sig .tc .smem S288 .i32) (harg6 : arg6.IsWhole) (arg7 : Memref sig .tc .smem S32 .f32) (harg7 : arg7.IsWhole) (arg8 : Memref sig .tc .vmem S256x6144 .bf16) (harg8 : arg8.IsWhole) (arg9 : Memref sig .tc .vmem S1x6144x768 .i8) (harg9 : arg9.IsWhole) (arg10 : Memref sig .tc .vmem S1x48x1536 .f32) (harg10 : arg10.IsWhole) (arg11 : Memref sig .tc .vmem S256x1536 .bf16) (harg11 : arg11.IsWhole) (arg12 : Memref sig .tc .vmem S6144x1536 .bf16) (harg12 : arg12.IsWhole)
    (f1 : BufTy.Contents (Elt Ideal) arg1.view.ty)
    (f2 : BufTy.Contents (Elt Ideal) arg2.view.ty)
    (f3 : BufTy.Contents (Elt Ideal) arg3.view.ty)
    (f4 : BufTy.Contents (Elt Ideal) arg4.view.ty)
    (f5 : BufTy.Contents (Elt Ideal) arg5.view.ty)
    (f6 : BufTy.Contents (Elt Ideal) arg6.view.ty)
    (f7 : BufTy.Contents (Elt Ideal) arg7.view.ty)
    (f8 : BufTy.Contents (Elt Ideal) arg8.view.ty)
    (f9 : BufTy.Contents (Elt Ideal) arg9.view.ty)
    (f10 : BufTy.Contents (Elt Ideal) arg10.view.ty)
    (f11 : BufTy.Contents (Elt Ideal) arg11.view.ty)
    (f12 : BufTy.Contents (Elt Ideal) arg12.view.ty)
    (hE) (fO : BufTy.Contents (Elt Ideal) arg11.view.ty) (fW : BufTy.Contents (Elt Ideal) arg12.view.ty)
    (hB : BodyPost (F := Ideal) c i arg1 harg1 arg2 harg2 arg3 harg3 arg4 harg4 arg5 harg5 arg6 harg6 arg7 harg7 arg8 harg8 arg9 harg9 arg10 harg10 arg11 harg11 arg12 harg12 f1 f2 f3 f4 f5 f6 f7 f8 f9 f10 f11 f12 hE fO fW)
    (e : Fin 32) (T S E : ℕ) (fr ac : Prop) [Decidable fr] [Decidable ac] (hT : T < 256) (hS : S ≤ 65536) (hE' : E ≤ 65536)
    (w1 : rdw arg1 f1 (k0_off35 i) (k0_off35_inb i) = BitVec.ofNat 32 T)
    (w2 : rdw arg2 f2 (k0_off33 i) (k0_off33_inb i) = BitVec.ofNat 32 e.val)
    (w3 : rdw arg3 f3 (k0_off1 i) (k0_off1_inb i) = if fr then 1#32 else 0#32)
    (w4 : rdw arg4 f4 (k0_off32 i) (k0_off32_inb i) = if ac then 1#32 else 0#32)
    (w5 : rdw arg5 f5 (k0_off35 i) (k0_off35_inb i) = BitVec.ofNat 32 S)
    (w6 : rdw arg6 f6 (k0_off35 i) (k0_off35_inb i) = BitVec.ofNat 32 E)
    (wp : S32x6144x768.Idx → BitVec 8) (ws : S32x48x1536.Idx → EReal) (s : EReal)
    (h7 : arg7.view.read (Elt Ideal) f7 (ix1 e) = s)
    (h9 : ∀ k n, arg9.view.read (Elt Ideal) f9 (ix3 (0 : Fin 1) k n) = wp (ix3 e k n))
    (h10 : ∀ k n, arg10.view.read (Elt Ideal) f10 (ix3 (0 : Fin 1) k n) = ws (ix3 e k n)) :
    (fr → ∀ k n, arg12.view.read (Elt Ideal) fW (ix2 k n) = wVal wp ws e k n) ∧ (¬ fr → fW = f12) ∧
    (ac → ∀ p n, arg11.view.read (Elt Ideal) fO (ix2 p n) = if S ≤ 256 * T + p.val ∧ 256 * T + p.val < E then
        (∑ k : Fin 6144, quant (arg8.view.read (Elt Ideal) f8 (ix2 p k)) s * arg12.view.read (Elt Ideal) fW (ix2 k n)) * s
      else arg11.view.read (Elt Ideal) f11 (ix2 p n)) ∧ (¬ ac → fO = f11) := by
  refine ⟨fun hf => ?_, fun hf => hB.kept (by rw [w3, condF_ite]; exact hf), fun ha p n => ?_, fun ha => hB.idle (by rw [w4, cond2_ite]; exact ha)⟩
  · intro k n
    have := read_pb (F := Ideal) Variants.none c none i arg1 harg1 arg2 harg2 arg3 harg3 arg4 harg4 arg5 harg5 arg6 harg6 arg7 harg7 arg8 harg8 arg9 harg9 arg10 harg10 arg11 harg11 arg12 harg12 f9 f10 f12 (fun y => wVal wp ws e (y 0) (y 1))
      (fun k cc g i j => piece_val arg9 arg10 f9 f10 wp ws e h9 h10 k cc g i j)
    rw [hB.fresh (by rw [w3, condF_ite]; exact hf), this]
  · have hA : k0_cond2 (rdw arg4 f4 (k0_off32 i) (k0_off32_inb i)) = 1#1 := by rw [w4, cond2_ite]; exact ha
    rw [hB.active hA, View.read_writes_full]
    rw [read_full arg8 f8, read_full arg12 fW, read_full arg11 f11, w1, w5, w6, scale_val arg7 f7 _ e w2, h7]
    exact pay3_at s _ _ T S E hT hS hE' _ p n

end Cert.KernelIdeal.Hand
end
-- ==== Proof.KValue.lean ====
/- The kernel's result over the reals: every row of the output is the product with its owner's weights. -/
module

public import proofs.«01_k».proof.Proof.KVal
public import proofs.«01_k».proof.Proof.Step

@[expose] public section

set_option maxRecDepth 16384

noncomputable section

namespace Cert.KernelIdeal.Hand

open Cert.KernelIdeal Cert.KernelIdeal.Gen
open Idealize.ShloMosaic Idealize.ShloMosaic.ValueIdx Idealize.SL.Sem
open Idealize.ShloMosaic.Pipeline (RDat)
open Cert.Plan (P Q cl ex tile)

/-- The result's value at row `r`, column `n`: that of the expert the row belongs to. -/
def Right (gs : IVec S32 32) (x : S65536x6144.Idx → EReal) (sc : S32.Idx → EReal) (wp : S32x6144x768.Idx → BitVec 8) (ws : S32x48x1536.Idx → EReal)
    (r : Fin 65536) (n : Fin 1536) (v : EReal) : Prop :=
  ∀ e : Fin 32, P (gN gs) e.val ≤ r.val → r.val < P (gN gs) (e.val + 1) → v = rowVal x sc wp ws e r n

/-- The rows of step `t`'s tile up to the end of its expert's are right. -/
def Done (gs : IVec S32 32) (h : Rows gs) (x : S65536x6144.Idx → EReal) (sc : S32.Idx → EReal) (wp : S32x6144x768.Idx → BitVec 8) (ws : S32x48x1536.Idx → EReal)
    (t : ℕ) (X : S256x1536.Idx → EReal) : Prop :=
  ∀ (i : Fin 256) (n : Fin 1536), 256 * tile (gN gs) t + i.val < P (gN gs) (ex (gN gs) t + 1) →
    Right gs x sc wp ws (⟨256 * tile (gN gs) t + i.val, tile_ok gs t h i⟩ : Fin 65536) n (X (ix2 i n))

variable (gs : IVec S32 32) (h : Rows gs)
variable (V : (c : Dev nD) → (b : Ref sig .tc) → Buf (Elt Ideal) ((c.tc : Thread nD τ).loc b))

abbrev DoneV (c : Dev nD) (t : ℕ) (X : S256x1536.Idx → EReal) : Prop := Done gs h (V c main_arg0) (V c main_arg2) (V c main_arg3) (V c main_arg4) t X

/-- The output's relation: a step that finds its tile's earlier rows right leaves them right, and its expert's too. -/
def RV (c : Dev nD) (t : Fin (cfg0 (F := Ideal) (admG gs h 0)).N) (Y X : S256x1536.Idx → Elt Ideal .bf16) : Prop :=
  (0 < t.val → tile (gN gs) (t.val - 1) = tile (gN gs) t.val → DoneV gs h V c (t.val - 1) Y) → DoneV gs h V c t.val X

/-- The scratch's invariant: after a step it holds its expert's weights. -/
def IV (c : Dev nD) (t : ℕ) (f : S6144x1536.Idx → Elt Ideal .bf16) : Prop :=
  ∀ e : Fin 32, 0 < t → ex (gN gs) (t - 1) = e.val → ∀ (k : Fin 6144) (n : Fin 1536), f (ix2 k n) = wVal (V c main_arg3) (V c main_arg4) e k n

theorem done_step (x : S65536x6144.Idx → EReal) (sc : S32.Idx → EReal) (wp : S32x6144x768.Idx → BitVec 8) (ws : S32x48x1536.Idx → EReal)
    (t : ℕ) (e : Fin 32) (he : ex (gN gs) t = e.val) (W : S6144x1536.Idx → EReal) (hW : ∀ k n, W (ix2 k n) = wVal wp ws e k n)
    (xb : S256x6144.Idx → EReal) (hx : ∀ (i : Fin 256) (k : Fin 6144), xb (ix2 i k) = x (ix2 (⟨256 * tile (gN gs) t + i.val, tile_ok gs t h i⟩ : Fin 65536) k))
    (Y X : S256x1536.Idx → EReal) (ht : t < Q (gN gs) 32)
    (hX : ∀ (p : Fin 256) (n : Fin 1536), X (ix2 p n)
      = if P (gN gs) (ex (gN gs) t) ≤ 256 * tile (gN gs) t + p.val ∧ 256 * tile (gN gs) t + p.val < P (gN gs) (ex (gN gs) t + 1) then
        (∑ k : Fin 6144, quant (xb (ix2 p k)) (sc (ix1 e)) * W (ix2 k n)) * sc (ix1 e) else Y (ix2 p n))
    (hY : 0 < t → tile (gN gs) (t - 1) = tile (gN gs) t → Done gs h x sc wp ws (t - 1) Y) : Done gs h x sc wp ws t X := by
  intro p n hlt e' h1 h2
  rw [hX]
  by_cases hc : P (gN gs) (ex (gN gs) t) ≤ 256 * tile (gN gs) t + p.val
  · rw [if_pos ⟨hc, hlt⟩]
    have hee : ex (gN gs) t = e'.val := Plan.own _ hc hlt h1 h2
    have : e' = e := Fin.ext (hee.symm.trans he)
    subst this
    unfold rowVal
    simp only [hx, hW]
  · rw [if_neg fun hh => hc hh.1]
    obtain ⟨h0, h3, h4⟩ := Plan.keep _ h.tot (r := 256 * tile (gN gs) t + p.val) ht (by omega) (by omega)
    have hd := hY h0 h3 p n (by rw [h3]; exact h4) e'
    have hr : (⟨256 * tile (gN gs) (t - 1) + p.val, tile_ok gs (t - 1) h p⟩ : Fin 65536) = ⟨256 * tile (gN gs) t + p.val, tile_ok gs t h p⟩ := Fin.ext (by simp only [h3])
    rw [hr] at hd
    exact hd h1 h2

theorem done_idle (x : S65536x6144.Idx → EReal) (sc : S32.Idx → EReal) (wp : S32x6144x768.Idx → BitVec 8) (ws : S32x48x1536.Idx → EReal)
    (t : ℕ) (ht : ¬ t < Q (gN gs) 32) (Y : S256x1536.Idx → EReal)
    (hY : 0 < t → tile (gN gs) (t - 1) = tile (gN gs) t → Done gs h x sc wp ws (t - 1) Y) : Done gs h x sc wp ws t Y := by
  obtain ⟨h0, h1, h2⟩ := Plan.idle _ h.tot ht
  intro p n hlt
  have hr : (⟨256 * tile (gN gs) (t - 1) + p.val, tile_ok gs (t - 1) h p⟩ : Fin 65536) = ⟨256 * tile (gN gs) t + p.val, tile_ok gs t h p⟩ := Fin.ext (by simp only [h2])
  have hd := hY h0 h2 p n (by rw [h2, h1]; exact hlt)
  rw [hr] at hd
  exact hd

theorem wT (t : Fin 288) : rdw (F := Ideal) mT ((admG (F := Ideal) gs h 0).1 0) (k0_off35 (grid0.coords t)) (k0_off35_inb (grid0.coords t)) = BitVec.ofNat 32 (tile (gN gs) t.val) :=
  (rT gs h (grid0.coords t)).trans (congrArg (fun n => BitVec.ofNat 32 (tile (gN gs) n)) (coord t))
theorem wE (t : Fin 288) : rdw (F := Ideal) mE ((admG (F := Ideal) gs h 0).1 1) (k0_off33 (grid0.coords t)) (k0_off33_inb (grid0.coords t)) = BitVec.ofNat 32 (ex (gN gs) t.val) :=
  (rE gs h (grid0.coords t)).trans (congrArg (fun n => BitVec.ofNat 32 (ex (gN gs) n)) (coord t))
theorem wF (t : Fin 288) : rdw (F := Ideal) mF ((admG (F := Ideal) gs h 0).1 2) (k0_off1 (grid0.coords t)) (k0_off1_inb (grid0.coords t))
    = if cl (gN gs) t.val = Q (gN gs) (ex (gN gs) t.val) ∧ t.val < Q (gN gs) 32 then 1#32 else 0#32 :=
  (rF gs h (grid0.coords t)).trans (congrArg (fun n => if cl (gN gs) n = Q (gN gs) (ex (gN gs) n) ∧ n < Q (gN gs) 32 then 1#32 else 0#32) (coord t))
theorem wA (t : Fin 288) : rdw (F := Ideal) mA ((admG (F := Ideal) gs h 0).1 3) (k0_off32 (grid0.coords t)) (k0_off32_inb (grid0.coords t))
    = if t.val < Q (gN gs) 32 then 1#32 else 0#32 :=
  (rA gs h (grid0.coords t)).trans (congrArg (fun n => if n < Q (gN gs) 32 then 1#32 else 0#32) (coord t))
theorem wS (t : Fin 288) : rdw (F := Ideal) mS ((admG (F := Ideal) gs h 0).1 4) (k0_off35 (grid0.coords t)) (k0_off35_inb (grid0.coords t)) = BitVec.ofNat 32 (P (gN gs) (ex (gN gs) t.val)) :=
  (rS gs h (grid0.coords t)).trans (congrArg (fun n => BitVec.ofNat 32 (P (gN gs) (ex (gN gs) n))) (coord t))
theorem wN (t : Fin 288) : rdw (F := Ideal) mN ((admG (F := Ideal) gs h 0).1 5) (k0_off35 (grid0.coords t)) (k0_off35_inb (grid0.coords t)) = BitVec.ofNat 32 (P (gN gs) (ex (gN gs) t.val + 1)) :=
  (rN gs h (grid0.coords t)).trans (congrArg (fun n => BitVec.ofNat 32 (P (gN gs) (ex (gN gs) n + 1))) (coord t))

theorem stepOk (c : Dev nD) : StepOk (admG gs h) V (RV gs h V) (IV gs V) (chk gs h) c := by
  intro t s f7 f8 f9 f10 f11 f12 fO fW H0 H1 H2 H3 _ hI hB
  have hj := coord t
  have hex := (Plan.step _ h.tot t.val).1
  have hv := step_val (hB := hB) (e := (⟨ex (gN gs) t.val, hex⟩ : Fin 32)) (T := tile (gN gs) t.val) (S := P (gN gs) (ex (gN gs) t.val)) (E := P (gN gs) (ex (gN gs) t.val + 1))
    (fr := cl (gN gs) t.val = Q (gN gs) (ex (gN gs) t.val) ∧ t.val < Q (gN gs) 32) (ac := t.val < Q (gN gs) 32)
    (hT := Plan.tile_lt _ h.tot _) (hS := Plan.P_le _ h.tot _ (by omega)) (hE' := Plan.P_le _ h.tot _ (by omega))
    (w1 := wT gs h t) (w2 := wE gs h t) (w3 := wF gs h t) (w4 := wA gs h t) (w5 := wS gs h t) (w6 := wN gs h t)
    (wp := V c main_arg3) (ws := V c main_arg4) (s := V c main_arg2 (ix1 (⟨ex (gN gs) t.val, hex⟩ : Fin 32)))
    (h7 := found0 gs h V _ _ c t _ H0 _) (h9 := found2 gs h V _ _ c t _ H2) (h10 := found3 gs h V _ _ c t _ H3)
  obtain ⟨hf, hk, ha, hi⟩ := hv
  have hW : ∀ (k : Fin 6144) (n : Fin 1536), fW (ix2 k n) = wVal (V c main_arg3) (V c main_arg4) (⟨ex (gN gs) t.val, hex⟩ : Fin 32) k n := by
    by_cases hfr : cl (gN gs) t.val = Q (gN gs) (ex (gN gs) t.val) ∧ t.val < Q (gN gs) 32
    · exact hf hfr
    · obtain ⟨h0, h1⟩ := Plan.not_fresh _ h.tot hfr
      rw [hk hfr]
      exact hI _ h0 h1
  refine ⟨fun e _ he k n => ?_, fun hY => ?_⟩
  · have : e = ⟨ex (gN gs) t.val, hex⟩ := Fin.ext (by rw [← he]; rfl)
    subst this
    exact hW k n
  · by_cases hac : t.val < Q (gN gs) 32
    · exact done_step gs h _ _ _ _ t.val _ rfl fW hW _ (found1 gs h V _ _ c t _ H1) _ _ hac (ha hac) hY
    · rw [hi hac]
      exact done_idle gs h _ _ _ _ t.val hac _ hY

theorem index4 (t : Fin (cfg0 (F := Ideal) (admG gs h 0)).N) :
    ((cfg0 (F := Ideal) (admG gs h 0)).win 4).index t = ![tile (gN gs) t.val, 0] :=
  (tr4 gs h _).trans (congrArg (fun n => ![tile (gN gs) n, 0]) (coord t))

theorem flush4 (t : Fin (cfg0 (F := Ideal) (admG gs h 0)).N) :
    ((cfg0 (F := Ideal) (admG gs h 0)).win 4).flush t = true ↔ t.val + 1 = 288 ∨ (t.val + 1 < 288 ∧ tile (gN gs) (t.val + 1) ≠ tile (gN gs) t.val) := by
  unfold Pipeline.Window.flush
  rw [show ((cfg0 (F := Ideal) (admG gs h 0)).win 4).isOut = true from rfl, Bool.true_and, Bool.or_eq_true, decide_eq_true_iff, decide_eq_true_iff]
  refine or_congr Iff.rfl ⟨fun ⟨h1, h2⟩ => ⟨h1, fun he => h2 ?_⟩, fun ⟨h1, h2⟩ => ⟨h1, fun he => h2 ?_⟩⟩
  · rw [index4, index4]; exact congrArg (fun n => ![n, 0]) he
  · rw [index4, index4] at he
    exact congrFun he 0

theorem leaves4 (c : Dev nD) : ∀ (n : ℕ) (t : Fin (cfg0 (F := Ideal) (admG gs h 0)).N) (ht : t.val = n) (X),
    (rdat (admG gs h) V (RV gs h V) (IV gs V) c).Leaves 4 t X → DoneV gs h V c t.val X := by
  intro n
  induction n with
  | zero =>
    rintro t ht X ⟨Y, -, hR⟩
    exact hR fun h0 => by omega
  | succ n ih =>
    rintro t ht X ⟨Y, hY, hR⟩
    refine hR fun h0 hs => ?_
    rcases (RDat.finds_of_pos _ (by rfl) (Nat.pos_iff_ne_zero.1 h0) Y).1 hY with hfl | hl
    · have hlt : t.val < 288 := t.isLt
      have e1 : t.val - 1 + 1 = t.val := by omega
      rcases (flush4 gs h _).1 hfl with h1 | ⟨-, h1⟩
      · exact absurd (show t.val - 1 + 1 = 288 from h1) (by omega)
      · exact absurd hs.symm (e1 ▸ h1)
    · exact ih ⟨t.val - 1, Nat.lt_of_le_of_lt (Nat.sub_le _ _) t.isLt⟩ (by show t.val - 1 = n; omega) Y hl

/-- Every element of the output array is right once the launch ends. -/
theorem array_right (c : Dev nD) (G : S65536x1536.Idx → EReal)
    (hG : (rdat (admG gs h) V (RV gs h V) (IV gs V) c).ArrAt 4 (cfg0 (F := Ideal) (admG gs h 0)).N G) (r : Fin 65536) (n : Fin 1536) :
    Right gs (V c main_arg0) (V c main_arg2) (V c main_arg3) (V c main_arg4) r n (G (ix2 r n)) := by
  obtain ⟨X, hX, hA⟩ := hG.exists_exact
  have hG' := hA (Function.update (fun _ _ _ => Classical.arbitrary _) 4 X) (fun u _ _ => by rw [Function.update_self])
  have key := Pipeline.Dat.arrAt_forall_of_cover (cfg := cfg0 (F := Ideal) (admG gs h 0))
    ((rdat (admG gs h) V (RV gs h V) (IV gs V) c).withAfter (Function.update (fun _ _ _ => Classical.arbitrary _) 4 X)) 4
    (fun (i : S65536x1536.Idx) (v : EReal) => Right gs (V c main_arg0) (V c main_arg2) (V c main_arg3) (V c main_arg4) (i 0) (i 1) v)
    (fun t ht (y : S256x1536.Idx) => ?_) (fun (i : S65536x1536.Idx) => ?_) (ix2 r n)
  · rw [← hG'] at key
    exact key
  · have hd := leaves4 gs h V c t.val t rfl (X t) (hX t t.isLt ht)
    have hy : (y 0).val < 256 := (y 0).isLt
    have hfl := Plan.flush _ h.tot (j := t.val) (by
      rcases (flush4 gs h t).1 ht with h1 | ⟨-, h1⟩
      · exact Or.inl (by omega)
      · exact Or.inr h1)
    have hv := hd (y 0) (y 1) (show 256 * tile (gN gs) t.val + (y 0).val < _ by omega)
    have he : ((((cfg0 (F := Ideal) (admG gs h 0)).win 4).blk t).view.emb y : S65536x1536.Idx)
        = ix2 (⟨256 * tile (gN gs) t.val + (y 0).val, tile_ok gs t.val h (y 0)⟩ : Fin 65536) (y 1) := by
      show (((cfg0 (F := Ideal) (admG gs h 0)).win 4).rect t).emb _ = _
      funext a
      refine Fin.ext ((Pipeline.Window.rect_emb_val ((cfg0 (F := Ideal) (admG gs h 0)).win 4) t _ a rfl).trans ?_)
      rw [index4]
      match a with
      | ⟨0, _⟩ => show tile (gN gs) t.val * 256 + (y 0).val = 256 * tile (gN gs) t.val + (y 0).val; omega
      | ⟨1, _⟩ => show 0 * 1536 + (y 1).val = (y 1).val; omega
    have hx : (ix2 (y 0) (y 1) : S256x1536.Idx) = y := by
      funext a; match a with | ⟨0, _⟩ => rfl | ⟨1, _⟩ => rfl
    rw [hx] at hv
    have hr : ∀ (j : S65536x1536.Idx) (v : EReal), j = ix2 (⟨256 * tile (gN gs) t.val + (y 0).val, tile_ok gs t.val h (y 0)⟩ : Fin 65536) (y 1) → v = X t y →
        Right gs (V c main_arg0) (V c main_arg2) (V c main_arg3) (V c main_arg4) (j 0) (j 1) v := by
      rintro _ _ rfl rfl; exact hv
    refine hr _ _ he ?_
    show (Function.update (fun _ _ _ => Classical.arbitrary _) 4 X) 4 t y = X t y
    rw [Function.update_self]
  · have h0 : (i 0).val < 65536 := (i 0).isLt
    have h1 : (i 1).val < 1536 := (i 1).isLt
    obtain ⟨j, hj, hjt⟩ := Plan.cover _ h.tot (t := (i 0).val / 256) (by omega)
    have hs := Nat.findGreatest_spec (P := fun j => tile (gN gs) j = (i 0).val / 256) (show j ≤ 287 by omega) hjt
    have hm := fun k => Nat.findGreatest_is_greatest (P := fun j => tile (gN gs) j = (i 0).val / 256) (n := 287) (k := k)
    have hle := Nat.findGreatest_le (P := fun j => tile (gN gs) j = (i 0).val / 256) 287
    generalize Nat.findGreatest (fun j => tile (gN gs) j = (i 0).val / 256) 287 = q at hs hm hle
    have hq8 : q < 288 := by omega
    refine ⟨⟨q, hq8⟩, (flush4 gs h _).2 ?_, ?_⟩
    · by_cases hq : q = 287
      · left; show q + 1 = 288; omega
      · right
        exact ⟨show q + 1 < 288 by omega, fun he => hm (q + 1) (by omega) (by omega) (he.trans hs)⟩
    · refine (Pipeline.Window.emb_mem_blk_iff ((cfg0 (F := Ideal) (admG gs h 0)).win 4) ⟨q, hq8⟩ i rfl).2 fun a => ?_
      rw [index4 gs h ⟨q, hq8⟩]
      match a with
      | ⟨0, _⟩ => show tile (gN gs) q * 256 ≤ (i 0).val ∧ (i 0).val < tile (gN gs) q * 256 + 256; rw [hs]; omega
      | ⟨1, _⟩ => show 0 * 1536 ≤ (i 1).val ∧ (i 1).val < 0 * 1536 + 1536; omega

end Cert.KernelIdeal.Hand
end
-- ==== Proof.KFinal.lean ====
/- The kernel's run, with the value: every element of the result is its row's product with its own expert's weights. -/
module

public import proofs.«01_k».proof.Proof.KFrame
public import proofs.«01_k».proof.Proof.KValue

@[expose] public section

set_option maxRecDepth 16384

noncomputable section

namespace Cert.KernelIdeal.Hand

open Cert.KernelIdeal Cert.KernelIdeal.Gen
open Idealize.ShloMosaic Idealize.ShloMosaic.ValueIdx Idealize.SL.Sem

/-- Every element of the result is right, and the arguments are unchanged. -/
theorem value (m : (ℓ : Loc nD τ sig) → Buf (Elt Ideal) ℓ) (g : Dev nD → PrngReg) (h : ∀ c, Rows (gsOf m c)) :
    θ_run (defs (F := Ideal)) (onTc main) ⟨m, fun _ => 0, g⟩ (fun r => ∀ c : Dev nD,
      (∀ (i : Fin 65536) (n : Fin 1536), Right (gsOf m c) (m ((c.tc : Thread nD τ).loc main_arg0)) (m ((c.tc : Thread nD τ).loc main_arg2))
        (m ((c.tc : Thread nD τ).loc main_arg3)) (m ((c.tc : Thread nD τ).loc main_arg4)) i n (r.2.mem ((c.tc : Thread nD τ).loc main_v68) (ix2 i n)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono ?_ (runG m g h (RV (gsOf m 0) (h 0) (Vent m)) (IV (gsOf m 0) (Vent m)) (stepOk (gsOf m 0) (h 0) (Vent m))
    (fun c f e h0 => absurd h0 (Nat.lt_irrefl 0)))
  rintro r ⟨ha, hG, -⟩ c
  refine ⟨fun i n => ?_, ha c⟩
  have hv := array_right (gsOf m 0) (h 0) (Vent m) c _ (hG c) i n
  rw [Vent_arg m c main_arg0 (by simp), Vent_arg m c main_arg2 (by simp), Vent_arg m c main_arg3 (by simp), Vent_arg m c main_arg4 (by simp)] at hv
  have hc : c = 0 := Subsingleton.elim _ _
  subst hc
  exact hv

end Cert.KernelIdeal.Hand
end
-- ==== Proof.RDefs.lean ====
/- The reference's host computation in pieces, each a function of the values it reads. -/
module

public import proofs.«01_k».proof.Proof.Gen.ReferenceIdeal.Frame

@[expose] public section

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F] [∀ e, Nonempty (Elt F e)]

/-- The running sum. -/
def cumR (gs : IVec S32 32) : IVec S32 32 :=
  Host.reduceWindow IntOp.addi ![32] ![1] ![31] ![0] gs (broadcastInDim S_ ![] bcast_S_S_ (constantI S_ 32 0#32)) reduceWindows_S32_S32_w32s1p31_0 h_S_
/-- Each row's number, in a column. -/
def rowsR : IVec S65536x1 32 := broadcastInDim S65536x1 ![0] bcast_S65536_S65536x1_0 (iotaInDim S65536 32 0)
/-- Whether row `r` belongs to expert `e`, from the running sum, the row numbers and the group sizes. -/
def mineR (cum : IVec S32 32) (rows : IVec S65536x1 32) (gs : IVec S32 32) : IVec S65536x32 1 :=
  andi (cmpi .sle (broadcastInDim S65536x32 ![0, 1] bcast_S1x32_S65536x32_0_1 (broadcastInDim S1x32 ![1] bcast_S32_S1x32_1 (subi cum gs)))
      (broadcastInDim S65536x32 ![0, 1] bcast_S65536x1_S65536x32_0_1 rows))
    (cmpi .slt (broadcastInDim S65536x32 ![0, 1] bcast_S65536x1_S65536x32_0_1 rows)
      (broadcastInDim S65536x32 ![0, 1] bcast_S1x32_S65536x32_0_1 (broadcastInDim S1x32 ![1] bcast_S32_S1x32_1 cum)))
/-- Each expert's scale in its own rows, zero elsewhere. -/
def pickR (mine : IVec S65536x32 1) (sc : FVec F S32 .f32) (z : FVec F S_ .f32) : FVec F S65536x32 .f32 :=
  select mine (broadcastInDim S65536x32 ![1] bcast_S32_S65536x32_1 sc) (broadcastInDim S65536x32 ![] bcast_S_S65536x32 z)
/-- Each row's scale. -/
def scaleR (p : FVec F S65536x32 .f32) : FVec F S65536 .f32 :=
  Host.reduceAdd p (constant S_ .f32 0x00000000#32) reducesTo_S65536x32_S65536_d1 h_S_
/-- A constant word everywhere. -/
abbrev kW (v : BitVec 32) : IVec S32x6144x768 32 := broadcastInDim S32x6144x768 ![] bcast_S_S32x6144x768 (constantI S_ 32 v)
/-- A four-bit field as a signed number. -/
def signR (x : IVec S32x6144x768 32) : IVec S32x6144x768 32 := select (cmpi .sge x (kW 8#32)) (subi x (kW 16#32)) x
/-- The low field of each byte. -/
def loR (wp : IVec S32x6144x768 8) : IVec S32x6144x768 32 := andi (extui 32 wp natLt_8_32) (kW 15#32)
/-- The high field of each byte. -/
def hiR (wp : IVec S32x6144x768 8) : IVec S32x6144x768 32 := Host.shrsi (extui 32 wp natLt_8_32) (kW 4#32)
/-- The weights of one column parity: the codes times their groups' scales. -/
def deqR (codes : IVec S32x6144x768 32) (ws : FVec F S32x48x768 .f32) : FVec F S32x6144x768 .bf16 :=
  shapeCast S32x6144x768
    (mulf (shapeCast S32x48x128x768 (sitofp .bf16 codes : FVec F S32x6144x768 .bf16) shapeCasts_S32x6144x768_S32x48x128x768)
      (broadcastInDim S32x48x128x768 ![0, 1, 2, 3] bcast_S32x48x1x768_S32x48x128x768_0_1_2_3
        (broadcastInDim S32x48x1x768 ![0, 1, 3] bcast_S32x48x768_S32x48x1x768_0_1_3 (truncf .bf16 ws bitsLt_bf16_f32))))
    shapeCasts_S32x48x128x768_S32x6144x768
/-- The scales of the even columns. -/
def evenR (ws : FVec F S32x48x1536 .f32) : FVec F S32x48x768 .f32 := Host.slice S32x48x768 ![0, 0, 0] ![1, 1, 2] ws slicesBy_S32x48x1536_S32x48x768_0s1_0s1_0s2
/-- The scales of the odd columns. -/
def oddR (ws : FVec F S32x48x1536 .f32) : FVec F S32x48x768 .f32 := Host.slice S32x48x768 ![0, 0, 1] ![1, 1, 2] ws slicesBy_S32x48x1536_S32x48x768_0s1_0s1_1s2
/-- Every row times every expert's weights. -/
def dotR (q : FVec F S65536x6144 .bf16) (w : FVec F S32x6144x768 .bf16) : FVec F S65536x32x768 .f32 :=
  Host.dotGeneral dot_S65536x6144_S32x6144x768_S65536x32x768_1_1_0_02_n_n none q w
/-- The mask with a trailing axis. -/
def maskR (mine : IVec S65536x32 1) : IVec S65536x32x1 1 := broadcastInDim S65536x32x1 ![0, 1] bcast_S65536x32_S65536x32x1_0_1 mine
/-- The products in the experts' own rows, zero elsewhere. -/
def ownR (mk : IVec S65536x32x1 1) (d : FVec F S65536x32x768 .f32) (z : FVec F S_ .f32) : FVec F S65536x32x768 .f32 :=
  select (broadcastInDim S65536x32x768 ![0, 1, 2] bcast_S65536x32x1_S65536x32x768_0_1_2 mk) d (broadcastInDim S65536x32x768 ![] bcast_S_S65536x32x768 z)
/-- The sum over the experts. -/
def sumR (d : FVec F S65536x32x768 .f32) : FVec F S65536x768 .f32 :=
  Host.reduceAdd d (constant S_ .f32 0x00000000#32) reducesTo_S65536x32x768_S65536x768_d1 h_S_
/-- One column parity times the rows' scales, with a trailing axis. -/
def scaledR (y : FVec F S65536x768 .f32) (s : FVec F S65536 .f32) : FVec F S65536x768x1 .f32 :=
  broadcastInDim S65536x768x1 ![0, 1] bcast_S65536x768_S65536x768x1_0_1
    (mulf y (broadcastInDim S65536x768 ![0, 1] bcast_S65536x1_S65536x768_0_1 (broadcastInDim S65536x1 ![0] bcast_S65536_S65536x1_0 s)))
/-- The two column parities interleaved. -/
def outR (yl yh : FVec F S65536x768 .f32) (s : FVec F S65536 .f32) : FVec F S65536x1536 .bf16 :=
  truncf .bf16 (shapeCast S65536x1536 (concatenate S65536x768x2 2 [⟨S65536x768x1, scaledR yl s⟩, ⟨S65536x768x1, scaledR yh s⟩]
    concatenates_S65536x768x1_S65536x768x1_S65536x768x2_d2) shapeCasts_S65536x768x2_S65536x1536) bitsLt_bf16_f32

end Cert.ReferenceIdeal.Hand
end
-- ==== Proof.RHost.lean ====
/- What the reference's host operations leave in the buffers that its result depends on. -/
module

public import proofs.«01_k».proof.Proof.RDefs

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo

variable {F : FTy → Type} [FloatOps F] [∀ e, Nonempty (Elt F e)]

section Stages
variable (W : Valuation τ sig (Elt F))

set_option maxHeartbeats 400000

theorem r0_v1 : after hostOps0 W (Proc.devRef .tc main_v1) = (rowsR : IVec S65536x1 32) := by
  after_results_simp
  try rfl

theorem r1_v2 : after hostOps0_1 W (Proc.devRef .tc main_v2) = cumR (W (Proc.devRef .tc main_arg1)) := by
  after_results_simp
  simp only [TRef.toBuf, TRef.ofBuf, cast_cast, cast_eq]
  try rfl

theorem r2_v12 : after hostOps0_2 W (Proc.devRef .tc main_v12) = mineR (W (Proc.devRef .tc main_v2)) (W (Proc.devRef .tc main_v1)) (W (Proc.devRef .tc main_arg1)) := by
  after_results_simp
  try rfl

theorem r2_cst : after hostOps0_2 W (Proc.devRef .tc main_cst) = constant (F := F) S_ .f32 0x00000000#32 := by
  after_results_simp
  try rfl

theorem r3_v13 : after hostOps0_3 W (Proc.devRef .tc main_v13) = pickR (F := F) (W (Proc.devRef .tc main_v12)) (W (Proc.devRef .tc main_arg2)) (W (Proc.devRef .tc main_cst)) := by
  after_results_simp
  simp only [TRef.toBuf, TRef.ofBuf, cast_cast, cast_eq]
  try rfl

theorem r4_v14 : after hostOps0_4 W (Proc.devRef .tc main_v14) = scaleR (F := F) (W (Proc.devRef .tc main_v13)) := by
  after_results_simp
  try rfl

theorem r4_v15 : after hostOps0_4 W (Proc.devRef .tc main_v15) = broadcastInDim S65536x1 ![0] bcast_S65536_S65536x1_0 (scaleR (F := F) (W (Proc.devRef .tc main_v13))) := by
  after_results_simp
  try rfl

theorem r5_v19 : after hostOps1 W (Proc.devRef .tc main_v19) = loR (W (Proc.devRef .tc main_arg3)) := by
  after_results_simp
  try rfl

theorem r5_v21 : after hostOps1 W (Proc.devRef .tc main_v21) = hiR (W (Proc.devRef .tc main_arg3)) := by
  after_results_simp
  try rfl

theorem r5_v23 : after hostOps1 W (Proc.devRef .tc main_v23) = (cmpi .sge (loR (W (Proc.devRef .tc main_arg3))) (kW 8#32) : IVec S32x6144x768 1) := by
  after_results_simp
  try rfl

theorem r5_v25 : after hostOps1 W (Proc.devRef .tc main_v25) = (subi (loR (W (Proc.devRef .tc main_arg3))) (kW 16#32) : IVec S32x6144x768 32) := by
  after_results_simp
  try rfl

theorem r6_v26 : after hostOps1_1 W (Proc.devRef .tc main_v26) = (select (W (Proc.devRef .tc main_v23)) (W (Proc.devRef .tc main_v25)) (W (Proc.devRef .tc main_v19)) : IVec S32x6144x768 32) := by
  after_results_simp
  simp only [TRef.toBuf, TRef.ofBuf, cast_cast, cast_eq]
  try rfl

theorem r7_v28 : after hostOps1_2 W (Proc.devRef .tc main_v28) = (cmpi .sge (W (Proc.devRef .tc main_v21)) (kW 8#32) : IVec S32x6144x768 1) := by
  after_results_simp
  try rfl

theorem r7_v30 : after hostOps1_2 W (Proc.devRef .tc main_v30) = (subi (W (Proc.devRef .tc main_v21)) (kW 16#32) : IVec S32x6144x768 32) := by
  after_results_simp
  try rfl

theorem r8_v31 : after hostOps1_3 W (Proc.devRef .tc main_v31) = (select (W (Proc.devRef .tc main_v28)) (W (Proc.devRef .tc main_v30)) (W (Proc.devRef .tc main_v21)) : IVec S32x6144x768 32) := by
  after_results_simp
  simp only [TRef.toBuf, TRef.ofBuf, cast_cast, cast_eq]
  try rfl

theorem r9_v47 : after hostOps1_4 W (Proc.devRef .tc main_v47) = deqR (F := F) (W (Proc.devRef .tc main_v31)) (oddR (F := F) (W (Proc.devRef .tc main_arg4))) := by
  after_results_simp
  try rfl

theorem r9_v48 : after hostOps1_4 W (Proc.devRef .tc main_v48) = dotR (F := F) (W (Proc.devRef .tc main_v16)) (deqR (F := F) (W (Proc.devRef .tc main_v26)) (evenR (F := F) (W (Proc.devRef .tc main_arg4)))) := by
  after_results_simp
  try rfl

theorem r9_v49 : after hostOps1_4 W (Proc.devRef .tc main_v49) = maskR (W (Proc.devRef .tc main_v12)) := by
  after_results_simp
  try rfl

theorem r9_cst : after hostOps1_4 W (Proc.devRef .tc main_cst_6) = constant (F := F) S_ .f32 0x00000000#32 := by
  after_results_simp
  try rfl

theorem r10_v50 : after hostOps1_5 W (Proc.devRef .tc main_v50) = ownR (F := F) (W (Proc.devRef .tc main_v49)) (W (Proc.devRef .tc main_v48)) (W (Proc.devRef .tc main_cst_6)) := by
  after_results_simp
  simp only [TRef.toBuf, TRef.ofBuf, cast_cast, cast_eq]
  try rfl

theorem r11_v51 : after hostOps1_6 W (Proc.devRef .tc main_v51) = sumR (F := F) (W (Proc.devRef .tc main_v50)) := by
  after_results_simp
  try rfl

theorem r11_v52 : after hostOps1_6 W (Proc.devRef .tc main_v52) = dotR (F := F) (W (Proc.devRef .tc main_v16)) (W (Proc.devRef .tc main_v47)) := by
  after_results_simp
  try rfl

theorem r11_v53 : after hostOps1_6 W (Proc.devRef .tc main_v53) = maskR (W (Proc.devRef .tc main_v12)) := by
  after_results_simp
  try rfl

theorem r11_cst : after hostOps1_6 W (Proc.devRef .tc main_cst_8) = constant (F := F) S_ .f32 0x00000000#32 := by
  after_results_simp
  try rfl

theorem r12_v54 : after hostOps1_7 W (Proc.devRef .tc main_v54) = ownR (F := F) (W (Proc.devRef .tc main_v53)) (W (Proc.devRef .tc main_v52)) (W (Proc.devRef .tc main_cst_8)) := by
  after_results_simp
  simp only [TRef.toBuf, TRef.ofBuf, cast_cast, cast_eq]
  try rfl

theorem r13_v66 : after hostOps1_8 W (Proc.devRef .tc main_v66) = outR (F := F) (W (Proc.devRef .tc main_v51)) (sumR (F := F) (W (Proc.devRef .tc main_v54))) (W (Proc.devRef .tc main_v14)) := by
  after_results_simp
  try rfl

theorem keep_0_arg1 : after hostOps0 W (Proc.devRef .tc main_arg1) = W (Proc.devRef .tc main_arg1) := by
  after_results_simp
  try rfl

theorem keep_0_arg2 : after hostOps0 W (Proc.devRef .tc main_arg2) = W (Proc.devRef .tc main_arg2) := by
  after_results_simp
  try rfl

theorem keep_0_1_v1 : after hostOps0_1 W (Proc.devRef .tc main_v1) = W (Proc.devRef .tc main_v1) := by
  after_results_simp
  try rfl

theorem keep_0_1_arg1 : after hostOps0_1 W (Proc.devRef .tc main_arg1) = W (Proc.devRef .tc main_arg1) := by
  after_results_simp
  try rfl

theorem keep_0_1_arg2 : after hostOps0_1 W (Proc.devRef .tc main_arg2) = W (Proc.devRef .tc main_arg2) := by
  after_results_simp
  try rfl

theorem keep_0_2_arg2 : after hostOps0_2 W (Proc.devRef .tc main_arg2) = W (Proc.devRef .tc main_arg2) := by
  after_results_simp
  try rfl

theorem keep_0_3_v12 : after hostOps0_3 W (Proc.devRef .tc main_v12) = W (Proc.devRef .tc main_v12) := by
  after_results_simp
  try rfl

theorem keep_0_4_v12 : after hostOps0_4 W (Proc.devRef .tc main_v12) = W (Proc.devRef .tc main_v12) := by
  after_results_simp
  try rfl

theorem keep_1_arg4 : after hostOps1 W (Proc.devRef .tc main_arg4) = W (Proc.devRef .tc main_arg4) := by
  after_results_simp
  try rfl

theorem keep_1_v12 : after hostOps1 W (Proc.devRef .tc main_v12) = W (Proc.devRef .tc main_v12) := by
  after_results_simp
  try rfl

theorem keep_1_v14 : after hostOps1 W (Proc.devRef .tc main_v14) = W (Proc.devRef .tc main_v14) := by
  after_results_simp
  try rfl

theorem keep_1_v16 : after hostOps1 W (Proc.devRef .tc main_v16) = W (Proc.devRef .tc main_v16) := by
  after_results_simp
  try rfl

theorem keep_1_1_v21 : after hostOps1_1 W (Proc.devRef .tc main_v21) = W (Proc.devRef .tc main_v21) := by
  after_results_simp
  try rfl

theorem keep_1_1_arg4 : after hostOps1_1 W (Proc.devRef .tc main_arg4) = W (Proc.devRef .tc main_arg4) := by
  after_results_simp
  try rfl

theorem keep_1_1_v12 : after hostOps1_1 W (Proc.devRef .tc main_v12) = W (Proc.devRef .tc main_v12) := by
  after_results_simp
  try rfl

theorem keep_1_1_v14 : after hostOps1_1 W (Proc.devRef .tc main_v14) = W (Proc.devRef .tc main_v14) := by
  after_results_simp
  try rfl

theorem keep_1_1_v16 : after hostOps1_1 W (Proc.devRef .tc main_v16) = W (Proc.devRef .tc main_v16) := by
  after_results_simp
  try rfl

theorem keep_1_2_v21 : after hostOps1_2 W (Proc.devRef .tc main_v21) = W (Proc.devRef .tc main_v21) := by
  after_results_simp
  try rfl

theorem keep_1_2_v26 : after hostOps1_2 W (Proc.devRef .tc main_v26) = W (Proc.devRef .tc main_v26) := by
  after_results_simp
  try rfl

theorem keep_1_2_arg4 : after hostOps1_2 W (Proc.devRef .tc main_arg4) = W (Proc.devRef .tc main_arg4) := by
  after_results_simp
  try rfl

theorem keep_1_2_v12 : after hostOps1_2 W (Proc.devRef .tc main_v12) = W (Proc.devRef .tc main_v12) := by
  after_results_simp
  try rfl

theorem keep_1_2_v14 : after hostOps1_2 W (Proc.devRef .tc main_v14) = W (Proc.devRef .tc main_v14) := by
  after_results_simp
  try rfl

theorem keep_1_2_v16 : after hostOps1_2 W (Proc.devRef .tc main_v16) = W (Proc.devRef .tc main_v16) := by
  after_results_simp
  try rfl

theorem keep_1_3_v26 : after hostOps1_3 W (Proc.devRef .tc main_v26) = W (Proc.devRef .tc main_v26) := by
  after_results_simp
  try rfl

theorem keep_1_3_arg4 : after hostOps1_3 W (Proc.devRef .tc main_arg4) = W (Proc.devRef .tc main_arg4) := by
  after_results_simp
  try rfl

theorem keep_1_3_v12 : after hostOps1_3 W (Proc.devRef .tc main_v12) = W (Proc.devRef .tc main_v12) := by
  after_results_simp
  try rfl

theorem keep_1_3_v14 : after hostOps1_3 W (Proc.devRef .tc main_v14) = W (Proc.devRef .tc main_v14) := by
  after_results_simp
  try rfl

theorem keep_1_3_v16 : after hostOps1_3 W (Proc.devRef .tc main_v16) = W (Proc.devRef .tc main_v16) := by
  after_results_simp
  try rfl

theorem keep_1_4_v12 : after hostOps1_4 W (Proc.devRef .tc main_v12) = W (Proc.devRef .tc main_v12) := by
  after_results_simp
  try rfl

theorem keep_1_4_v14 : after hostOps1_4 W (Proc.devRef .tc main_v14) = W (Proc.devRef .tc main_v14) := by
  after_results_simp
  try rfl

theorem keep_1_4_v16 : after hostOps1_4 W (Proc.devRef .tc main_v16) = W (Proc.devRef .tc main_v16) := by
  after_results_simp
  try rfl

theorem keep_1_5_v12 : after hostOps1_5 W (Proc.devRef .tc main_v12) = W (Proc.devRef .tc main_v12) := by
  after_results_simp
  try rfl

theorem keep_1_5_v14 : after hostOps1_5 W (Proc.devRef .tc main_v14) = W (Proc.devRef .tc main_v14) := by
  after_results_simp
  try rfl

theorem keep_1_5_v16 : after hostOps1_5 W (Proc.devRef .tc main_v16) = W (Proc.devRef .tc main_v16) := by
  after_results_simp
  try rfl

theorem keep_1_5_v47 : after hostOps1_5 W (Proc.devRef .tc main_v47) = W (Proc.devRef .tc main_v47) := by
  after_results_simp
  try rfl

theorem keep_1_6_v14 : after hostOps1_6 W (Proc.devRef .tc main_v14) = W (Proc.devRef .tc main_v14) := by
  after_results_simp
  try rfl

theorem keep_1_7_v14 : after hostOps1_7 W (Proc.devRef .tc main_v14) = W (Proc.devRef .tc main_v14) := by
  after_results_simp
  try rfl

theorem keep_1_7_v51 : after hostOps1_7 W (Proc.devRef .tc main_v51) = W (Proc.devRef .tc main_v51) := by
  after_results_simp
  try rfl

end Stages

end Cert.ReferenceIdeal.Hand
end
-- ==== Proof.RPure.lean ====
/- The reference's host computation read element by element over the reals. -/
module

public import proofs.«01_k».proof.Proof.RDefs
public import proofs.«01_k».proof.Proof.Pay
public import Idealize.ShloMosaic.Lib.Pointwise.Reduce
public import Idealize.ShloMosaic.Lib.Pointwise.IndexBridge

@[expose] public section

set_option maxRecDepth 16384

noncomputable section

namespace Cert.ReferenceIdeal.Hand

open Cert.ReferenceIdeal Cert.ReferenceIdeal.Gen
open Idealize.ShloMosaic hiding ix0 ix1 ix2 ix3 ix4 ix5 ix6
open Idealize.ShloMosaic.ValueIdx Idealize.ShloMosaic.WordCmp Idealize.ShloMosaic.Pipeline
open Cert.KernelIdeal.Hand (nib quant wVal rowVal)

theorem bc0 {α : Type} {T : Shape} (h : S_.BroadcastsInDim T ![]) (x : S_.Idx → α) (j : T.Idx) : broadcastInDim T ![] h x j = x (fun a => a.elim0) := by
  unfold broadcastInDim; exact congrArg x (funext fun a => a.elim0)

theorem lo_at (wp : IVec S32x6144x768 8) (i : S32x6144x768.Idx) : (signR (loR wp) i).toInt = nib 0 (wp i) := by
  have h : ∀ b : Fin 256, (Scalar.select (IntOp.cmpi .sge (IntOp.andi ((BitVec.ofNat 8 b.val).setWidth 32) 15#32) 8#32)
      (IntOp.subi (IntOp.andi ((BitVec.ofNat 8 b.val).setWidth 32) 15#32) 16#32) (IntOp.andi ((BitVec.ofNat 8 b.val).setWidth 32) 15#32) : BitVec 32).toInt
      = nib 0 (BitVec.ofNat 8 b.val) := by decide +kernel
  have := h ⟨(wp i).toNat, (wp i).isLt⟩
  rw [BitVec.ofNat_toNat, BitVec.setWidth_eq] at this
  exact this

theorem hi_at (wp : IVec S32x6144x768 8) (i : S32x6144x768.Idx) : (signR (hiR wp) i).toInt = nib 1 (wp i) := by
  have h : ∀ b : Fin 256, (Scalar.select (IntOp.cmpi .sge (IntOp.shrsi .host ((BitVec.ofNat 8 b.val).setWidth 32) 4#32) 8#32)
      (IntOp.subi (IntOp.shrsi .host ((BitVec.ofNat 8 b.val).setWidth 32) 4#32) 16#32) (IntOp.shrsi .host ((BitVec.ofNat 8 b.val).setWidth 32) 4#32) : BitVec 32).toInt
      = nib 1 (BitVec.ofNat 8 b.val) := by decide +kernel
  have := h ⟨(wp i).toNat, (wp i).isLt⟩
  rw [BitVec.ofNat_toNat, BitVec.setWidth_eq] at this
  exact this

theorem deq_at (codes : IVec S32x6144x768 32) (ws : S32x48x768.Idx → EReal) (e : Fin 32) (k : Fin 6144) (n : Fin 768) :
    deqR (F := Ideal) codes ws (ix3 e k n) = (((codes (ix3 e k n)).toInt : ℝ) : EReal) * ws (ix3 e (⟨k.val / 128, by omega⟩ : Fin 48) n) := by
  unfold deqR
  rw [Idealize.ShloMosaic.shapeCast_apply _ _ _ (ix4 e (⟨k.val / 128, by omega⟩ : Fin 48) (⟨k.val % 128, by omega⟩ : Fin 128) n) (by
    rw [Shape.rowMajor_val_four, Shape.rowMajor_val_three]
    show ((e.val * 48 + k.val / 128) * 128 + k.val % 128) * 768 + n.val = (e.val * 6144 + k.val) * 768 + n.val
    omega), mulf_apply,
    Idealize.ShloMosaic.shapeCast_apply _ shapeCasts_S32x6144x768_S32x48x128x768 _ (ix3 e k n) (by
    rw [Shape.rowMajor_val_four, Shape.rowMajor_val_three]
    show (e.val * 6144 + k.val) * 768 + n.val = ((e.val * 48 + k.val / 128) * 128 + k.val % 128) * 768 + n.val
    omega),
    broadcastInDim_apply _ bcast_S32x48x1x768_S32x48x128x768_0_1_2_3 _ _ (ix4 e (⟨k.val / 128, by omega⟩ : Fin 48) (0 : Fin 1) n) (fun a => by
      match a with
      | ⟨0, _⟩ => rfl
      | ⟨1, _⟩ => rfl
      | ⟨2, _⟩ => rfl
      | ⟨3, _⟩ => rfl),
    broadcastInDim_apply _ bcast_S32x48x768_S32x48x1x768_0_1_3 _ _ (ix3 e (⟨k.val / 128, by omega⟩ : Fin 48) n) (fun a => by
      match a with
      | ⟨0, _⟩ => rfl
      | ⟨1, _⟩ => rfl
      | ⟨2, _⟩ => rfl)]
  rfl

theorem dot_at (q : S65536x6144.Idx → EReal) (w : S32x6144x768.Idx → EReal) (r : Fin 65536) (e : Fin 32) (n : Fin 768) :
    dotR (F := Ideal) q w (ix3 r e n) = ∑ k : Fin 6144, q (ix2 r k) * w (ix3 e k n) := by
  let D := dot_S65536x6144_S32x6144x768_S65536x32x768_1_1_0_02_n_n
  have hr : D.contr.rank = 1 := rfl
  have hs : D.contr.size ⟨0, by rw [hr]; omega⟩ = 6144 := rfl
  unfold dotR Host.dotGeneral
  rw [Ideal.dotGeneral_apply,  ← Equiv.sum_comp (contrEquiv1 D 6144 hr hs).symm]
  refine Finset.sum_congr rfl fun k _ => ?_
  have hk := contrEquiv1_symm_val D 6144 hr hs k
  have el : D.lhsIdx (ix3 r e n) ((contrEquiv1 D 6144 hr hs).symm k) = ix2 r k := by
    funext a; apply Fin.ext
    match a with
    | ⟨0, _⟩ => rfl
    | ⟨1, _⟩ => exact hk
  have er : D.rhsIdx (ix3 r e n) ((contrEquiv1 D 6144 hr hs).symm k) = ix3 e k n := by
    funext a; apply Fin.ext
    match a with
    | ⟨0, _⟩ => rfl
    | ⟨1, _⟩ => exact hk
    | ⟨2, _⟩ => rfl
  rw [el, er]

theorem sum_at (d : S65536x32x768.Idx → EReal) (r : Fin 65536) (n : Fin 768) :
    sumR (F := Ideal) d (ix2 r n) = ∑ e : Fin 32, d (ix3 r e n) := by
  show Ideal.hostReduceAdd _ d (Ideal.ofBits .f32 0x00000000#32) _ = _
  rw [Ideal.hostReduceAdd_r3_a1, Ideal.ofBits_zero_f32, zero_add]
  exact Finset.sum_congr rfl fun e _ => congrArg d (ix3_eq_valueIdx _ _ _)

theorem scaleR_at (p : S65536x32.Idx → EReal) (r : Fin 65536) :
    scaleR (F := Ideal) p (ix1 r) = ∑ e : Fin 32, p (ix2 r e) := by
  show Ideal.hostReduceAdd _ p (Ideal.ofBits .f32 0x00000000#32) _ = _
  rw [Ideal.hostReduceAdd_r2_a1, Ideal.ofBits_zero_f32, zero_add]
  exact Finset.sum_congr rfl fun e _ => congrArg p (ix2_eq_valueIdx _ _)

theorem own_at (mine : IVec S65536x32 1) (d : S65536x32x768.Idx → EReal) (r : Fin 65536) (e : Fin 32) (n : Fin 768) :
    ownR (F := Ideal) (maskR mine) d (constant S_ .f32 0x00000000#32) (ix3 r e n) = Scalar.select (mine (ix2 r e)) (d (ix3 r e n)) 0 := by
  unfold ownR maskR
  rw [select_at, bc0, broadcastInDim_apply _ bcast_S65536x32x1_S65536x32x768_0_1_2 _ _ (ix3 r e (0 : Fin 1)) (fun a => by
      match a with
      | ⟨0, _⟩ => rfl
      | ⟨1, _⟩ => rfl
      | ⟨2, _⟩ => rfl),
    broadcastInDim_apply _ bcast_S65536x32_S65536x32x1_0_1 _ _ (ix2 r e) (fun a => by
      match a with
      | ⟨0, _⟩ => rfl
      | ⟨1, _⟩ => rfl), constant_apply, Ideal.ofBits_zero_f32]

theorem pick_at (mine : IVec S65536x32 1) (sc : S32.Idx → EReal) (r : Fin 65536) (e : Fin 32) :
    pickR (F := Ideal) mine sc (constant S_ .f32 0x00000000#32) (ix2 r e) = Scalar.select (mine (ix2 r e)) (sc (ix1 e)) 0 := by
  unfold pickR
  rw [select_at, bc0, broadcastInDim_apply _ bcast_S32_S65536x32_1 _ _ (ix1 e) (fun a => by
      match a with
      | ⟨0, _⟩ => rfl), constant_apply, Ideal.ofBits_zero_f32]

theorem even_at (ws : S32x48x1536.Idx → EReal) (e : Fin 32) (g : Fin 48) (n : Fin 768) :
    evenR (F := Ideal) ws (ix3 e g n) = ws (ix3 e g (⟨2 * n.val, by omega⟩ : Fin 1536)) := by
  refine congrArg ws (funext fun a => Fin.ext ?_)
  match a with
  | ⟨0, _⟩ => show 0 + 1 * e.val = e.val; omega
  | ⟨1, _⟩ => show 0 + 1 * g.val = g.val; omega
  | ⟨2, _⟩ => show 0 + 2 * n.val = 2 * n.val; omega

theorem odd_at (ws : S32x48x1536.Idx → EReal) (e : Fin 32) (g : Fin 48) (n : Fin 768) :
    oddR (F := Ideal) ws (ix3 e g n) = ws (ix3 e g (⟨2 * n.val + 1, by omega⟩ : Fin 1536)) := by
  refine congrArg ws (funext fun a => Fin.ext ?_)
  match a with
  | ⟨0, _⟩ => show 0 + 1 * e.val = e.val; omega
  | ⟨1, _⟩ => show 0 + 1 * g.val = g.val; omega
  | ⟨2, _⟩ => show 1 + 2 * n.val = 2 * n.val + 1; omega

theorem scaled_at (y : S65536x768.Idx → EReal) (s : S65536.Idx → EReal) (r : Fin 65536) (n : Fin 768) (z : Fin 1) :
    scaledR (F := Ideal) y s (ix3 r n z) = y (ix2 r n) * s (ix1 r) := by
  unfold scaledR
  rw [broadcastInDim_apply _ bcast_S65536x768_S65536x768x1_0_1 _ _ (ix2 r n) (fun a => by
      match a with
      | ⟨0, _⟩ => rfl
      | ⟨1, _⟩ => rfl), mulf_apply,
    broadcastInDim_apply _ bcast_S65536x1_S65536x768_0_1 _ _ (ix2 r (0 : Fin 1)) (fun a => by
      match a with
      | ⟨0, _⟩ => rfl
      | ⟨1, _⟩ => rfl),
    broadcastInDim_apply _ bcast_S65536_S65536x1_0 _ _ (ix1 r) (fun a => by
      match a with
      | ⟨0, _⟩ => rfl)]

theorem out_at (yl yh : S65536x768.Idx → EReal) (s : S65536.Idx → EReal) (r : Fin 65536) (n : Fin 768) (p : Fin 2) :
    outR (F := Ideal) yl yh s (ix2 r (⟨2 * n.val + p.val, by omega⟩ : Fin 1536)) = (if p.val = 0 then yl (ix2 r n) else yh (ix2 r n)) * s (ix1 r) := by
  unfold outR
  rw [truncf_apply, Idealize.ShloMosaic.shapeCast_apply _ _ _ (ix3 r n p) (by
    rw [Shape.rowMajor_val_two, Shape.rowMajor_val_three]
    show (r.val * 768 + n.val) * 2 + p.val = r.val * 1536 + (2 * n.val + p.val)
    omega)]
  match p with
  | ⟨0, _⟩ =>
    rw [concatenate_apply_piece (t := S65536x768x2) 2 [⟨S65536x768x1, scaledR (F := Ideal) yl s⟩, ⟨S65536x768x1, scaledR (F := Ideal) yh s⟩] _ _ 0 (show 0 < 2 by omega) S65536x768x1 (scaledR (F := Ideal) yl s) rfl rfl 0 rfl (ix3 r n (0 : Fin 1))
      (fun b hb => by
        match b with
        | ⟨0, _⟩ => rfl
        | ⟨1, _⟩ => rfl
        | ⟨2, _⟩ => exact absurd rfl hb) rfl, scaled_at, if_pos rfl]
  | ⟨1, _⟩ =>
    rw [concatenate_apply_piece (t := S65536x768x2) 2 [⟨S65536x768x1, scaledR (F := Ideal) yl s⟩, ⟨S65536x768x1, scaledR (F := Ideal) yh s⟩] _ _ 1 (show 1 < 2 by omega) S65536x768x1 (scaledR (F := Ideal) yh s) rfl rfl 1 rfl (ix3 r n (0 : Fin 1))
      (fun b hb => by
        match b with
        | ⟨0, _⟩ => rfl
        | ⟨1, _⟩ => rfl
        | ⟨2, _⟩ => exact absurd rfl hb) rfl, scaled_at, if_neg (show ¬(1 = 0) by omega)]

end Cert.ReferenceIdeal.Hand
end
-- ==== Proof.RRun.lean ====
/- The reference's run: what the lines around its launch and the launch leave in the result, as one formula of the arguments. -/
module

public import proofs.«01_k».proof.Proof.RHost
public import proofs.«01_k».proof.Proof.RPure
public import Idealize.ShloMosaic.Lib.Pipeline.ValueKit.Geometry
public import Idealize.ShloMosaic.Lib.Pipeline.ValueKit.Basic

@[expose] public section

set_option maxRecDepth 16384

noncomputable section

namespace Cert.ReferenceIdeal.Hand

open Cert.ReferenceIdeal Cert.ReferenceIdeal.Gen
open Idealize.ShloMosaic hiding ix0 ix1 ix2 ix3 ix4 ix5 ix6
open Idealize.ShloMosaic.ValueIdx Idealize.ShloMosaic.StableHlo Idealize.SL.Sem
open Cert.KernelIdeal.Hand (quant)

section Compose

variable {F : FTy → Type} [FloatOps F] [∀ e, Nonempty (Elt F e)]
variable (W : Valuation τ sig (Elt F))

/-- Each row's scale, from the group sizes and the experts' scales. -/
def sR (gs : IVec S32 32) (sc : FVec F S32 .f32) : FVec F S65536 .f32 :=
  scaleR (pickR (mineR (cumR gs) rowsR gs) sc (constant S_ .f32 0x00000000#32))
/-- One column parity: the rows' products with their own experts' weights. -/
def yR (gs : IVec S32 32) (q : FVec F S65536x6144 .bf16) (codes : IVec S32x6144x768 32) (ws : FVec F S32x48x768 .f32) : FVec F S65536x768 .f32 :=
  sumR (ownR (maskR (mineR (cumR gs) rowsR gs)) (dotR q (deqR codes ws)) (constant S_ .f32 0x00000000#32))

/-- The lines before the launch. -/
abbrev pre (W : Valuation τ sig (Elt F)) : Valuation τ sig (Elt F) := after hostOps0_4 (after hostOps0_3 (after hostOps0_2 (after hostOps0_1 (after hostOps0 W))))
/-- The lines after it. -/
abbrev post (W : Valuation τ sig (Elt F)) : Valuation τ sig (Elt F) :=
  after hostOps1_8 (after hostOps1_7 (after hostOps1_6 (after hostOps1_5 (after hostOps1_4 (after hostOps1_3 (after hostOps1_2 (after hostOps1_1 (after hostOps1 W))))))))

theorem pre_v12 : pre W (Proc.devRef .tc main_v12) = mineR (cumR (W (Proc.devRef .tc main_arg1))) rowsR (W (Proc.devRef .tc main_arg1)) := by
  unfold pre
  rw [keep_0_4_v12, keep_0_3_v12, r2_v12, r1_v2, keep_0_1_v1, r0_v1, keep_0_1_arg1, keep_0_arg1]
theorem pre_v13 : after hostOps0_3 (after hostOps0_2 (after hostOps0_1 (after hostOps0 W))) (Proc.devRef .tc main_v13)
    = pickR (F := F) (mineR (cumR (W (Proc.devRef .tc main_arg1))) rowsR (W (Proc.devRef .tc main_arg1))) (W (Proc.devRef .tc main_arg2)) (constant S_ .f32 0x00000000#32) := by
  rw [r3_v13, r2_v12, r2_cst, keep_0_2_arg2, r1_v2, keep_0_1_v1, r0_v1, keep_0_1_arg1, keep_0_1_arg2, keep_0_arg1, keep_0_arg2]
theorem pre_v14 : pre W (Proc.devRef .tc main_v14) = sR (F := F) (W (Proc.devRef .tc main_arg1)) (W (Proc.devRef .tc main_arg2)) := by
  unfold pre
  rw [r4_v14, pre_v13]; rfl
theorem pre_v15 : pre W (Proc.devRef .tc main_v15) = broadcastInDim S65536x1 ![0] bcast_S65536_S65536x1_0 (sR (F := F) (W (Proc.devRef .tc main_arg1)) (W (Proc.devRef .tc main_arg2))) := by
  unfold pre
  rw [r4_v15, pre_v13]; rfl

theorem post_v26 : after hostOps1_1 (after hostOps1 W) (Proc.devRef .tc main_v26) = signR (loR (W (Proc.devRef .tc main_arg3))) := by
  rw [r6_v26, r5_v23, r5_v25, r5_v19]; rfl
theorem post_v31 : after hostOps1_3 (after hostOps1_2 (after hostOps1_1 (after hostOps1 W))) (Proc.devRef .tc main_v31) = signR (hiR (W (Proc.devRef .tc main_arg3))) := by
  rw [r8_v31, r7_v28, r7_v30, keep_1_2_v21, keep_1_1_v21, r5_v21]; rfl

theorem post_v66 : post W (Proc.devRef .tc main_v66)
    = outR (F := F)
        (sumR (ownR (maskR (W (Proc.devRef .tc main_v12))) (dotR (W (Proc.devRef .tc main_v16)) (deqR (signR (loR (W (Proc.devRef .tc main_arg3)))) (evenR (W (Proc.devRef .tc main_arg4))))) (constant S_ .f32 0x00000000#32)))
        (sumR (ownR (maskR (W (Proc.devRef .tc main_v12))) (dotR (W (Proc.devRef .tc main_v16)) (deqR (signR (hiR (W (Proc.devRef .tc main_arg3)))) (oddR (W (Proc.devRef .tc main_arg4))))) (constant S_ .f32 0x00000000#32)))
        (W (Proc.devRef .tc main_v14)) := by
  unfold post
  rw [r13_v66, keep_1_7_v51, r12_v54, keep_1_7_v14, r11_v51, r11_v52, r11_v53, r11_cst, keep_1_6_v14,
    r10_v50, keep_1_5_v12, keep_1_5_v14, keep_1_5_v16, keep_1_5_v47, r9_v47, r9_v48, r9_v49, r9_cst, keep_1_4_v12, keep_1_4_v14, keep_1_4_v16,
    post_v31, keep_1_3_v26, keep_1_3_arg4, keep_1_3_v12, keep_1_3_v14, keep_1_3_v16,
    keep_1_2_v26, keep_1_2_arg4, keep_1_2_v12, keep_1_2_v14, keep_1_2_v16,
    post_v26, keep_1_1_arg4, keep_1_1_v12, keep_1_1_v14, keep_1_1_v16,
    keep_1_arg4, keep_1_v12, keep_1_v14, keep_1_v16]

variable (m : (ℓ : Loc nD τ sig) → Buf (Elt F) ℓ)

theorem V0_eq (c : Dev nD) : V0 m c = pre (fun b => m (c, b)) := by
  unfold V0
  simp only [List.flatten_cons, List.flatten_nil, after_append, after_nil]

theorem tail_eq (W : Valuation τ sig (Elt F)) : after (List.flatten [hostOps1, hostOps1_1, hostOps1_2, hostOps1_3, hostOps1_4, hostOps1_5, hostOps1_6, hostOps1_7, hostOps1_8]) W = post W := by
  simp only [List.flatten_cons, List.flatten_nil, after_append, after_nil]

end Compose

section Region

variable (m : (ℓ : Loc nD τ sig) → Buf (Elt Ideal) ℓ)

theorem emb0 (t : Fin cfg0.N) (y : S65536x6144.Idx) : (((cfg0.win 0).blk t).view.emb y : S65536x6144.Idx) = y := by
  show ((cfg0.win 0).rect t).emb _ = _
  funext a
  refine Fin.ext ((Pipeline.Window.rect_emb_val (cfg0.win 0) t _ a rfl).trans ?_)
  match a with
  | ⟨0, _⟩ => show 0 * 65536 + (y 0).val = (y 0).val; omega
  | ⟨1, _⟩ => show 0 * 6144 + (y 1).val = (y 1).val; omega
theorem emb1 (t : Fin cfg0.N) (y : S65536x1.Idx) : (((cfg0.win 1).blk t).view.emb y : S65536x1.Idx) = y := by
  show ((cfg0.win 1).rect t).emb _ = _
  funext a
  refine Fin.ext ((Pipeline.Window.rect_emb_val (cfg0.win 1) t _ a rfl).trans ?_)
  match a with
  | ⟨0, _⟩ => show 0 * 65536 + (y 0).val = (y 0).val; omega
  | ⟨1, _⟩ => show 0 * 1 + (y 1).val = (y 1).val; omega
theorem emb2 (t : Fin cfg0.N) (y : S65536x6144.Idx) : (((cfg0.win 2).blk t).view.emb y : S65536x6144.Idx) = y := by
  show ((cfg0.win 2).rect t).emb _ = _
  funext a
  refine Fin.ext ((Pipeline.Window.rect_emb_val (cfg0.win 2) t _ a rfl).trans ?_)
  match a with
  | ⟨0, _⟩ => show 0 * 65536 + (y 0).val = (y 0).val; omega
  | ⟨1, _⟩ => show 0 * 6144 + (y 1).val = (y 1).val; omega

theorem iblk0 (c : Dev nD) (t : Fin cfg0.N) : (iblk m c 0 t : S65536x6144.Idx → EReal) = V m c main_arg0 := by
  funext y
  show V m c main_arg0 (((cfg0.win 0).blk t).view.emb y) = _
  rw [emb0]
theorem iblk1 (c : Dev nD) (t : Fin cfg0.N) : (iblk m c 1 t : S65536x1.Idx → EReal) = V m c main_v15 := by
  funext y
  show V m c main_v15 (((cfg0.win 1).blk t).view.emb y) = _
  rw [emb1]

theorem out_eq (x : S65536x6144.Idx → EReal) (s : S65536x1.Idx → EReal) : out0_2 (F := Ideal) x s = k0_pay1 (F := Ideal) x s := by
  unfold out0_2 r0_0 r0_1
  rw [View.canon_cons_unit_lit _ _ _ (by decide), View.ld_unit_lit _ _ (by decide), View.ld_unit_lit _ _ (by decide)]

theorem pay_at (x : S65536x6144.Idx → EReal) (s : S65536x1.Idx → EReal) (r : Fin 65536) (k : Fin 6144) :
    k0_pay1 (F := Ideal) x s (ix2 r k) = quant (x (ix2 r k)) (s (ix2 r (0 : Fin 1))) := by
  have hb : broadcastTo S65536x6144 (shapeCast S65536x1 s shapeCasts_S65536x1_S65536x1) broadcasts_S65536x1_S65536x6144 (ix2 r k) = s (ix2 r (0 : Fin 1)) := by
    show shapeCast S65536x1 s shapeCasts_S65536x1_S65536x1 (ix2 r (0 : Fin 1)) = _
    exact Idealize.ShloMosaic.shapeCast_apply _ _ _ _ rfl
  show min (Ideal.ofBits .f32 0x43E00000#32) (max (Ideal.ofBits .f32 0xC3E00000#32) (Ideal.div (x (ix2 r k))
    (broadcastTo S65536x6144 (shapeCast S65536x1 s shapeCasts_S65536x1_S65536x1) broadcasts_S65536x1_S65536x6144 (ix2 r k)))) = _
  rw [hb]; rfl

/-- What the launch leaves in its result array. -/
theorem region (c : Dev nD) : (dats m 0 c).arrAt 2 cfg0.N = (k0_pay1 (F := Ideal) (V m c main_arg0) (V m c main_v15) : S65536x6144.Idx → EReal) := by
  refine (dats m 0 c).arrAt_eq_of_covers 2 _ (by decide +kernel) fun t hf y => ?_
  have key : ∀ (y : S65536x6144.Idx), (dats m 0 c).after 2 t y = k0_pay1 (F := Ideal) (V m c main_arg0) (V m c main_v15) (((cfg0.win 2).blk t).view.emb y) := by
    intro y
    rw [after0_2, iblk0, iblk1, out_eq, emb2]
  exact key y

end Region

end Cert.ReferenceIdeal.Hand
-- ==== Proof.RMine.lean ====
/- Whose row a row is: under the precondition the reference's mask holds row `r` for expert `e` exactly when the row lies between
   the running sum before the expert and the running sum after it. -/
module

public import proofs.«01_k».proof.Proof.RDefs
public import proofs.«01_k».proof.Proof.Words

@[expose] public section

set_option maxRecDepth 16384

noncomputable section

namespace Cert.ReferenceIdeal.Hand

open Cert.ReferenceIdeal Cert.ReferenceIdeal.Gen
open Idealize.ShloMosaic Idealize.ShloMosaic.Routing Idealize.ShloMosaic.ValueIdx Idealize.ShloMosaic.WordCmp
open Cert.Plan (P)
open Cert.KernelIdeal.Hand (gN Rows ends_ap gs_ap sub_ofNat P_le')

theorem cumR_at (gs : IVec S32 32) (e : Fin 32) : cumR gs (ix1 e) = BitVec.ofNat 32 (P (gN gs) (e.val + 1)) := ends_ap gs e

theorem toCols (x : IVec S32 32) (r : Fin 65536) (e : Fin 32) :
    broadcastInDim S65536x32 ![0, 1] bcast_S1x32_S65536x32_0_1 (broadcastInDim S1x32 ![1] bcast_S32_S1x32_1 x) (ix2 r e) = x (ix1 e) := by
  rw [broadcastInDim_apply _ bcast_S1x32_S65536x32_0_1 _ _ (ix2 (0 : Fin 1) e) (fun a => by
      match a with
      | ⟨0, _⟩ => rfl
      | ⟨1, _⟩ => rfl),
    broadcastInDim_apply _ bcast_S32_S1x32_1 _ _ (ix1 e) (fun a => by
      match a with
      | ⟨0, _⟩ => rfl)]

theorem toRows (r : Fin 65536) (e : Fin 32) :
    broadcastInDim S65536x32 ![0, 1] bcast_S65536x1_S65536x32_0_1 rowsR (ix2 r e) = BitVec.ofNat 32 r.val := by
  unfold rowsR
  rw [broadcastInDim_apply _ bcast_S65536x1_S65536x32_0_1 _ _ (ix2 r (0 : Fin 1)) (fun a => by
      match a with
      | ⟨0, _⟩ => rfl
      | ⟨1, _⟩ => rfl),
    broadcastInDim_apply _ bcast_S65536_S65536x1_0 _ _ (ix1 r) (fun a => by
      match a with
      | ⟨0, _⟩ => rfl)]
  rfl

theorem mine_at (gs : IVec S32 32) (h : Rows gs) (r : Fin 65536) (e : Fin 32) :
    mineR (cumR gs) rowsR gs (ix2 r e) = BitVec.ofBool (decide (P (gN gs) e.val ≤ r.val ∧ r.val < P (gN gs) (e.val + 1))) := by
  have hsub : subi (cumR gs) gs (ix1 e) = BitVec.ofNat 32 (P (gN gs) e.val) := by
    show cumR gs (ix1 e) - gs (ix1 e) = _
    rw [cumR_at, gs_ap gs, Plan.P_succ, sub_ofNat]
  have h1 := P_le' gs h e.val (by omega)
  have h2 := P_le' gs h (e.val + 1) (by omega)
  show IntOp.andi (IntOp.cmpi .sle (broadcastInDim S65536x32 ![0, 1] bcast_S1x32_S65536x32_0_1 (broadcastInDim S1x32 ![1] bcast_S32_S1x32_1 (subi (cumR gs) gs)) (ix2 r e))
      (broadcastInDim S65536x32 ![0, 1] bcast_S65536x1_S65536x32_0_1 rowsR (ix2 r e)))
    (IntOp.cmpi .slt (broadcastInDim S65536x32 ![0, 1] bcast_S65536x1_S65536x32_0_1 rowsR (ix2 r e))
      (broadcastInDim S65536x32 ![0, 1] bcast_S1x32_S65536x32_0_1 (broadcastInDim S1x32 ![1] bcast_S32_S1x32_1 (cumR gs)) (ix2 r e))) = _
  rw [toCols, toCols, toRows, hsub, cumR_at, cmpi_sle_ofNat (w := 32) (by omega) (by omega), cmpi_slt_ofNat (w := 32) (by omega) (by omega),
    andi_ofBool, ← Bool.decide_and]

end Cert.ReferenceIdeal.Hand
end
-- ==== Proof.RAt.lean ====
/- The reference's value: the result's element at a row and a column is the row's product with its own expert's weights, the same
   expression the kernel's result is. -/
module

public import proofs.«01_k».proof.Proof.RRun
public import proofs.«01_k».proof.Proof.RMine

@[expose] public section

set_option maxRecDepth 16384

noncomputable section

namespace Cert.ReferenceIdeal.Hand

open Cert.ReferenceIdeal Cert.ReferenceIdeal.Gen
open Idealize.ShloMosaic hiding ix0 ix1 ix2 ix3 ix4 ix5 ix6
open Idealize.ShloMosaic.ValueIdx Idealize.ShloMosaic.StableHlo Idealize.SL.Sem
open Cert.KernelIdeal.Hand (quant wVal rowVal nib gN Rows)
open Cert.Plan (P)

/-- The result as a formula of the arguments. -/
def resR (x : S65536x6144.Idx → EReal) (gs : IVec S32 32) (sc : S32.Idx → EReal) (wp : S32x6144x768.Idx → BitVec 8) (ws : S32x48x1536.Idx → EReal) :
    S65536x1536.Idx → EReal :=
  let s := sR (F := Ideal) gs sc
  let q := k0_pay1 (F := Ideal) x (broadcastInDim S65536x1 ![0] bcast_S65536_S65536x1_0 s)
  outR (F := Ideal) (yR (F := Ideal) gs q (signR (loR wp)) (evenR (F := Ideal) ws)) (yR (F := Ideal) gs q (signR (hiR wp)) (oddR (F := Ideal) ws)) s

section Value

variable (gs : IVec S32 32) (h : Rows gs)
include h

/-- A row has an owner. -/
theorem owner (r : Fin 65536) : ∃ e : Fin 32, P (gN gs) e.val ≤ r.val ∧ r.val < P (gN gs) (e.val + 1) := by
  obtain ⟨e, he, h1, h2⟩ := Plan.find_row (gN gs) 32 r.val (by rw [h.tot]; exact r.isLt)
  exact ⟨⟨e, he⟩, h1, h2⟩

/-- A sum over the experts of what is kept in the owner's place alone is the owner's term. -/
theorem pick_sum (r : Fin 65536) (e : Fin 32) (h1 : P (gN gs) e.val ≤ r.val) (h2 : r.val < P (gN gs) (e.val + 1)) (f : Fin 32 → EReal) :
    ∑ e' : Fin 32, Scalar.select (mineR (cumR gs) rowsR gs (ix2 r e')) (f e') 0 = f e := by
  rw [Finset.sum_eq_single e]
  · rw [mine_at gs h, decide_eq_true ⟨h1, h2⟩]; rfl
  · intro e' _ hne
    rw [mine_at gs h, decide_eq_false (fun h' => hne (Fin.ext (Plan.own _ h'.1 h'.2 h1 h2)))]; rfl
  · exact fun hn => absurd (Finset.mem_univ e) hn

theorem s_at (sc : S32.Idx → EReal) (r : Fin 65536) (e : Fin 32) (h1 : P (gN gs) e.val ≤ r.val) (h2 : r.val < P (gN gs) (e.val + 1)) :
    sR (F := Ideal) gs sc (ix1 r) = sc (ix1 e) := by
  unfold sR
  rw [scaleR_at, ← pick_sum gs h r e h1 h2 (fun e' => sc (ix1 e'))]
  exact Finset.sum_congr rfl fun e' _ => pick_at _ _ _ _

theorem y_at (q : S65536x6144.Idx → EReal) (codes : IVec S32x6144x768 32) (ws : S32x48x768.Idx → EReal) (r : Fin 65536) (n : Fin 768) (e : Fin 32)
    (h1 : P (gN gs) e.val ≤ r.val) (h2 : r.val < P (gN gs) (e.val + 1)) :
    yR (F := Ideal) gs q codes ws (ix2 r n)
      = ∑ k : Fin 6144, q (ix2 r k) * ((((codes (ix3 e k n)).toInt : ℝ) : EReal) * ws (ix3 e (⟨k.val / 128, by omega⟩ : Fin 48) n)) := by
  unfold yR
  rw [sum_at, ← pick_sum gs h r e h1 h2 (fun e' => ∑ k : Fin 6144, q (ix2 r k) * ((((codes (ix3 e' k n)).toInt : ℝ) : EReal) * ws (ix3 e' (⟨k.val / 128, by omega⟩ : Fin 48) n)))]
  refine Finset.sum_congr rfl fun e' _ => ?_
  rw [own_at, dot_at]
  congr 1
  exact Finset.sum_congr rfl fun k _ => by rw [deq_at]

theorem q_at (x : S65536x6144.Idx → EReal) (sc : S32.Idx → EReal) (r : Fin 65536) (k : Fin 6144) (e : Fin 32)
    (h1 : P (gN gs) e.val ≤ r.val) (h2 : r.val < P (gN gs) (e.val + 1)) :
    k0_pay1 (F := Ideal) x (broadcastInDim S65536x1 ![0] bcast_S65536_S65536x1_0 (sR (F := Ideal) gs sc)) (ix2 r k) = quant (x (ix2 r k)) (sc (ix1 e)) := by
  rw [pay_at, broadcastInDim_apply _ bcast_S65536_S65536x1_0 _ _ (ix1 r) (fun a => by
      match a with
      | ⟨0, _⟩ => rfl), s_at gs h sc r e h1 h2]

/-- Every element of the reference's result. -/
theorem res_at (x : S65536x6144.Idx → EReal) (sc : S32.Idx → EReal) (wp : S32x6144x768.Idx → BitVec 8) (ws : S32x48x1536.Idx → EReal)
    (r : Fin 65536) (n : Fin 1536) (e : Fin 32) (h1 : P (gN gs) e.val ≤ r.val) (h2 : r.val < P (gN gs) (e.val + 1)) :
    resR x gs sc wp ws (ix2 r n) = rowVal x sc wp ws e r n := by
  obtain ⟨n', p, rfl⟩ : ∃ (n' : Fin 768) (p : Fin 2), n = (⟨2 * n'.val + p.val, by omega⟩ : Fin 1536) :=
    ⟨⟨n.val / 2, by omega⟩, ⟨n.val % 2, by omega⟩, Fin.ext (by show n.val = 2 * (n.val / 2) + n.val % 2; omega)⟩
  unfold resR rowVal
  rw [out_at, s_at gs h sc r e h1 h2, y_at gs h _ _ _ r n' e h1 h2, y_at gs h _ _ _ r n' e h1 h2]
  congr 1
  match p with
  | ⟨0, _⟩ =>
    rw [if_pos rfl]
    refine Finset.sum_congr rfl fun k _ => ?_
    rw [q_at gs h x sc r k e h1 h2, lo_at, even_at]
    unfold wVal
    have hm : (2 * n'.val + 0) % 2 = 0 := by omega
    have hd : (⟨(2 * n'.val + 0) / 2, by omega⟩ : Fin 768) = n' := Fin.ext (by show (2 * n'.val + 0) / 2 = n'.val; omega)
    show _ = quant _ _ * ((((nib ((2 * n'.val + 0) % 2) (wp (ix3 e k (⟨(2 * n'.val + 0) / 2, by omega⟩ : Fin 768))) : ℝ)) : EReal) * _)
    rw [hm, hd]; rfl
  | ⟨1, _⟩ =>
    rw [if_neg (show ¬(1 = 0) by omega)]
    refine Finset.sum_congr rfl fun k _ => ?_
    rw [q_at gs h x sc r k e h1 h2, hi_at, odd_at]
    unfold wVal
    have hm : (2 * n'.val + 1) % 2 = 1 := by omega
    have hd : (⟨(2 * n'.val + 1) / 2, by omega⟩ : Fin 768) = n' := Fin.ext (by show (2 * n'.val + 1) / 2 = n'.val; omega)
    show _ = quant _ _ * ((((nib ((2 * n'.val + 1) % 2) (wp (ix3 e k (⟨(2 * n'.val + 1) / 2, by omega⟩ : Fin 768))) : ℝ)) : EReal) * _)
    rw [hm, hd]

end Value

end Cert.ReferenceIdeal.Hand
-- ==== Proof.RValue.lean ====
/- The reference's run, with the value: the result is one formula of the arguments, which are unchanged. -/
module

public import proofs.«01_k».proof.Proof.RAt

@[expose] public section

set_option maxRecDepth 16384

noncomputable section

namespace Cert.ReferenceIdeal.Hand

open Cert.ReferenceIdeal Cert.ReferenceIdeal.Gen
open Idealize.ShloMosaic hiding ix0 ix1 ix2 ix3 ix4 ix5 ix6
open Idealize.ShloMosaic.ValueIdx Idealize.ShloMosaic.StableHlo Idealize.SL.Sem
open Cert.KernelIdeal.Hand (quant wVal rowVal nib gN Rows)
open Cert.Plan (P)

section Run

variable (m : (ℓ : Loc nD τ sig) → Buf (Elt Ideal) ℓ)

theorem V_v15 (c : Dev nD) : V m c main_v15 = broadcastInDim S65536x1 ![0] bcast_S65536_S65536x1_0
    (sR (F := Ideal) (m ((c.tc : Thread nD τ).loc main_arg1)) (m ((c.tc : Thread nD τ).loc main_arg2))) := by
  show V0 m c (Proc.devRef .tc main_v15) = _
  rw [V0_eq]; exact pre_v15 _

theorem tail_v66 (c : Dev nD) :
    Pipeline.afterTail₀ cfgs (dats m) 0 (V0 m) [hostOps1, hostOps1_1, hostOps1_2, hostOps1_3, hostOps1_4, hostOps1_5, hostOps1_6, hostOps1_7, hostOps1_8] c main_v66
      = resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  rw [tail_eq, post_v66]
  have hq : Pipeline.withArrays (cfgs 0).spec c (V0 m c) (fun w => (dats m 0 c).arrAt w (cfgs 0).N) (Proc.devRef .tc main_v16)
      = k0_pay1 (F := Ideal) (m ((c.tc : Thread nD τ).loc main_arg0)) (broadcastInDim S65536x1 ![0] bcast_S65536_S65536x1_0
        (sR (F := Ideal) (m ((c.tc : Thread nD τ).loc main_arg1)) (m ((c.tc : Thread nD τ).loc main_arg2)))) := by
    refine (Pipeline.withArrays_arr spec0 (by decide) c (V0 m c) (fun w => (dats m 0 c).arrAt w (cfgs 0).N) 2).trans ((region m c).trans ?_)
    rw [V_main_arg0, V_v15]
  have hk : ∀ b : Ref sig .tc, (∀ w, Pipeline.arrRef spec0 w ≠ b) →
      Pipeline.withArrays (cfgs 0).spec c (V0 m c) (fun w => (dats m 0 c).arrAt w (cfgs 0).N) (Proc.devRef .tc b) = V0 m c (Proc.devRef .tc b) :=
    fun b hb => Pipeline.withArrays_of_ne spec0 c (V0 m c) _ b hb
  have h12 : V0 m c (Proc.devRef .tc main_v12) = mineR (cumR (m ((c.tc : Thread nD τ).loc main_arg1))) rowsR (m ((c.tc : Thread nD τ).loc main_arg1)) := by
    rw [V0_eq]; exact pre_v12 _
  have h14 : V0 m c (Proc.devRef .tc main_v14) = sR (F := Ideal) (m ((c.tc : Thread nD τ).loc main_arg1)) (m ((c.tc : Thread nD τ).loc main_arg2)) := by
    rw [V0_eq]; exact pre_v14 _
  have h3 : V0 m c (Proc.devRef .tc main_arg3) = m ((c.tc : Thread nD τ).loc main_arg3) := V_main_arg3 m c
  have h4 : V0 m c (Proc.devRef .tc main_arg4) = m ((c.tc : Thread nD τ).loc main_arg4) := V_main_arg4 m c
  rw [hq, hk main_v12 (by decide), hk main_v14 (by decide), hk main_arg3 (by decide), hk main_arg4 (by decide), h12, h14, h3, h4]
  rfl

/-- The reference's run: the result is `resR` of the arguments, which are unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v66) = resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h1 : θ_run (defs (F := Ideal)) (onTc (τ := τ) (main (F := Ideal))) ⟨m, fun _ => 0, ρ⟩ (fun r => ∀ c : Dev nD,
      r.2.mem ((c.tc : Thread nD τ).loc main_v66) = resR (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) :=
    (θ_run defs _ _).mono (fun _ h c => ((h c).2 main_v66 (Pipeline.mem_restRefs_of main_v66 (by decide) (by decide))).trans (tail_v66 m c)) (run_main m ρ)
  exact (θ_run defs _ _).mono (fun _ h c => ⟨h.1 c, h.2 c⟩) (θ_run_and h1 (unchanged m ρ))

end Run

end Cert.ReferenceIdeal.Hand
-- ==== Proof.Equal.lean ====
/- The kernel and the reference end with the same result: each is, element by element, the row's product with its own expert's
   weights. -/
module

public import proofs.«01_k».proof.Defs
public import proofs.«01_k».proof.Proof.KFinal
public import proofs.«01_k».proof.Proof.RValue

@[expose] public section

set_option maxRecDepth 16384

noncomputable section

namespace Cert.KernelIdeal.Hand

open Idealize.ShloMosaic hiding ix0 ix1 ix2 ix3 ix4 ix5 ix6
open Idealize.ShloMosaic.ValueIdx Idealize.SL.Sem
open Cert.ReferenceIdeal.Hand (resR res_at owner)

/-- An array right at every element is the reference's formula. -/
theorem right_eq (gs : IVec Cert.KernelIdeal.S32 32) (h : Rows gs) (x : Cert.KernelIdeal.S65536x6144.Idx → EReal) (sc : Cert.KernelIdeal.S32.Idx → EReal)
    (wp : Cert.KernelIdeal.S32x6144x768.Idx → BitVec 8) (ws : Cert.KernelIdeal.S32x48x1536.Idx → EReal) (G : Cert.KernelIdeal.S65536x1536.Idx → EReal)
    (hG : ∀ r n, Right gs x sc wp ws r n (G (ix2 r n))) : G = resR x gs sc wp ws := by
  funext i
  obtain ⟨r, n, rfl⟩ : ∃ (r : Fin 65536) (n : Fin 1536), i = ix2 r n := ⟨i 0, i 1, by funext a; match a with | ⟨0, _⟩ => rfl | ⟨1, _⟩ => rfl⟩
  obtain ⟨e, h1, h2⟩ := owner gs h r
  exact (hG r n e h1 h2).trans (res_at gs h x sc wp ws r n e h1 h2).symm

theorem algebraic : Cert.algebraic_KernelIdeal_ReferenceIdeal := by
  intro m g m' g' hp he
  have hr : ∀ c, Rows (gsOf m c) := fun c => rows_of_pre (hp c)
  refine ⟨fun c => resR (m ((c.tc : Thread Cert.KernelIdeal.nD Cert.KernelIdeal.τ).loc Cert.KernelIdeal.main_arg0))
    (gsOf m c) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    (θ_run _ _ _).mono (fun r hv c => ⟨right_eq _ (hr c) _ _ _ _ _ (hv c).1, (hv c).2⟩) (value m g hr),
    (θ_run _ _ _).mono (fun r hv c => ⟨(hv c).1.trans ?_, (hv c).2⟩) (Cert.ReferenceIdeal.Hand.run m' g')⟩
  obtain ⟨e0, e1, e2, e3, e4⟩ := he c
  rw [e0, e1, e2, e3, e4]

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_groups_cover_rows
public import proofs.«01_k».proof.Proof.KFrame
public import proofs.«01_k».proof.Proof.BFrame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_groups_cover_rows.Gen.facts,
  fun m g hp => Cert.Kernel.Hand.frame m g fun c => Cert.Kernel.Hand.rows_of_pre (hp c),
  fun m g hp => Cert.KernelIdeal.Hand.frame m g fun c => Cert.KernelIdeal.Hand.rows_of_pre (hp c),
  fun m g _ => Cert.ReferenceIdeal.Gen.frame m g,
  fun m g _ => Cert.ReferenceIdeal.Gen.frame m g,
  trivial,
  Cert.KernelIdeal.Hand.algebraic⟩

end Cert.Proof

end
